-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_scores [hPre_finite_scores : Cert.Pre_finite_scores.Facts] (m : (ℓ : Loc Cert.GqaIdeal.nD Cert.GqaIdeal.τ Cert.GqaIdeal.sig) → Buf (Elt Ideal) ℓ) : Prop :=
  ∀ c : Dev Cert.GqaIdeal.nD,
    (Cert.Pre_finite_scores.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))).1 = (fun _ => 1#1)
    ∧ (Cert.Pre_finite_scores.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))).2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_scores [hPre_finite_scores : Cert.Pre_finite_scores.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_scores.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))).1 = (fun _ => 1#1)
    ∧ (Cert.Pre_finite_scores.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))).2 = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_maps [hPre_finite_maps : Cert.Pre_finite_maps.Facts] (m : (ℓ : Loc Cert.DiffIdeal.nD Cert.DiffIdeal.τ Cert.DiffIdeal.sig) → Buf (Elt Ideal) ℓ) : Prop :=
  ∀ c : Dev Cert.DiffIdeal.nD,
    (Cert.Pre_finite_maps.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).1 = (fun _ => 1#1)
    ∧ (Cert.Pre_finite_maps.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.1 = (fun _ => 1#1)
    ∧ (Cert.Pre_finite_maps.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.1 = (fun _ => 1#1)
    ∧ (Cert.Pre_finite_maps.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.1 = (fun _ => 1#1)
    ∧ (Cert.Pre_finite_maps.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.2.1 = (fun _ => 1#1)
    ∧ (Cert.Pre_finite_maps.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.2.2.1 = (fun _ => 1#1)
    ∧ (Cert.Pre_finite_maps.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.2.2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_maps [hPre_finite_maps : Cert.Pre_finite_maps.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_maps.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).1 = (fun _ => 1#1)
    ∧ (Cert.Pre_finite_maps.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.1 = (fun _ => 1#1)
    ∧ (Cert.Pre_finite_maps.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.1 = (fun _ => 1#1)
    ∧ (Cert.Pre_finite_maps.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.1 = (fun _ => 1#1)
    ∧ (Cert.Pre_finite_maps.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.2.1 = (fun _ => 1#1)
    ∧ (Cert.Pre_finite_maps.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.2.2.1 = (fun _ => 1#1)
    ∧ (Cert.Pre_finite_maps.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.2.2.2 = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_columns [hPre_finite_columns : Cert.Pre_finite_columns.Facts] (m : (ℓ : Loc Cert.InIdeal.nD Cert.InIdeal.τ Cert.InIdeal.sig) → Buf (Elt Ideal) ℓ) : Prop :=
  ∀ c : Dev Cert.InIdeal.nD,
    (Cert.Pre_finite_columns.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7))).1 = (fun _ => 1#1)
    ∧ (Cert.Pre_finite_columns.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7))).2.1 = (fun _ => 1#1)
    ∧ (Cert.Pre_finite_columns.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7))).2.2.1 = (fun _ => 1#1)
    ∧ (Cert.Pre_finite_columns.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7))).2.2.2.1 = (fun _ => 1#1)
    ∧ (Cert.Pre_finite_columns.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7))).2.2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_finite_columns [hPre_finite_columns : Cert.Pre_finite_columns.Facts] (m : (ℓ : Loc Cert.InRefIdeal.nD Cert.InRefIdeal.τ Cert.InRefIdeal.sig) → Buf (Elt Ideal) ℓ) : Prop :=
  ∀ c : Dev Cert.InRefIdeal.nD,
    (Cert.Pre_finite_columns.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7))).1 = (fun _ => 1#1)
    ∧ (Cert.Pre_finite_columns.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7))).2.1 = (fun _ => 1#1)
    ∧ (Cert.Pre_finite_columns.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7))).2.2.1 = (fun _ => 1#1)
    ∧ (Cert.Pre_finite_columns.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7))).2.2.2.1 = (fun _ => 1#1)
    ∧ (Cert.Pre_finite_columns.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_finite_scores [hGqaIdeal : Cert.GqaIdeal.Facts] [hPre_finite_scores : Cert.Pre_finite_scores.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_scores m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite_scores [hGqaRefIdeal : Cert.GqaRefIdeal.Facts] [hPre_finite_scores : Cert.Pre_finite_scores.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_scores m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6)
      ∧ r.2.mem ((c.tc : Thread Cert.Diff.nD Cert.Diff.τ).loc Cert.Diff.main_arg7) = m ((c.tc : Thread Cert.Diff.nD Cert.Diff.τ).loc Cert.Diff.main_arg7))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffIdeal_pre_finite_maps [hDiffIdeal : Cert.DiffIdeal.Facts] [hPre_finite_maps : Cert.Pre_finite_maps.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_maps m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_DiffRefIdeal_pre_finite_maps [hDiffRefIdeal : Cert.DiffRefIdeal.Facts] [hPre_finite_maps : Cert.Pre_finite_maps.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_maps m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7))
      ∧ r.2.sem = fun _ => 0)

def quiescent_InIdeal_pre_finite_columns [hInIdeal : Cert.InIdeal.Facts] [hPre_finite_columns : Cert.Pre_finite_columns.Facts] : Prop :=
  ∀ (m : (ℓ : Loc Cert.InIdeal.nD Cert.InIdeal.τ Cert.InIdeal.sig) → Buf (Elt Ideal) ℓ) (g : Dev Cert.InIdeal.nD → PrngReg), Pre_InIdeal_finite_columns m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7))
      ∧ r.2.sem = fun _ => 0)

def quiescent_InRefIdeal_pre_finite_columns [hInRefIdeal : Cert.InRefIdeal.Facts] [hPre_finite_columns : Cert.Pre_finite_columns.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_columns m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Gqa_GqaIdeal : Prop :=
  True

def algebraic_GqaIdeal_GqaRefIdeal_pre_finite_scores [hGqaIdeal : Cert.GqaIdeal.Facts] [hGqaRefIdeal : Cert.GqaRefIdeal.Facts] [hPre_finite_scores : Cert.Pre_finite_scores.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_scores m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v16)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v16) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v22) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Diff_DiffIdeal : Prop :=
  True

def algebraic_DiffIdeal_DiffRefIdeal_pre_finite_maps [hDiffIdeal : Cert.DiffIdeal.Facts] [hDiffRefIdeal : Cert.DiffRefIdeal.Facts] [hPre_finite_maps : Cert.Pre_finite_maps.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_maps m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)
      ∧ m' ((c.tc : Thread Cert.DiffRefIdeal.nD Cert.DiffRefIdeal.τ).loc Cert.DiffRefIdeal.main_arg7) = m ((c.tc : Thread Cert.DiffIdeal.nD Cert.DiffIdeal.τ).loc Cert.DiffIdeal.main_arg7)) →
    ∃ (v0 : (c : Dev Cert.DiffIdeal.nD) → Buf (Elt Ideal) ((c.tc : Thread Cert.DiffIdeal.nD Cert.DiffIdeal.τ).loc Cert.DiffIdeal.main_v10)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v10) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
          ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v51) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6)
          ∧ r.2.mem ((c.tc : Thread Cert.DiffRefIdeal.nD Cert.DiffRefIdeal.τ).loc Cert.DiffRefIdeal.main_arg7) = m' ((c.tc : Thread Cert.DiffRefIdeal.nD Cert.DiffRefIdeal.τ).loc Cert.DiffRefIdeal.main_arg7))

def preserves_In_InIdeal : Prop :=
  True

def algebraic_InIdeal_InRefIdeal_pre_finite_columns [hInIdeal : Cert.InIdeal.Facts] [hInRefIdeal : Cert.InRefIdeal.Facts] [hPre_finite_columns : Cert.Pre_finite_columns.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_finite_columns m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)) →
    ∃ (v0 : (c : Dev Cert.InIdeal.nD) → Buf (Elt Ideal) ((c.tc : Thread Cert.InIdeal.nD Cert.InIdeal.τ).loc Cert.InIdeal.main_v81_0)) (v1 : (c : Dev Cert.InIdeal.nD) → Buf (Elt Ideal) ((c.tc : Thread Cert.InIdeal.nD Cert.InIdeal.τ).loc Cert.InIdeal.main_v81_1)) (v2 : (c : Dev Cert.InIdeal.nD) → Buf (Elt Ideal) ((c.tc : Thread Cert.InIdeal.nD Cert.InIdeal.τ).loc Cert.InIdeal.main_v81_2)) (v3 : (c : Dev Cert.InIdeal.nD) → Buf (Elt Ideal) ((c.tc : Thread Cert.InIdeal.nD Cert.InIdeal.τ).loc Cert.InIdeal.main_v81_3)) (v4 : (c : Dev Cert.InIdeal.nD) → Buf (Elt Ideal) ((c.tc : Thread Cert.InIdeal.nD Cert.InIdeal.τ).loc Cert.InIdeal.main_v81_4)) (v5 : (c : Dev Cert.InIdeal.nD) → Buf (Elt Ideal) ((c.tc : Thread Cert.InIdeal.nD Cert.InIdeal.τ).loc Cert.InIdeal.main_v81_5)) (v6 : (c : Dev Cert.InIdeal.nD) → Buf (Elt Ideal) ((c.tc : Thread Cert.InIdeal.nD Cert.InIdeal.τ).loc Cert.InIdeal.main_v81_6)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v81_0) = v0 c
          ∧ r.2.mem ((c.tc : Thread Cert.InIdeal.nD Cert.InIdeal.τ).loc Cert.InIdeal.main_v81_1) = v1 c
          ∧ r.2.mem ((c.tc : Thread Cert.InIdeal.nD Cert.InIdeal.τ).loc Cert.InIdeal.main_v81_2) = v2 c
          ∧ r.2.mem ((c.tc : Thread Cert.InIdeal.nD Cert.InIdeal.τ).loc Cert.InIdeal.main_v81_3) = v3 c
          ∧ r.2.mem ((c.tc : Thread Cert.InIdeal.nD Cert.InIdeal.τ).loc Cert.InIdeal.main_v81_4) = v4 c
          ∧ r.2.mem ((c.tc : Thread Cert.InIdeal.nD Cert.InIdeal.τ).loc Cert.InIdeal.main_v81_5) = v5 c
          ∧ r.2.mem ((c.tc : Thread Cert.InIdeal.nD Cert.InIdeal.τ).loc Cert.InIdeal.main_v81_6) = v6 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v27) = v0 c
          ∧ r.2.mem ((c.tc : Thread Cert.InRefIdeal.nD Cert.InRefIdeal.τ).loc Cert.InRefIdeal.main_v253) = v1 c
          ∧ r.2.mem ((c.tc : Thread Cert.InRefIdeal.nD Cert.InRefIdeal.τ).loc Cert.InRefIdeal.main_v255) = v2 c
          ∧ r.2.mem ((c.tc : Thread Cert.InRefIdeal.nD Cert.InRefIdeal.τ).loc Cert.InRefIdeal.main_v257) = v3 c
          ∧ r.2.mem ((c.tc : Thread Cert.InRefIdeal.nD Cert.InRefIdeal.τ).loc Cert.InRefIdeal.main_v258) = v4 c
          ∧ r.2.mem ((c.tc : Thread Cert.InRefIdeal.nD Cert.InRefIdeal.τ).loc Cert.InRefIdeal.main_v260) = v5 c
          ∧ r.2.mem ((c.tc : Thread Cert.InRefIdeal.nD Cert.InRefIdeal.τ).loc Cert.InRefIdeal.main_v261) = v6 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7))

def Claim : Prop :=
  ∃ (hKernel : Cert.Kernel.Facts) (hKernelIdeal : Cert.KernelIdeal.Facts) (hReferenceIdeal : Cert.ReferenceIdeal.Facts) (hGqa : Cert.Gqa.Facts) (hGqaIdeal : Cert.GqaIdeal.Facts) (hGqaRefIdeal : Cert.GqaRefIdeal.Facts) (hDiff : Cert.Diff.Facts) (hDiffIdeal : Cert.DiffIdeal.Facts) (hDiffRefIdeal : Cert.DiffRefIdeal.Facts) (hIn : Cert.In.Facts) (hInIdeal : Cert.InIdeal.Facts) (hInRefIdeal : Cert.InRefIdeal.Facts) (hPre_finite_scores : Cert.Pre_finite_scores.Facts) (hPre_finite_maps : Cert.Pre_finite_maps.Facts) (hPre_finite_columns : Cert.Pre_finite_columns.Facts),
    quiescent_Kernel (hKernel := hKernel)
    ∧ quiescent_KernelIdeal (hKernelIdeal := hKernelIdeal)
    ∧ quiescent_ReferenceIdeal (hReferenceIdeal := hReferenceIdeal)
    ∧ quiescent_Gqa (hGqa := hGqa)
    ∧ quiescent_GqaIdeal (hGqaIdeal := hGqaIdeal)
    ∧ quiescent_GqaIdeal_pre_finite_scores (hGqaIdeal := hGqaIdeal) (hPre_finite_scores := hPre_finite_scores)
    ∧ quiescent_GqaRefIdeal (hGqaRefIdeal := hGqaRefIdeal)
    ∧ quiescent_GqaRefIdeal_pre_finite_scores (hGqaRefIdeal := hGqaRefIdeal) (hPre_finite_scores := hPre_finite_scores)
    ∧ quiescent_Diff (hDiff := hDiff)
    ∧ quiescent_DiffIdeal (hDiffIdeal := hDiffIdeal)
    ∧ quiescent_DiffIdeal_pre_finite_maps (hDiffIdeal := hDiffIdeal) (hPre_finite_maps := hPre_finite_maps)
    ∧ quiescent_DiffRefIdeal (hDiffRefIdeal := hDiffRefIdeal)
    ∧ quiescent_DiffRefIdeal_pre_finite_maps (hDiffRefIdeal := hDiffRefIdeal) (hPre_finite_maps := hPre_finite_maps)
    ∧ quiescent_In (hIn := hIn)
    ∧ quiescent_InIdeal (hInIdeal := hInIdeal)
    ∧ quiescent_InIdeal_pre_finite_columns (hInIdeal := hInIdeal) (hPre_finite_columns := hPre_finite_columns)
    ∧ quiescent_InRefIdeal (hInRefIdeal := hInRefIdeal)
    ∧ quiescent_InRefIdeal_pre_finite_columns (hInRefIdeal := hInRefIdeal) (hPre_finite_columns := hPre_finite_columns)
    ∧ preserves_Kernel_KernelIdeal
    ∧ algebraic_KernelIdeal_ReferenceIdeal (hKernelIdeal := hKernelIdeal) (hReferenceIdeal := hReferenceIdeal)
    ∧ preserves_Gqa_GqaIdeal
    ∧ algebraic_GqaIdeal_GqaRefIdeal_pre_finite_scores (hGqaIdeal := hGqaIdeal) (hGqaRefIdeal := hGqaRefIdeal) (hPre_finite_scores := hPre_finite_scores)
    ∧ preserves_Diff_DiffIdeal
    ∧ algebraic_DiffIdeal_DiffRefIdeal_pre_finite_maps (hDiffIdeal := hDiffIdeal) (hDiffRefIdeal := hDiffRefIdeal) (hPre_finite_maps := hPre_finite_maps)
    ∧ preserves_In_InIdeal
    ∧ algebraic_InIdeal_InRefIdeal_pre_finite_columns (hInIdeal := hInIdeal) (hInRefIdeal := hInRefIdeal) (hPre_finite_columns := hPre_finite_columns)
-- ==== Pre_finite_columns.lean ====
abbrev S8x4096x1024 : Shape := ⟨3, ![8, 4096, 1024]⟩
abbrev S8x1x1024 : Shape := ⟨3, ![8, 1, 1024]⟩
abbrev S1024 : Shape := ⟨1, ![1024]⟩
abbrev S1024x2304 : Shape := ⟨2, ![1024, 2304]⟩
abbrev S64 : Shape := ⟨1, ![64]⟩
abbrev S512x512 : Shape := ⟨2, ![512, 512]⟩
abbrev S_ : Shape := ⟨0, ![]⟩
abbrev S8x64 : Shape := ⟨2, ![8, 64]⟩
abbrev S512 : Shape := ⟨1, ![512]⟩
abbrev S512x1 : Shape := ⟨2, ![512, 1]⟩
abbrev S1x512 : Shape := ⟨2, ![1, 512]⟩

class Facts : Prop where
  bcast_S_S8x1x1024 : S_.BroadcastsInDim S8x1x1024 (![] : Fin 0 → Fin S8x1x1024.rank)
  bcast_S_S1024 : S_.BroadcastsInDim S1024 (![] : Fin 0 → Fin S1024.rank)
  bcast_S_S1024x2304 : S_.BroadcastsInDim S1024x2304 (![] : Fin 0 → Fin S1024x2304.rank)
  bitsLt_bf16_f32 : FTy.bits .bf16 < FTy.bits .f32
  shapeCasts_S8x64_S512 : S8x64.ShapeCasts S512
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)

variable [Facts]

def fn_part1 {F : FTy → Type} [FloatOps F] (main_v2 : IVec S8x1x1024 1) (main_v5 : IVec S8x1x1024 1) (main_v8 : IVec S1024 1) (main_v11 : IVec S1024x2304 1) (main_v12 : FVec F S512x512 .f32) (main_v19 : IVec S512x512 1) : IVec S8x1x1024 1 × IVec S8x1x1024 1 × IVec S1024 1 × IVec S1024x2304 1 × IVec S512x512 1 :=
  let main_v20 : FVec F S512x512 .f32 := uitofp .f32 main_v19
  let main_v21 : IVec S512x512 1 := cmpf .oeq main_v12 main_v20
  (main_v2, main_v5, main_v8, main_v11, main_v21)

def fn {F : FTy → Type} [FloatOps F] (main_arg0 : FVec F S8x4096x1024 .f32) (main_arg1 : FVec F S8x1x1024 .f32) (main_arg2 : FVec F S8x1x1024 .f32) (main_arg3 : FVec F S1024 .f32) (main_arg4 : FVec F S1024x2304 .f32) (main_arg5 : FVec F S64 .f32) (main_arg6 : FVec F S64 .f32) (main_arg7 : FVec F S512x512 .bf16) : IVec S8x1x1024 1 × IVec S8x1x1024 1 × IVec S1024 1 × IVec S1024x2304 1 × IVec S512x512 1 :=
  let main_v0 : FVec F S8x1x1024 .f32 := Host.absf main_arg1
  let main_cst : FVec F S_ .f32 := constant S_ .f32 0x7F800000#32
  let main_v1 : FVec F S8x1x1024 .f32 := broadcastInDim S8x1x1024 ![] bcast_S_S8x1x1024 main_cst
  let main_v2 : IVec S8x1x1024 1 := cmpf .olt main_v0 main_v1
  let main_v3 : FVec F S8x1x1024 .f32 := Host.absf main_arg2
  let main_cst_0 : FVec F S_ .f32 := constant S_ .f32 0x7F800000#32
  let main_v4 : FVec F S8x1x1024 .f32 := broadcastInDim S8x1x1024 ![] bcast_S_S8x1x1024 main_cst_0
  let main_v5 : IVec S8x1x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2304 .f32 := Host.absf main_arg4
  let main_cst_2 : FVec F S_ .f32 := constant S_ .f32 0x7F800000#32
  let main_v10 : FVec F S1024x2304 .f32 := broadcastInDim S1024x2304 ![] bcast_S_S1024x2304 main_cst_2
  let main_v11 : IVec S1024x2304 1 := cmpf .olt main_v9 main_v10
  let main_v12 : FVec F S512x512 .f32 := (extf .f32 · bitsLt_bf16_f32) main_arg7
  let main_v13 : IVec S8x64 32 := iotaInDim S8x64 32 0
  let main_v14 : IVec S512 32 := shapeCast S512 main_v13 shapeCasts_S8x64_S512
  let main_v15 : IVec S512x1 32 := broadcastInDim S512x1 ![0] bcast_S512_S512x1_0 main_v14
  let main_v16 : IVec S1x512 32 := broadcastInDim S1x512 ![1] bcast_S512_S1x512_1 main_v14
  let main_v17 : IVec S512x512 32 := broadcastInDim S512x512 ![0, 1] bcast_S512x1_S512x512_0_1 main_v15
  let main_v18 : IVec S512x512 32 := broadcastInDim S512x512 ![0, 1] bcast_S1x512_S512x512_0_1 main_v16
  let main_v19 : IVec S512x512 1 := cmpi .eq main_v17 main_v18
  fn_part1 (F := F) main_v2 main_v5 main_v8 main_v11 main_v12 main_v19
-- ==== Pre_finite_maps.lean ====
abbrev S8x4096x256 : Shape := ⟨3, ![8, 4096, 256]⟩
abbrev S8x4352x256 : Shape := ⟨3, ![8, 4352, 256]⟩
abbrev S32 : Shape := ⟨1, ![32]⟩
abbrev S64 : Shape := ⟨1, ![64]⟩
abbrev S_ : Shape := ⟨0, ![]⟩

class Facts : Prop where
  bitsLt_bf16_f32 : FTy.bits .bf16 < FTy.bits .f32
  bcast_S_S8x4096x256 : S_.BroadcastsInDim S8x4096x256 (![] : Fin 0 → Fin S8x4096x256.rank)
  bcast_S_S8x4352x256 : S_.BroadcastsInDim S8x4352x256 (![] : Fin 0 → Fin S8x4352x256.rank)
  bcast_S_S32 : S_.BroadcastsInDim S32 (![] : Fin 0 → Fin S32.rank)

variable [Facts]

def fn_part1 {F : FTy → Type} [FloatOps F] (main_arg6 : FVec F S32 .f32) (main_v3 : IVec S8x4096x256 1) (main_v7 : IVec S8x4352x256 1) (main_v11 : IVec S8x4352x256 1) (main_v14 : IVec S32 1) (main_v17 : IVec S32 1) (main_v18 : FVec F S32 .f32) : IVec S8x4096x256 1 × IVec S8x4352x256 1 × IVec S8x4352x256 1 × IVec S32 1 × IVec S32 1 × IVec S32 1 × IVec S32 1 :=
  let main_cst_4 : FVec F S_ .f32 := constant S_ .f32 0x7F800000#32
  let main_v19 : FVec F S32 .f32 := broadcastInDim S32 ![] bcast_S_S32 main_cst_4
  let main_v20 : IVec S32 1 := cmpf .olt main_v18 main_v19
  let main_v21 : FVec F S32 .f32 := Host.absf main_arg6
  let main_cst_5 : FVec F S_ .f32 := constant S_ .f32 0x7F800000#32
  let main_v22 : FVec F S32 .f32 := broadcastInDim S32 ![] bcast_S_S32 main_cst_5
  let main_v23 : IVec S32 1 := cmpf .olt main_v21 main_v22
  (main_v3, main_v7, main_v11, main_v14, main_v17, main_v20, main_v23)

def fn {F : FTy → Type} [FloatOps F] (main_arg0 : FVec F S8x4096x256 .bf16) (main_arg1 : FVec F S8x4352x256 .bf16) (main_arg2 : FVec F S8x4352x256 .bf16) (main_arg3 : FVec F S32 .f32) (main_arg4 : FVec F S32 .f32) (main_arg5 : FVec F S32 .f32) (main_arg6 : FVec F S32 .f32) (main_arg7 : FVec F S64 .f32) : IVec S8x4096x256 1 × IVec S8x4352x256 1 × IVec S8x4352x256 1 × IVec S32 1 × IVec S32 1 × IVec S32 1 × IVec S32 1 :=
  let main_v0 : FVec F S8x4096x256 .f32 := (extf .f32 · bitsLt_bf16_f32) main_arg0
  let main_v1 : FVec F S8x4096x256 .f32 := Host.absf main_v0
  let main_cst : FVec F S_ .f32 := constant S_ .f32 0x7F800000#32
  let main_v2 : FVec F S8x4096x256 .f32 := broadcastInDim S8x4096x256 ![] bcast_S_S8x4096x256 main_cst
  let main_v3 : IVec S8x4096x256 1 := cmpf .olt main_v1 main_v2
  let main_v4 : FVec F S8x4352x256 .f32 := (extf .f32 · bitsLt_bf16_f32) main_arg1
  let main_v5 : FVec F S8x4352x256 .f32 := Host.absf main_v4
  let main_cst_0 : FVec F S_ .f32 := constant S_ .f32 0x7F800000#32
  let main_v6 : FVec F S8x4352x256 .f32 := broadcastInDim S8x4352x256 ![] bcast_S_S8x4352x256 main_cst_0
  let main_v7 : IVec S8x4352x256 1 := cmpf .olt main_v5 main_v6
  let main_v8 : FVec F S8x4352x256 .f32 := (extf .f32 · bitsLt_bf16_f32) main_arg2
  let main_v9 : FVec F S8x4352x256 .f32 := Host.absf main_v8
  let main_cst_1 : FVec F S_ .f32 := constant S_ .f32 0x7F800000#32
  let main_v10 : FVec F S8x4352x256 .f32 := broadcastInDim S8x4352x256 ![] bcast_S_S8x4352x256 main_cst_1
  let main_v11 : IVec S8x4352x256 1 := cmpf .olt main_v9 main_v10
  let main_v12 : FVec F S32 .f32 := Host.absf main_arg3
  let main_cst_2 : FVec F S_ .f32 := constant S_ .f32 0x7F800000#32
  let main_v13 : FVec F S32 .f32 := broadcastInDim S32 ![] bcast_S_S32 main_cst_2
  let main_v14 : IVec S32 1 := cmpf .olt main_v12 main_v13
  let main_v15 : FVec F S32 .f32 := Host.absf main_arg4
  let main_cst_3 : FVec F S_ .f32 := constant S_ .f32 0x7F800000#32
  let main_v16 : FVec F S32 .f32 := broadcastInDim S32 ![] bcast_S_S32 main_cst_3
  let main_v17 : IVec S32 1 := cmpf .olt main_v15 main_v16
  let main_v18 : FVec F S32 .f32 := Host.absf main_arg5
  fn_part1 (F := F) main_arg6 main_v3 main_v7 main_v11 main_v14 main_v17 main_v18
-- ==== Pre_finite_scores.lean ====
abbrev S8x4096x512 : Shape := ⟨3, ![8, 4096, 512]⟩
abbrev S8x4352x128 : Shape := ⟨3, ![8, 4352, 128]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  bcast_S_S8x4352x128 : S_.BroadcastsInDim S8x4352x128 (![] : Fin 0 → Fin S8x4352x128.rank)

variable [Facts]

def fn {F : FTy → Type} [FloatOps F] (main_arg0 : FVec F S8x4096x512 .bf16) (main_arg1 : FVec F S8x4352x128 .bf16) (main_arg2 : FVec F S8x4352x128 .bf16) : IVec S8x4096x512 1 × IVec S8x4352x128 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_v4 : FVec F S8x4352x128 .f32 := (extf .f32 · bitsLt_bf16_f32) main_arg1
  let main_v5 : FVec F S8x4352x128 .f32 := Host.absf main_v4
  let main_cst_0 : FVec F S_ .f32 := constant S_ .f32 0x7F800000#32
  let main_v6 : FVec F S8x4352x128 .f32 := broadcastInDim S8x4352x128 ![] bcast_S_S8x4352x128 main_cst_0
  let main_v7 : IVec S8x4352x128 1 := cmpf .olt main_v5 main_v6
  (main_v3, main_v7)
-- ==== Kernel.lean ====
abbrev S8x4096x1024 : Shape := ⟨3, ![8, 4096, 1024]⟩
abbrev S8x4096x128 : Shape := ⟨3, ![8, 4096, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S8x1x1024 : Shape := ⟨3, ![8, 1, 1024]⟩
abbrev S1024 : Shape := ⟨1, ![1024]⟩
abbrev S1x1024 : Shape := ⟨2, ![1, 1024]⟩
abbrev S32x1x2048 : Shape := ⟨3, ![32, 1, 2048]⟩
abbrev S32x1x1024 : Shape := ⟨3, ![32, 1, 1024]⟩
abbrev S1x512x1024 : Shape := ⟨3, ![1, 512, 1024]⟩
abbrev S1x512x128 : Shape := ⟨3, ![1, 512, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 20
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x128, .f32⟩
  | .hbm, ⟨2, _⟩ => ⟨S8x4096x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S8x1x1024, .f32⟩
  | .hbm, ⟨8, _⟩ => ⟨S1024, .f32⟩
  | .hbm, ⟨9, _⟩ => ⟨S1x1024, .f32⟩
  | .hbm, ⟨10, _⟩ => ⟨S32x1024x2048, .bf16⟩
  | .hbm, ⟨11, _⟩ => ⟨S32x1024x1024, .bf16⟩
  | .hbm, ⟨12, _⟩ => ⟨S32x1x2048, .f32⟩
  | .hbm, ⟨13, _⟩ => ⟨S32x1x1024, .f32⟩
  | .hbm, ⟨14, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x128, .f32⟩
  | .local _ .vmem, ⟨3, _⟩ => ⟨S1x512x128, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![8, 8, 32], ![false, false, false]⟩

def k0_cond2 (i : grid0.Coords) : BitVec 1 :=
  let arg2 : BitVec 32 := BitVec.ofNat 32 (i 2).val
  let c31_i32 : BitVec 32 := 31#32
  let v51 : BitVec 1 := Scalar.cmpi .eq arg2 c31_i32
  let v52 : BitVec 32 := Scalar.extui v51
  let c0_i32_30 : BitVec 32 := 0#32
  let v53 : BitVec 1 := Scalar.cmpi .ne v52 c0_i32_30
  v53

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S8x4096x1024 : Shape := ⟨3, ![8, 4096, 1024]⟩
abbrev S8x4096x128 : Shape := ⟨3, ![8, 4096, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S8x1x1024 : Shape := ⟨3, ![8, 1, 1024]⟩
abbrev S1024 : Shape := ⟨1, ![1024]⟩
abbrev S8x4096x32 : Shape := ⟨3, ![8, 4096, 32]⟩
abbrev S8x4096x32x2048 : Shape := ⟨4, ![8, 4096, 32, 2048]⟩
abbrev S1x1x32x2048 : Shape := ⟨4, ![1, 1, 32, 2048]⟩
abbrev S8x4096x32x1024 : Shape := ⟨4, ![8, 4096, 32, 1024]⟩
abbrev S_ : Shape := ⟨0, ![]⟩
abbrev S32x1024x8x4096 : Shape := ⟨4, ![32, 1024, 8, 4096]⟩
abbrev S1x1x32x1024 : Shape := ⟨4, ![1, 1, 32, 1024]⟩
abbrev S8x4096x32x1 : Shape := ⟨4, ![8, 4096, 32, 1]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x128, .f32⟩
  | .hbm, ⟨2, _⟩ => ⟨S8x4096x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S8x1x1024, .f32⟩
  | .hbm, ⟨8, _⟩ => ⟨S1024, .f32⟩
  | .hbm, ⟨9, _⟩ => ⟨S8x4096x1024, .f32⟩
  | .hbm, ⟨10, _⟩ => ⟨S8x4096x32, .f32⟩
  | .hbm, ⟨11, _⟩ => ⟨S8x4096x32x2048, .f32⟩
  | .hbm, ⟨12, _⟩ => ⟨S1x1x32x2048, .f32⟩
  | .hbm, ⟨13, _⟩ => ⟨S8x4096x32x2048, .f32⟩
  | .hbm, ⟨14, _⟩ => ⟨S8x4096x32x2048, .f32⟩
  | .hbm, ⟨15, _⟩ => ⟨S8x4096x32x1024, .f32⟩
  | .hbm, ⟨16, _⟩ => ⟨S_, .f32⟩
  | .hbm, ⟨17, _⟩ => ⟨S8x4096x32x1024, .f32⟩
  | .hbm, ⟨18, _⟩ => ⟨S8x4096x32x1024, .f32⟩
  | .hbm, ⟨19, _⟩ => ⟨S8x4096x32x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x4096x32x1024, .f32⟩
  | .hbm, ⟨24, _⟩ => ⟨S8x4096x32x1024, .f32⟩
  | .hbm, ⟨25, _⟩ => ⟨S_, .f32⟩
  | .hbm, ⟨26, _⟩ => ⟨S8x4096x32x1024, .f32⟩
  | .hbm, ⟨27, _⟩ => ⟨S8x4096x32x1024, .f32⟩
  | .hbm, ⟨28, _⟩ => ⟨S_, .f32⟩
  | .hbm, ⟨29, _⟩ => ⟨S8x4096x32x1024, .f32⟩
  | .hbm, ⟨30, _⟩ => ⟨S8x4096x32x1024, .f32⟩
  | .hbm, ⟨31, _⟩ => ⟨S8x4096x32x1024, .f32⟩
  | .hbm, ⟨32, _⟩ => ⟨S_, .f32⟩
  | .hbm, ⟨33, _⟩ => ⟨S8x4096x32x1024, .f32⟩
  | .hbm, ⟨34, _⟩ => ⟨S8x4096x32x1024, .f32⟩
  | .hbm, ⟨35, _⟩ => ⟨S8x4096x32x1024, .f32⟩
  | .hbm, ⟨36, _⟩ => ⟨S8x4096x32x1024, .f32⟩
  | .hbm, ⟨37, _⟩ => ⟨S_, .f32⟩
  | .hbm, ⟨38, _⟩ => ⟨S8x4096x32x1024, .f32⟩
  | .hbm, ⟨39, _⟩ => ⟨S8x4096x32x1024, .f32⟩
  | .hbm, ⟨40, _⟩ => ⟨S_, .f32⟩
  | .hbm, ⟨41, _⟩ => ⟨S8x4096x32x1024, .f32⟩
  | .hbm, ⟨42, _⟩ => ⟨S8x4096x32x1024, .f32⟩
  | .hbm, ⟨43, _⟩ => ⟨S8x4096x32x1024, .f32⟩
  | .hbm, ⟨44, _⟩ => ⟨S32x1024x8x4096, .f32⟩
  | .hbm, ⟨45, _⟩ => ⟨S8x4096x32x1024, .f32⟩
  | .hbm, ⟨46, _⟩ => ⟨S1x1x32x1024, .f32⟩
  | .hbm, ⟨47, _⟩ => ⟨S8x4096x32x1024, .f32⟩
  | .hbm, ⟨48, _⟩ => ⟨S8x4096x32x1024, .f32⟩
  | .hbm, ⟨49, _⟩ => ⟨S8x4096x32x1, .f32⟩
  | .hbm, ⟨50, _⟩ => ⟨S8x4096x32x1024, .f32⟩
  | .hbm, ⟨51, _⟩ => ⟨S8x4096x32x1024, .f32⟩
  | .hbm, ⟨52, _⟩ => ⟨S_, .f32⟩
  | .hbm, ⟨53, _⟩ => ⟨S8x4096x1024, .f32⟩
  | .hbm, ⟨54, _⟩ => ⟨S8x4096x1024, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1, .f32⟩
  | .hbm, ⟨65, _⟩ => ⟨S8x4096x1024, .f32⟩
  | .hbm, ⟨66, _⟩ => ⟨S8x4096x1024, .f32⟩
  | .hbm, ⟨67, _⟩ => ⟨S1x1x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]
-- ==== Gqa.lean ====
abbrev S8x4096x512 : Shape := ⟨3, ![8, 4096, 512]⟩
abbrev S8x4352x128 : Shape := ⟨3, ![8, 4352, 128]⟩
abbrev S8x4352x64 : Shape := ⟨3, ![8, 4352, 64]⟩
abbrev S8x128x4352 : Shape := ⟨3, ![8, 128, 4352]⟩
abbrev S8x1x128x4352 : Shape := ⟨4, ![8, 1, 128, 4352]⟩
abbrev S8x2x128x4352 : Shape := ⟨4, ![8, 2, 128, 4352]⟩
abbrev S8x1x4352x128 : Shape := ⟨4, ![8, 1, 4352, 128]⟩
abbrev S8x2x4352x128 : Shape := ⟨4, ![8, 2, 4352, 128]⟩
abbrev S1x256x256 : Shape := ⟨3, ![1, 256, 256]⟩
abbrev S1x1x128x4352 : Shape := ⟨4, ![1, 1, 128, 4352]⟩
abbrev S1x1x4352x128 : Shape := ⟨4, ![1, 1, 4352, 128]⟩
abbrev S128x4352 : Shape := ⟨2, ![128, 4352]⟩
abbrev S4352x128 : Shape := ⟨2, ![4352, 128]⟩
abbrev S256x128 : Shape := ⟨2, ![256, 128]⟩
abbrev S1x256x128 : Shape := ⟨3, ![1, 256, 128]⟩
abbrev S256x4352 : Shape := ⟨2, ![256, 4352]⟩
abbrev S256 : Shape := ⟨1, ![256]⟩
abbrev S256x1 : Shape := ⟨2, ![256, 1]⟩

abbrev nBuf : Space → Nat
  | .hbm => 20
  | .vmem => 8
  | .smem => 0
  | _ => 0

abbrev bufTy : (tb : Table) → Fin (tcTables nBuf tb) → BufTy
  | .hbm, ⟨0, _⟩ => ⟨S8x4096x512, .bf16⟩
  | .hbm, ⟨1, _⟩ => ⟨S8x4352x128, .bf16⟩
  | .hbm, ⟨2, _⟩ => ⟨S8x4352x128, .bf16⟩
  | .hbm, ⟨3, _⟩ => ⟨S8x4352x64, .bf16⟩
  | .hbm, ⟨4, _⟩ => ⟨S8x4352x128, .bf16⟩
  | .hbm, ⟨5, _⟩ => ⟨S8x128x4352, .bf16⟩
  | .hbm, ⟨6, _⟩ => ⟨S8x4352x64, .bf16⟩
  | .hbm, ⟨7, _⟩ => ⟨S8x4352x128, .bf16⟩
  | .hbm, ⟨8, _⟩ => ⟨S8x128x4352, .bf16⟩
  | .hbm, ⟨9, _⟩ => ⟨S8x1x128x4352, .bf16⟩
  | .hbm, ⟨10, _⟩ => ⟨S8x1x128x4352, .bf16⟩
  | .hbm, ⟨11, _⟩ => ⟨S8x2x128x4352, .bf16⟩
  | .hbm, ⟨12, _⟩ => ⟨S8x4352x64, .bf16⟩
  | .hbm, ⟨13, _⟩ => ⟨S8x4352x128, .bf16⟩
  | .hbm, ⟨14, _⟩ => ⟨S8x4352x64, .bf16⟩
  | .hbm, ⟨15, _⟩ => ⟨S8x4352x128, .bf16⟩
  | .hbm, ⟨16, _⟩ => ⟨S8x1x4352x128, .bf16⟩
  | .hbm, ⟨17, _⟩ => ⟨S8x1x4352x128, .bf16⟩
  | .hbm, ⟨18, _⟩ => ⟨S8x2x4352x128, .bf16⟩
  | .hbm, ⟨19, _⟩ => ⟨S8x4096x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x1x128x4352, .bf16⟩
  | .local _ .vmem, ⟨3, _⟩ => ⟨S1x1x128x4352, .bf16⟩
  | .local _ .vmem, ⟨4, _⟩ => ⟨S1x1x4352x128, .bf16⟩
  | .local _ .vmem, ⟨5, _⟩ => ⟨S1x1x4352x128, .bf16⟩
  | .local _ .vmem, ⟨6, _⟩ => ⟨S1x256x256, .bf16⟩
  | .local _ .vmem, ⟨7, _⟩ => ⟨S1x256x256, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaRefIdeal.lean ====
abbrev S8x4096x512 : Shape := ⟨3, ![8, 4096, 512]⟩
abbrev S8x4352x128 : Shape := ⟨3, ![8, 4352, 128]⟩
abbrev S8x4096x2x4x64 : Shape := ⟨5, ![8, 4096, 2, 4, 64]⟩
abbrev S8x4352x2x64 : Shape := ⟨4, ![8, 4352, 2, 64]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4352x128, .bf16⟩
  | .hbm, ⟨2, _⟩ => ⟨S8x4352x128, .bf16⟩
  | .hbm, ⟨3, _⟩ => ⟨S8x4096x512, .f32⟩
  | .hbm, ⟨4, _⟩ => ⟨S8x4096x2x4x64, .f32⟩
  | .hbm, ⟨5, _⟩ => ⟨S8x4352x128, .f32⟩
  | .hbm, ⟨6, _⟩ => ⟨S8x4352x2x64, .f32⟩
  | .hbm, ⟨7, _⟩ => ⟨S8x4352x128, .f32⟩
  | .hbm, ⟨8, _⟩ => ⟨S8x4352x2x64, .f32⟩
  | .hbm, ⟨9, _⟩ => ⟨S8x2x4352x4096x4, .f32⟩
  | .hbm, ⟨10, _⟩ => ⟨S8x2x4x4096x4352, .f32⟩
  | .hbm, ⟨11, _⟩ => ⟨S_, .f32⟩
  | .hbm, ⟨12, _⟩ => ⟨S8x2x4x4096, .f32⟩
  | .hbm, ⟨13, _⟩ => ⟨S_, .f32⟩
  | .hbm, ⟨14, _⟩ => ⟨S8x2x4x4096, .f32⟩
  | .hbm, ⟨15, _⟩ => ⟨S8x2x4x4096, .f32⟩
  | .hbm, ⟨16, _⟩ => ⟨S8x2x4x4096x1, .f32⟩
  | .hbm, ⟨17, _⟩ => ⟨S8x2x4x4096x4352, .f32⟩
  | .hbm, ⟨18, _⟩ => ⟨S8x2x4x4096x4352, .f32⟩
  | .hbm, ⟨19, _⟩ => ⟨S8x2x4x4096x4352, .f32⟩
  | .hbm, ⟨20, _⟩ => ⟨S_, .f32⟩
  | .hbm, ⟨21, _⟩ => ⟨S8x2x4x4096, .f32⟩
  | .hbm, ⟨22, _⟩ => ⟨S8x2x4x4096x1, .f32⟩
  | .hbm, ⟨23, _⟩ => ⟨S8x2x4x4096x4352, .f32⟩
  | .hbm, ⟨24, _⟩ => ⟨S8x2x4x4096x4352, .f32⟩
  | .hbm, ⟨25, _⟩ => ⟨S8x2x64x4x4096, .f32⟩
  | .hbm, ⟨26, _⟩ => ⟨S8x4096x2x4x64, .f32⟩
  | .hbm, ⟨27, _⟩ => ⟨S8x4096x512, .f32⟩
  | .hbm, ⟨28, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Diff.lean ====
abbrev S8x4096x256 : Shape := ⟨3, ![8, 4096, 256]⟩
abbrev S8x4352x256 : Shape := ⟨3, ![8, 4352, 256]⟩
abbrev S32 : Shape := ⟨1, ![32]⟩
abbrev S64 : Shape := ⟨1, ![64]⟩
abbrev S8x4352x2x128 : Shape := ⟨4, ![8, 4352, 2, 128]⟩
abbrev S8x2x128x4352 : Shape := ⟨4, ![8, 2, 128, 4352]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x32 : Shape := ⟨2, ![1, 32]⟩
abbrev S1x256x128 : Shape := ⟨3, ![1, 256, 128]⟩
abbrev S1x1x128x4352 : Shape := ⟨4, ![1, 1, 128, 4352]⟩
abbrev S1x4352x128 : Shape := ⟨3, ![1, 4352, 128]⟩
abbrev S128x4352 : Shape := ⟨2, ![128, 4352]⟩
abbrev S4352x128 : Shape := ⟨2, ![4352, 128]⟩
abbrev S1 : Shape := ⟨1, ![1]⟩
abbrev S1x1 : Shape := ⟨2, ![1, 1]⟩
abbrev S256x128 : Shape := ⟨2, ![256, 128]⟩
abbrev S256x4352 : Shape := ⟨2, ![256, 4352]⟩
abbrev S256 : Shape := ⟨1, ![256]⟩
abbrev S256x1 : Shape := ⟨2, ![256, 1]⟩

abbrev nBuf : Space → Nat
  | .hbm => 19
  | .vmem => 13
  | .smem => 0
  | _ => 0

abbrev bufTy : (tb : Table) → Fin (tcTables nBuf tb) → BufTy
  | .hbm, ⟨0, _⟩ => ⟨S8x4096x256, .bf16⟩
  | .hbm, ⟨1, _⟩ => ⟨S8x4352x256, .bf16⟩
  | .hbm, ⟨2, _⟩ => ⟨S8x4352x256, .bf16⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S8x4352x2x128, .bf16⟩
  | .hbm, ⟨9, _⟩ => ⟨S8x2x128x4352, .bf16⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S1x32, .f32⟩
  | .hbm, ⟨15, _⟩ => ⟨S1x32, .f32⟩
  | .hbm, ⟨16, _⟩ => ⟨S1x32, .f32⟩
  | .hbm, ⟨17, _⟩ => ⟨S1x32, .f32⟩
  | .hbm, ⟨18, _⟩ => ⟨S8x4096x256, .bf16⟩
  | .local _ .vmem, ⟨0, _⟩ => ⟨S1x256x128, .bf16⟩
  | .local _ .vmem, ⟨1, _⟩ => ⟨S1x256x128, .bf16⟩
  | .local _ .vmem, ⟨2, _⟩ => ⟨S1x1x128x4352, .bf16⟩
  | .local _ .vmem, ⟨3, _⟩ => ⟨S1x1x128x4352, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S1x128, .f32⟩
  | .local _ .vmem, ⟨11, _⟩ => ⟨S1x256x128, .bf16⟩
  | .local _ .vmem, ⟨12, _⟩ => ⟨S1x256x128, .bf16⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== DiffRefIdeal.lean ====
abbrev S8x4096x256 : Shape := ⟨3, ![8, 4096, 256]⟩
abbrev S8x4352x256 : Shape := ⟨3, ![8, 4352, 256]⟩
abbrev S32 : Shape := ⟨1, ![32]⟩
abbrev S64 : Shape := ⟨1, ![64]⟩
abbrev S_ : Shape := ⟨0, ![]⟩
abbrev S8x4096x4x2x32 : Shape := ⟨5, ![8, 4096, 4, 2, 32]⟩
abbrev S8x4352x4x2x32 : Shape := ⟨5, ![8, 4352, 4, 2, 32]⟩
abbrev S8x4352x4x64 : Shape := ⟨4, ![8, 4352, 4, 64]⟩
abbrev S8x2x4x4096x4352 : Shape := ⟨5, ![8, 2, 4, 4096, 4352]⟩
abbrev S8x2x4x4096 : Shape := ⟨4, ![8, 2, 4, 4096]⟩
abbrev S8x2x4x4096x1 : Shape := ⟨5, ![8, 2, 4, 4096, 1]⟩
abbrev S8x1x4x4096x4352 : Shape := ⟨5, ![8, 1, 4, 4096, 4352]⟩
abbrev S8x4x4096x4352 : Shape := ⟨4, ![8, 4, 4096, 4352]⟩
abbrev S8x4x64x4096 : Shape := ⟨4, ![8, 4, 64, 4096]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x256, .bf16⟩
  | .hbm, ⟨1, _⟩ => ⟨S8x4352x256, .bf16⟩
  | .hbm, ⟨2, _⟩ => ⟨S8x4352x256, .bf16⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S32, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x4096x256, .f32⟩
  | .hbm, ⟨20, _⟩ => ⟨S8x4096x4x2x32, .f32⟩
  | .hbm, ⟨21, _⟩ => ⟨S8x4352x256, .f32⟩
  | .hbm, ⟨22, _⟩ => ⟨S8x4352x4x2x32, .f32⟩
  | .hbm, ⟨23, _⟩ => ⟨S8x4352x256, .f32⟩
  | .hbm, ⟨24, _⟩ => ⟨S8x4352x4x64, .f32⟩
  | .hbm, ⟨25, _⟩ => ⟨S8x2x4x4096x4352, .f32⟩
  | .hbm, ⟨26, _⟩ => ⟨S_, .f32⟩
  | .hbm, ⟨27, _⟩ => ⟨S8x2x4x4096, .f32⟩
  | .hbm, ⟨28, _⟩ => ⟨S_, .f32⟩
  | .hbm, ⟨29, _⟩ => ⟨S8x2x4x4096, .f32⟩
  | .hbm, ⟨30, _⟩ => ⟨S8x2x4x4096, .f32⟩
  | .hbm, ⟨31, _⟩ => ⟨S8x2x4x4096x1, .f32⟩
  | .hbm, ⟨32, _⟩ => ⟨S8x2x4x4096x4352, .f32⟩
  | .hbm, ⟨33, _⟩ => ⟨S8x2x4x4096x4352, .f32⟩
  | .hbm, ⟨34, _⟩ => ⟨S8x2x4x4096x4352, .f32⟩
  | .hbm, ⟨35, _⟩ => ⟨S_, .f32⟩
  | .hbm, ⟨36, _⟩ => ⟨S8x2x4x4096, .f32⟩
  | .hbm, ⟨37, _⟩ => ⟨S8x2x4x4096x1, .f32⟩
  | .hbm, ⟨38, _⟩ => ⟨S8x2x4x4096x4352, .f32⟩
  | .hbm, ⟨39, _⟩ => ⟨S8x2x4x4096x4352, .f32⟩
  | .hbm, ⟨40, _⟩ => ⟨S8x1x4x4096x4352, .f32⟩
  | .hbm, ⟨41, _⟩ => ⟨S8x4x4096x4352, .f32⟩
  | .hbm, ⟨42, _⟩ => ⟨S8x1x4x4096x4352, .f32⟩
  | .hbm, ⟨43, _⟩ => ⟨S8x4x4096x4352, .f32⟩
  | .hbm, ⟨44, _⟩ => ⟨S8x4x4096x4352, .f32⟩
  | .hbm, ⟨45, _⟩ => ⟨S8x4x4096x4352, .f32⟩
  | .hbm, ⟨46, _⟩ => ⟨S8x4x4096x4352, .f32⟩
  | .hbm, ⟨47, _⟩ => ⟨S8x4x64x4096, .f32⟩
  | .hbm, ⟨48, _⟩ => ⟨S8x4096x4x64, .f32⟩
  | .hbm, ⟨49, _⟩ => ⟨S8x4096x4x64, .f32⟩
  | .hbm, ⟨50, _⟩ => ⟨S_, .f32⟩
  | .hbm, ⟨51, _⟩ => ⟨S8x4096x4, .f32⟩
  | .hbm, ⟨52, _⟩ => ⟨S8x4096x4x1, .f32⟩
  | .hbm, ⟨53, _⟩ => ⟨S_, .f32⟩
  | .hbm, ⟨54, _⟩ => ⟨S8x4096x4x1, .f32⟩
  | .hbm, ⟨55, _⟩ => ⟨S8x4096x4x1, .f32⟩
  | .hbm, ⟨56, _⟩ => ⟨S_, .f32⟩
  | .hbm, ⟨57, _⟩ => ⟨S8x4096x4x1, .f32⟩
  | .hbm, ⟨58, _⟩ => ⟨S8x4096x4x1, .f32⟩
  | .hbm, ⟨59, _⟩ => ⟨S8x4096x4x1, .f32⟩
  | .hbm, ⟨60, _⟩ => ⟨S8x4096x4x64, .f32⟩
  | .hbm, ⟨61, _⟩ => ⟨S8x4096x4x64, .f32⟩
  | .hbm, ⟨62, _⟩ => ⟨S1x1x1x64, .f32⟩
  | .hbm, ⟨63, _⟩ => ⟨S8x4096x4x64, .f32⟩
  | .hbm, ⟨64, _⟩ => ⟨S8x4096x4x64, .f32⟩
  | .hbm, ⟨65, _⟩ => ⟨S_, .f32⟩
  | .hbm, ⟨66, _⟩ => ⟨S8x4096x4x64, .f32⟩
  | .hbm, ⟨67, _⟩ => ⟨S8x4096x4x64, .f32⟩
  | .hbm, ⟨68, _⟩ => ⟨S8x4096x256, .f32⟩
  | .hbm, ⟨69, _⟩ => ⟨S8x4096x256, .bf16⟩
  | _, _ => ⟨S8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== In.lean ====
abbrev S8x4096x1024 : Shape := ⟨3, ![8, 4096, 1024]⟩
abbrev S8x1x1024 : Shape := ⟨3, ![8, 1, 1024]⟩
abbrev S1024 : Shape := ⟨1, ![1024]⟩
abbrev S1024x2304 : Shape := ⟨2, ![1024, 2304]⟩
abbrev S64 : Shape := ⟨1, ![64]⟩
abbrev S512x512 : Shape := ⟨2, ![512, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S4096 : Shape := ⟨1, ![4096]⟩
abbrev S_ : Shape := ⟨0, ![]⟩
abbrev S4096x1 : Shape := ⟨2, ![4096, 1]⟩
abbrev S16 : Shape := ⟨1, ![16]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8 : Shape := ⟨1, ![8]⟩
abbrev S1x8 : Shape := ⟨2, ![1, 8]⟩
abbrev S4096x8 : Shape := ⟨2, ![4096, 8]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S8x4096x768 : Shape := ⟨3, ![8, 4096, 768]⟩
abbrev S8x4096x512 : Shape := ⟨3, ![8, 4096, 512]⟩
abbrev S8x4096x256 : Shape := ⟨3, ![8, 4096, 256]⟩
abbrev S8x4096x128 : Shape := ⟨3, ![8, 4096, 128]⟩
abbrev S1x512x1024 : Shape := ⟨3, ![1, 512, 1024]⟩
abbrev S1x1x1024 : Shape := ⟨3, ![1, 1, 1024]⟩
abbrev S512x128 : Shape := ⟨2, ![512, 128]⟩
abbrev S1x512x768 : Shape := ⟨3, ![1, 512, 768]⟩
abbrev S1x512x512 : Shape := ⟨3, ![1, 512, 512]⟩
abbrev S1x512x256 : Shape := ⟨3, ![1, 512, 256]⟩
abbrev S1x512x128 : Shape := ⟨3, ![1, 512, 128]⟩
abbrev S512x1024 : Shape := ⟨2, ![512, 1024]⟩
abbrev S512x1 : Shape := ⟨2, ![512, 1]⟩
abbrev S512x2304 : Shape := ⟨2, ![512, 2304]⟩
abbrev S512x768 : Shape := ⟨2, ![512, 768]⟩
abbrev S512x256 : Shape := ⟨2, ![512, 256]⟩
abbrev S128x128 : Shape := ⟨2, ![128, 128]⟩

abbrev nBuf : Space → Nat
  | .hbm => 138
  | .vmem => 33
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S1024, .f32⟩
  | 4 => ⟨S1024x2304, .f32⟩
  | 5 => ⟨S64, .f32⟩
  | 6 => ⟨S64, .f32⟩
  | 7 => ⟨S512x512, .bf16⟩
  | 8 => ⟨S1x64, .f32⟩
  | 9 => ⟨S8x64, .f32⟩
  | 10 => ⟨S512, .f32⟩
  | 11 => ⟨S1x512, .f32⟩
  | 12 => ⟨S1x64, .f32⟩
  | 13 => ⟨S2x64, .f32⟩
  | 14 => ⟨S128, .f32⟩
  | 15 => ⟨S1x128, .f32⟩
  | 16 => ⟨S1x1024, .f32⟩
  | 17 => ⟨S1024x2304, .bf16⟩
  | 18 => ⟨S4096, .i32⟩
  | 19 => ⟨S_, .i32⟩
  | 20 => ⟨S_, .i32⟩
  | 21 => ⟨S4096, .i32⟩
  | 22 => ⟨S4096, .i32⟩
  | 23 => ⟨S4096, .i32⟩
  | 24 => ⟨S_, .i32⟩
  | 25 => ⟨S4096, .i32⟩
  | 26 => ⟨S4096, .i1⟩
  | 27 => ⟨S4096, .i32⟩
  | 28 => ⟨S4096, .i32⟩
  | 29 => ⟨S_, .i32⟩
  | 30 => ⟨S4096, .i32⟩
  | 31 => ⟨S4096, .i1⟩
  | 32 => ⟨S4096, .i1⟩
  | 33 => ⟨S_, .i32⟩
  | 34 => ⟨S4096, .i32⟩
  | 35 => ⟨S4096, .i32⟩
  | 36 => ⟨S4096, .i32⟩
  | 37 => ⟨S4096, .f32⟩
  | 38 => ⟨S4096x1, .f32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i1⟩
  | 53 => ⟨S_, .i32⟩
  | 54 => ⟨S_, .i1⟩
  | 55 => ⟨S4096, .i1⟩
  | 56 => ⟨S4096, .i1⟩
  | 57 => ⟨S4096, .i1⟩
  | 58 => ⟨S4096, .i32⟩
  | 59 => ⟨S4096, .i32⟩
  | 60 => ⟨S4096, .i32⟩
  | 61 => ⟨S4096, .f32⟩
  | 62 => ⟨S4096x1, .f32⟩
  | 63 => ⟨S16, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S1x16, .f32⟩
  | 72 => ⟨S4096x16, .f32⟩
  | 73 => ⟨S4096x16, .f32⟩
  | 74 => ⟨S4096x16, .f32⟩
  | 75 => ⟨S1x16, .f32⟩
  | 76 => ⟨S4096x16, .f32⟩
  | 77 => ⟨S4096x16, .f32⟩
  | 78 => ⟨S4096x16, .f32⟩
  | 79 => ⟨S4096x16, .f32⟩
  | 80 => ⟨S4096x16, .f32⟩
  | 81 => ⟨S4096x16, .f32⟩
  | 82 => ⟨S4096x16, .f32⟩
  | 83 => ⟨S4096x64, .f32⟩
  | 84 => ⟨S4096x16, .f32⟩
  | 85 => ⟨S4096x16, .f32⟩
  | 86 => ⟨S4096x16, .f32⟩
  | 87 => ⟨S4096x16, .f32⟩
  | 88 => ⟨S4096x16, .f32⟩
  | 89 => ⟨S4096x16, .f32⟩
  | 90 => ⟨S4096x64, .f32⟩
  | 91 => ⟨S1x4096x1x64, .f32⟩
  | 92 => ⟨S1x4096x2x64, .f32⟩
  | 93 => ⟨S4096x128, .f32⟩
  | 94 => ⟨S1x4096x1x64, .f32⟩
  | 95 => ⟨S1x4096x2x64, .f32⟩
  | 96 => ⟨S4096x128, .f32⟩
  | 97 => ⟨S8, .f32⟩
  | 98 => ⟨S8, .f32⟩
  | 99 => ⟨S_, .f32⟩
  | 100 => ⟨S8, .f32⟩
  | 101 => ⟨S8, .f32⟩
  | 102 => ⟨S_, .f32⟩
  | 103 => ⟨S8, .f32⟩
  | 104 => ⟨S8, .f32⟩
  | 105 => ⟨S1x8, .f32⟩
  | 106 => ⟨S4096x8, .f32⟩
  | 107 => ⟨S4096x8, .f32⟩
  | 108 => ⟨S4096x8, .f32⟩
  | 109 => ⟨S1x8, .f32⟩
  | 110 => ⟨S4096x8, .f32⟩
  | 111 => ⟨S4096x8, .f32⟩
  | 112 => ⟨S4096x8, .f32⟩
  | 113 => ⟨S4096x8, .f32⟩
  | 114 => ⟨S4096x8, .f32⟩
  | 115 => ⟨S4096x8, .f32⟩
  | 116 => ⟨S4096x8, .f32⟩
  | 117 => ⟨S4096x32, .f32⟩
  | 118 => ⟨S4096x8, .f32⟩
  | 119 => ⟨S4096x8, .f32⟩
  | 120 => ⟨S4096x8, .f32⟩
  | 121 => ⟨S4096x8, .f32⟩
  | 122 => ⟨S4096x8, .f32⟩
  | 123 => ⟨S4096x8, .f32⟩
  | 124 => ⟨S4096x32, .f32⟩
  | 125 => ⟨S1x4096x1x32, .f32⟩
  | 126 => ⟨S1x4096x4x32, .f32⟩
  | 127 => ⟨S4096x128, .f32⟩
  | _ => ⟨S8x4096x1024, .f32⟩

abbrev hbmTy0_1 (i : Nat) : BufTy := match i % 128 with
  | 0 => ⟨S1x4096x1x32, .f32⟩
  | 1 => ⟨S1x4096x4x32, .f32⟩
  | 2 => ⟨S4096x128, .f32⟩
  | 3 => ⟨S8x4096x768, .f32⟩
  | 4 => ⟨S8x4096x512, .bf16⟩
  | 5 => ⟨S8x4096x256, .bf16⟩
  | 6 => ⟨S8x4096x128, .bf16⟩
  | 7 => ⟨S8x4096x128, .bf16⟩
  | 8 => ⟨S8x4096x256, .bf16⟩
  | 9 => ⟨S8x4096x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2304, .bf16⟩
  | .local _ .vmem, ⟨8, _⟩ => ⟨S1x512, .f32⟩
  | .local _ .vmem, ⟨9, _⟩ => ⟨S1x128, .f32⟩
  | .local _ .vmem, ⟨10, _⟩ => ⟨S512x512, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S1x512x768, .f32⟩
  | .local _ .vmem, ⟨20, _⟩ => ⟨S1x512x768, .f32⟩
  | .local _ .vmem, ⟨21, _⟩ => ⟨S1x512x512, .bf16⟩
  | .local _ .vmem, ⟨22, _⟩ => ⟨S1x512x512, .bf16⟩
  | .local _ .vmem, ⟨23, _⟩ => ⟨S1x512x256, .bf16⟩
  | .local _ .vmem, ⟨24, _⟩ => ⟨S1x512x256, .bf16⟩
  | .local _ .vmem, ⟨25, _⟩ => ⟨S1x512x128, .bf16⟩
  | .local _ .vmem, ⟨26, _⟩ => ⟨S1x512x128, .bf16⟩
  | .local _ .vmem, ⟨27, _⟩ => ⟨S1x512x128, .bf16⟩
  | .local _ .vmem, ⟨28, _⟩ => ⟨S1x512x128, .bf16⟩
  | .local _ .vmem, ⟨29, _⟩ => ⟨S1x512x256, .bf16⟩
  | .local _ .vmem, ⟨30, _⟩ => ⟨S1x512x256, .bf16⟩
  | .local _ .vmem, ⟨31, _⟩ => ⟨S1x512x256, .bf16⟩
  | .local _ .vmem, ⟨32, _⟩ => ⟨S1x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_0 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_cst : Ref sig .tc := ⟨.hbm, 65, rfl⟩
abbrev main_v19 : Ref sig .tc := ⟨.hbm, 66, rfl⟩
abbrev main_v20 : Ref sig .tc := ⟨.hbm, 67, rfl⟩
abbrev main_cst_1 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_2 : Ref sig .tc := ⟨.hbm, 99, rfl⟩
abbrev main_v51 : Ref sig .tc := ⟨.hbm, 100, rfl⟩
abbrev main_v52 : Ref sig .tc := ⟨.hbm, 101, rfl⟩
abbrev main_cst_3 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81_0 : Ref sig .tc := ⟨.hbm, 131, rfl⟩
abbrev main_v81_1 : Ref sig .tc := ⟨.hbm, 132, rfl⟩
abbrev main_v81_2 : Ref sig .tc := ⟨.hbm, 133, rfl⟩
abbrev main_v81_3 : Ref sig .tc := ⟨.hbm, 134, rfl⟩
abbrev main_v81_4 : Ref sig .tc := ⟨.hbm, 135, rfl⟩
abbrev main_v81_5 : Ref sig .tc := ⟨.hbm, 136, rfl⟩
abbrev main_v81_6 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== InRefIdeal.lean ====
abbrev S8x4096x1024 : Shape := ⟨3, ![8, 4096, 1024]⟩
abbrev S8x1x1024 : Shape := ⟨3, ![8, 1, 1024]⟩
abbrev S1024 : Shape := ⟨1, ![1024]⟩
abbrev S1024x2304 : Shape := ⟨2, ![1024, 2304]⟩
abbrev S64 : Shape := ⟨1, ![64]⟩
abbrev S512x512 : Shape := ⟨2, ![512, 512]⟩
abbrev S64x64 : Shape := ⟨2, ![64, 64]⟩
abbrev S4096 : Shape := ⟨1, ![4096]⟩
abbrev S1x64 : Shape := ⟨2, ![1, 64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2304 : Shape := ⟨3, ![8, 4096, 2304]⟩
abbrev S8x4096x768 : Shape := ⟨3, ![8, 4096, 768]⟩
abbrev S8x4096x512 : Shape := ⟨3, ![8, 4096, 512]⟩
abbrev S8x4096x256 : Shape := ⟨3, ![8, 4096, 256]⟩
abbrev S8x4096x128 : Shape := ⟨3, ![8, 4096, 128]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S8 : Shape := ⟨1, ![8]⟩
abbrev S1x8 : Shape := ⟨2, ![1, 8]⟩
abbrev S4096x8 : Shape := ⟨2, ![4096, 8]⟩
abbrev S4096x1x8 : Shape := ⟨3, ![4096, 1, 8]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x8x16 : Shape := ⟨4, ![8, 4096, 8, 16]⟩
abbrev S1x4096x1x16 : Shape := ⟨4, ![1, 4096, 1, 16]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x16 : Shape := ⟨4, ![8, 4096, 2, 16]⟩
abbrev S8x4096x8x32 : Shape := ⟨4, ![8, 4096, 8, 32]⟩
abbrev S8x4096x8x8 : Shape := ⟨4, ![8, 4096, 8, 8]⟩
abbrev S1x4096x1x8 : Shape := ⟨4, ![1, 4096, 1, 8]⟩

abbrev nBuf : Space → Nat
  | .hbm => 286
  | .vmem => 0
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S1024, .f32⟩
  | 4 => ⟨S1024x2304, .f32⟩
  | 5 => ⟨S64, .f32⟩
  | 6 => ⟨S64, .f32⟩
  | 7 => ⟨S512x512, .bf16⟩
  | 8 => ⟨S64, .i32⟩
  | 9 => ⟨S64x64, .i32⟩
  | 10 => ⟨S4096, .i32⟩
  | 11 => ⟨S64, .i32⟩
  | 12 => ⟨S1x64, .i32⟩
  | 13 => ⟨S64x64, .i32⟩
  | 14 => ⟨S4096, .i32⟩
  | 15 => ⟨S8x4096x1024, .f32⟩
  | 16 => ⟨S_, .f32⟩
  | 17 => ⟨S8x4096, .f32⟩
  | 18 => ⟨S8x4096x1, .f32⟩
  | 19 => ⟨S_, .f32⟩
  | 20 => ⟨S8x4096x1, .f32⟩
  | 21 => ⟨S8x4096x1, .f32⟩
  | 22 => ⟨S_, .f32⟩
  | 23 => ⟨S8x4096x1, .f32⟩
  | 24 => ⟨S8x4096x1, .f32⟩
  | 25 => ⟨S8x4096x1, .f32⟩
  | 26 => ⟨S8x4096x1024, .f32⟩
  | 27 => ⟨S8x4096x1024, .f32⟩
  | 28 => ⟨S1x1x1024, .f32⟩
  | 29 => ⟨S8x4096x1024, .f32⟩
  | 30 => ⟨S8x4096x1024, .f32⟩
  | 31 => ⟨S_, .f32⟩
  | 32 => ⟨S8x1x1024, .f32⟩
  | 33 => ⟨S8x1x1024, .f32⟩
  | 34 => ⟨S8x4096x1024, .f32⟩
  | 35 => ⟨S8x4096x1024, .f32⟩
  | 36 => ⟨S8x4096x1024, .f32⟩
  | 37 => ⟨S8x4096x1024, .f32⟩
  | 38 => ⟨S8x4096x2304, .f32⟩
  | 39 => ⟨S8x4096x768, .f32⟩
  | 40 => ⟨S8x4096x512, .f32⟩
  | 41 => ⟨S8x4096x256, .f32⟩
  | 42 => ⟨S8x4096x128, .f32⟩
  | 43 => ⟨S8x4096x128, .f32⟩
  | 44 => ⟨S8x4096x256, .f32⟩
  | 45 => ⟨S8x4096x256, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S4096, .f32⟩
  | 55 => ⟨S4096x1, .f32⟩
  | 56 => ⟨S1x16, .f32⟩
  | 57 => ⟨S4096x16, .f32⟩
  | 58 => ⟨S4096x16, .f32⟩
  | 59 => ⟨S4096x16, .f32⟩
  | 60 => ⟨S4096, .f32⟩
  | 61 => ⟨S4096x1, .f32⟩
  | 62 => ⟨S1x16, .f32⟩
  | 63 => ⟨S4096x16, .f32⟩
  | 64 => ⟨S4096x16, .f32⟩
  | 65 => ⟨S4096x16, .f32⟩
  | 66 => ⟨S4096x16, .f32⟩
  | 67 => ⟨S4096x1x16, .f32⟩
  | 68 => ⟨S4096x16, .f32⟩
  | 69 => ⟨S4096x1x16, .f32⟩
  | 70 => ⟨S4096x16, .f32⟩
  | 71 => ⟨S4096x1x16, .f32⟩
  | 72 => ⟨S4096x16, .f32⟩
  | 73 => ⟨S4096x1x16, .f32⟩
  | 74 => ⟨S8, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S4096, .f32⟩
  | 83 => ⟨S4096x1, .f32⟩
  | 84 => ⟨S1x8, .f32⟩
  | 85 => ⟨S4096x8, .f32⟩
  | 86 => ⟨S4096x8, .f32⟩
  | 87 => ⟨S4096x8, .f32⟩
  | 88 => ⟨S4096, .f32⟩
  | 89 => ⟨S4096x1, .f32⟩
  | 90 => ⟨S1x8, .f32⟩
  | 91 => ⟨S4096x8, .f32⟩
  | 92 => ⟨S4096x8, .f32⟩
  | 93 => ⟨S4096x8, .f32⟩
  | 94 => ⟨S4096x8, .f32⟩
  | 95 => ⟨S4096x1x8, .f32⟩
  | 96 => ⟨S4096x8, .f32⟩
  | 97 => ⟨S4096x1x8, .f32⟩
  | 98 => ⟨S4096x8, .f32⟩
  | 99 => ⟨S4096x1x8, .f32⟩
  | 100 => ⟨S4096x8, .f32⟩
  | 101 => ⟨S4096x1x8, .f32⟩
  | 102 => ⟨S8x4096x8x64, .f32⟩
  | 103 => ⟨S8x4096x8x64, .f32⟩
  | 104 => ⟨S_, .f32⟩
  | 105 => ⟨S8x4096x8, .f32⟩
  | 106 => ⟨S8x4096x8x1, .f32⟩
  | 107 => ⟨S_, .f32⟩
  | 108 => ⟨S8x4096x8x1, .f32⟩
  | 109 => ⟨S8x4096x8x1, .f32⟩
  | 110 => ⟨S_, .f32⟩
  | 111 => ⟨S8x4096x8x1, .f32⟩
  | 112 => ⟨S8x4096x8x1, .f32⟩
  | 113 => ⟨S8x4096x8x1, .f32⟩
  | 114 => ⟨S8x4096x8x64, .f32⟩
  | 115 => ⟨S8x4096x8x64, .f32⟩
  | 116 => ⟨S1x1x1x64, .f32⟩
  | 117 => ⟨S8x4096x8x64, .f32⟩
  | 118 => ⟨S8x4096x8x64, .f32⟩
  | 119 => ⟨S8x4096x8x16, .f32⟩
  | 120 => ⟨S8x4096x8x16, .f32⟩
  | 121 => ⟨S8x4096x8x16, .f32⟩
  | 122 => ⟨S8x4096x8x16, .f32⟩
  | 123 => ⟨S1x4096x1x16, .f32⟩
  | 124 => ⟨S8x4096x8x16, .f32⟩
  | 125 => ⟨S8x4096x8x16, .f32⟩
  | 126 => ⟨S1x4096x1x16, .f32⟩
  | 127 => ⟨S8x4096x8x16, .f32⟩
  | _ => ⟨S8x4096x1024, .f32⟩

abbrev hbmTy0_1 (i : Nat) : BufTy := match i % 128 with
  | 0 => ⟨S8x4096x8x16, .f32⟩
  | 1 => ⟨S8x4096x8x16, .f32⟩
  | 2 => ⟨S1x4096x1x16, .f32⟩
  | 3 => ⟨S8x4096x8x16, .f32⟩
  | 4 => ⟨S8x4096x8x16, .f32⟩
  | 5 => ⟨S1x4096x1x16, .f32⟩
  | 6 => ⟨S8x4096x8x16, .f32⟩
  | 7 => ⟨S8x4096x8x16, .f32⟩
  | 8 => ⟨S8x4096x8x16, .f32⟩
  | 9 => ⟨S1x4096x1x16, .f32⟩
  | 10 => ⟨S8x4096x8x16, .f32⟩
  | 11 => ⟨S8x4096x8x16, .f32⟩
  | 12 => ⟨S1x4096x1x16, .f32⟩
  | 13 => ⟨S8x4096x8x16, .f32⟩
  | 14 => ⟨S8x4096x8x16, .f32⟩
  | 15 => ⟨S8x4096x8x16, .f32⟩
  | 16 => ⟨S1x4096x1x16, .f32⟩
  | 17 => ⟨S8x4096x8x16, .f32⟩
  | 18 => ⟨S8x4096x8x16, .f32⟩
  | 19 => ⟨S1x4096x1x16, .f32⟩
  | 20 => ⟨S8x4096x8x16, .f32⟩
  | 21 => ⟨S8x4096x8x16, .f32⟩
  | 22 => ⟨S8x4096x8x16, .f32⟩
  | 23 => ⟨S8x4096x8x64, .f32⟩
  | 24 => ⟨S_, .f32⟩
  | 25 => ⟨S8x4096x8x64, .f32⟩
  | 26 => ⟨S8x4096x8x64, .f32⟩
  | 27 => ⟨S8x4096x2x64, .f32⟩
  | 28 => ⟨S8x4096x2x64, .f32⟩
  | 29 => ⟨S_, .f32⟩
  | 30 => ⟨S8x4096x2, .f32⟩
  | 31 => ⟨S8x4096x2x1, .f32⟩
  | 32 => ⟨S_, .f32⟩
  | 33 => ⟨S8x4096x2x1, .f32⟩
  | 34 => ⟨S8x4096x2x1, .f32⟩
  | 35 => ⟨S_, .f32⟩
  | 36 => ⟨S8x4096x2x1, .f32⟩
  | 37 => ⟨S8x4096x2x1, .f32⟩
  | 38 => ⟨S8x4096x2x1, .f32⟩
  | 39 => ⟨S8x4096x2x64, .f32⟩
  | 40 => ⟨S8x4096x2x64, .f32⟩
  | 41 => ⟨S1x1x1x64, .f32⟩
  | 42 => ⟨S8x4096x2x64, .f32⟩
  | 43 => ⟨S8x4096x2x64, .f32⟩
  | 44 => ⟨S8x4096x2x16, .f32⟩
  | 45 => ⟨S8x4096x2x16, .f32⟩
  | 46 => ⟨S8x4096x2x16, .f32⟩
  | 47 => ⟨S8x4096x2x16, .f32⟩
  | 48 => ⟨S1x4096x1x16, .f32⟩
  | 49 => ⟨S8x4096x2x16, .f32⟩
  | 50 => ⟨S8x4096x2x16, .f32⟩
  | 51 => ⟨S1x4096x1x16, .f32⟩
  | 52 => ⟨S8x4096x2x16, .f32⟩
  | 53 => ⟨S8x4096x2x16, .f32⟩
  | 54 => ⟨S8x4096x2x16, .f32⟩
  | 55 => ⟨S1x4096x1x16, .f32⟩
  | 56 => ⟨S8x4096x2x16, .f32⟩
  | 57 => ⟨S8x4096x2x16, .f32⟩
  | 58 => ⟨S1x4096x1x16, .f32⟩
  | 59 => ⟨S8x4096x2x16, .f32⟩
  | 60 => ⟨S8x4096x2x16, .f32⟩
  | 61 => ⟨S8x4096x2x16, .f32⟩
  | 62 => ⟨S1x4096x1x16, .f32⟩
  | 63 => ⟨S8x4096x2x16, .f32⟩
  | 64 => ⟨S8x4096x2x16, .f32⟩
  | 65 => ⟨S1x4096x1x16, .f32⟩
  | 66 => ⟨S8x4096x2x16, .f32⟩
  | 67 => ⟨S8x4096x2x16, .f32⟩
  | 68 => ⟨S8x4096x2x16, .f32⟩
  | 69 => ⟨S1x4096x1x16, .f32⟩
  | 70 => ⟨S8x4096x2x16, .f32⟩
  | 71 => ⟨S8x4096x2x16, .f32⟩
  | 72 => ⟨S1x4096x1x16, .f32⟩
  | 73 => ⟨S8x4096x2x16, .f32⟩
  | 74 => ⟨S8x4096x2x16, .f32⟩
  | 75 => ⟨S8x4096x2x16, .f32⟩
  | 76 => ⟨S8x4096x2x64, .f32⟩
  | 77 => ⟨S8x4096x8x32, .f32⟩
  | 78 => ⟨S8x4096x8x8, .f32⟩
  | 79 => ⟨S8x4096x8x8, .f32⟩
  | 80 => ⟨S8x4096x8x8, .f32⟩
  | 81 => ⟨S8x4096x8x8, .f32⟩
  | 82 => ⟨S1x4096x1x8, .f32⟩
  | 83 => ⟨S8x4096x8x8, .f32⟩
  | 84 => ⟨S8x4096x8x8, .f32⟩
  | 85 => ⟨S1x4096x1x8, .f32⟩
  | 86 => ⟨S8x4096x8x8, .f32⟩
  | 87 => ⟨S8x4096x8x8, .f32⟩
  | 88 => ⟨S8x4096x8x8, .f32⟩
  | 89 => ⟨S1x4096x1x8, .f32⟩
  | 90 => ⟨S8x4096x8x8, .f32⟩
  | 91 => ⟨S8x4096x8x8, .f32⟩
  | 92 => ⟨S1x4096x1x8, .f32⟩
  | 93 => ⟨S8x4096x8x8, .f32⟩
  | 94 => ⟨S8x4096x8x8, .f32⟩
  | 95 => ⟨S8x4096x8x8, .f32⟩
  | 96 => ⟨S1x4096x1x8, .f32⟩
  | 97 => ⟨S8x4096x8x8, .f32⟩
  | 98 => ⟨S8x4096x8x8, .f32⟩
  | 99 => ⟨S1x4096x1x8, .f32⟩
  | 100 => ⟨S8x4096x8x8, .f32⟩
  | 101 => ⟨S8x4096x8x8, .f32⟩
  | 102 => ⟨S8x4096x8x8, .f32⟩
  | 103 => ⟨S1x4096x1x8, .f32⟩
  | 104 => ⟨S8x4096x8x8, .f32⟩
  | 105 => ⟨S8x4096x8x8, .f32⟩
  | 106 => ⟨S1x4096x1x8, .f32⟩
  | 107 => ⟨S8x4096x8x8, .f32⟩
  | 108 => ⟨S8x4096x8x8, .f32⟩
  | 109 => ⟨S8x4096x8x8, .f32⟩
  | 110 => ⟨S8x4096x8x32, .f32⟩
  | 111 => ⟨S_, .f32⟩
  | 112 => ⟨S8x4096x8x32, .f32⟩
  | 113 => ⟨S8x4096x8x32, .f32⟩
  | 114 => ⟨S8x4096x8x32, .f32⟩
  | 115 => ⟨S8x4096x8x8, .f32⟩
  | 116 => ⟨S8x4096x8x8, .f32⟩
  | 117 => ⟨S8x4096x8x8, .f32⟩
  | 118 => ⟨S8x4096x8x8, .f32⟩
  | 119 => ⟨S1x4096x1x8, .f32⟩
  | 120 => ⟨S8x4096x8x8, .f32⟩
  | 121 => ⟨S8x4096x8x8, .f32⟩
  | 122 => ⟨S1x4096x1x8, .f32⟩
  | 123 => ⟨S8x4096x8x8, .f32⟩
  | 124 => ⟨S8x4096x8x8, .f32⟩
  | 125 => ⟨S8x4096x8x8, .f32⟩
  | 126 => ⟨S1x4096x1x8, .f32⟩
  | 127 => ⟨S8x4096x8x8, .f32⟩
  | _ => ⟨S8x4096x1024, .f32⟩

abbrev hbmTy0_2 (i : Nat) : BufTy := match i % 128 with
  | 0 => ⟨S8x4096x8x8, .f32⟩
  | 1 => ⟨S1x4096x1x8, .f32⟩
  | 2 => ⟨S8x4096x8x8, .f32⟩
  | 3 => ⟨S8x4096x8x8, .f32⟩
  | 4 => ⟨S8x4096x8x8, .f32⟩
  | 5 => ⟨S1x4096x1x8, .f32⟩
  | 6 => ⟨S8x4096x8x8, .f32⟩
  | 7 => ⟨S8x4096x8x8, .f32⟩
  | 8 => ⟨S1x4096x1x8, .f32⟩
  | 9 => ⟨S8x4096x8x8, .f32⟩
  | 10 => ⟨S8x4096x8x8, .f32⟩
  | 11 => ⟨S8x4096x8x8, .f32⟩
  | 12 => ⟨S1x4096x1x8, .f32⟩
  | 13 => ⟨S8x4096x8x8, .f32⟩
  | 14 => ⟨S8x4096x8x8, .f32⟩
  | 15 => ⟨S1x4096x1x8, .f32⟩
  | 16 => ⟨S8x4096x8x8, .f32⟩
  | 17 => ⟨S8x4096x8x8, .f32⟩
  | 18 => ⟨S8x4096x8x8, .f32⟩
  | 19 => ⟨S8x4096x8x32, .f32⟩
  | 20 => ⟨S8x4096x512, .f32⟩
  | 21 => ⟨S8x4096x512, .bf16⟩
  | 22 => ⟨S8x4096x256, .f32⟩
  | 23 => ⟨S8x4096x256, .bf16⟩
  | 24 => ⟨S8x4096x128, .f32⟩
  | 25 => ⟨S8x4096x128, .bf16⟩
  | 26 => ⟨S8x4096x128, .bf16⟩
  | 27 => ⟨S8x4096x256, .f32⟩
  | 28 => ⟨S8x4096x256, .bf16⟩
  | 29 => ⟨S8x4096x256, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_5 : Ref sig .tc := ⟨.hbm, 76, rfl⟩
abbrev main_v62 : Ref sig .tc := ⟨.hbm, 77, rfl⟩
abbrev main_v63 : Ref sig .tc := ⟨.hbm, 78, rfl⟩
abbrev main_cst_6 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_7 : Ref sig .tc := ⟨.hbm, 104, rfl⟩
abbrev main_v88 : Ref sig .tc := ⟨.hbm, 105, rfl⟩
abbrev main_v89 : Ref sig .tc := ⟨.hbm, 106, rfl⟩
abbrev main_cst_8 : Ref sig .tc := ⟨.hbm, 107, rfl⟩
abbrev main_v90 : Ref sig .tc := ⟨.hbm, 108, rfl⟩
abbrev main_v91 : Ref sig .tc := ⟨.hbm, 109, rfl⟩
abbrev main_cst_9 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_cst_10 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_cst_11 : Ref sig .tc := ⟨.hbm, 157, rfl⟩
abbrev main_v137 : Ref sig .tc := ⟨.hbm, 158, rfl⟩
abbrev main_v138 : Ref sig .tc := ⟨.hbm, 159, rfl⟩
abbrev main_cst_12 : Ref sig .tc := ⟨.hbm, 160, rfl⟩
abbrev main_v139 : Ref sig .tc := ⟨.hbm, 161, rfl⟩
abbrev main_v140 : Ref sig .tc := ⟨.hbm, 162, rfl⟩
abbrev main_cst_13 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_cst_14 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩

abbrev nD : Nat := 1
abbrev τ : Topo := Topo.v7x

variable {F : FTy → Type} [FloatOps F]
-- ==== Proof.MoeBody.lean ====
/-
  The experts' kernel, one grid point at a time: what the body leaves in the carried block of sums and, at the last
  expert of a tile, in the output block, as functions of the blocks it reads.
-/
module

public import proofs.«01_k».proof.Proof.Gen.KernelIdeal.Value

@[expose] public section

set_option maxRecDepth 16384

noncomputable section

namespace Cert.KernelIdeal.Moe

open Cert.KernelIdeal Cert.KernelIdeal.Gen Idealize.ShloMosaic Idealize.ShloMosaic.TcCoe Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block of sums after one more expert: `acc` plus the expert's weighted output, a function of the tile of tokens
    `x0`, the combine weights `x1`, and the expert's two matrices and two biases. -/
def addExpert (i : grid0.Coords) (x0 : Vec F S1x512x1024 .bf16) (x1 : Vec F S1x512x128 .f32) (x3 : Vec F S1x1024x2048 .bf16)
    (x4 : Vec F S1x1x2048 .f32) (x5 : Vec F S1x1024x1024 .bf16) (x6 : Vec F S1x1x1024 .f32) (acc : Vec F S512x1024 .f32) :
    Vec F S512x1024 .f32 :=
  k0_pay1 (BitVec.ofNat 32 (i 2).val) (k0_pay4 x0 x3 x4 x5) x6 x1 acc

section
variable (c : Dev nD) (i : grid0.Coords)
  (a3 : Memref sig .tc .vmem S1x512x1024 .bf16) (h3 : a3.IsWhole) (a4 : Memref sig .tc .vmem S1x512x128 .f32) (h4 : a4.IsWhole)
  (a5 : Memref sig .tc .vmem S1x512x1024 .f32) (h5 : a5.IsWhole) (a6 : Memref sig .tc .vmem S1x1024x2048 .bf16) (h6 : a6.IsWhole)
  (a7 : Memref sig .tc .vmem S1x1x2048 .f32) (h7 : a7.IsWhole) (a8 : Memref sig .tc .vmem S1x1024x1024 .bf16) (h8 : a8.IsWhole)
  (a9 : Memref sig .tc .vmem S1x1x1024 .f32) (h9 : a9.IsWhole) (a10 : Memref sig .tc .vmem S1x1x1024 .f32) (h10 : a10.IsWhole)
  (a11 : Memref sig .tc .vmem S1x1024 .f32) (h11 : a11.IsWhole) (a12 : Memref sig .tc .vmem S1x512x1024 .f32) (h12 : a12.IsWhole)
  (a13 : Memref sig .tc .vmem S512x1024 .f32) (h13 : a13.IsWhole)
  (x0 : Vec F S1x512x1024 .bf16) (x1 : Vec F S1x512x128 .f32) (x2 : Vec F S1x512x1024 .f32) (x3 : Vec F S1x1024x2048 .bf16)
  (x4 : Vec F S1x1x2048 .f32) (x5 : Vec F S1x1024x1024 .bf16) (x6 : Vec F S1x1x1024 .f32) (x7 : Vec F S1x1x1024 .f32)
  (x8 : Vec F S1x1024 .f32) (acc : Vec F S512x1024 .f32)

/-- At a tile's first expert the block of sums is cleared, then the expert is added. -/
theorem sums_first (hc0 : cond0_0 i) (hc1 : ¬cond0_1 i) :
    sout0_A_0 c i a3 h3 a4 h4 a5 h5 a6 h6 a7 h7 a8 h8 a9 h9 a10 h10 a11 h11 a12 h12 a13 h13 hc0 hc1 x0 x1 x2 x3 x4 x5 x6 x7 x8
      = addExpert i x0 x1 x3 x4 x5 x6 k0_pay3 := by
  unfold sout0_A_0 addExpert
  rw [View.read_writes_eq_canon _ _ _ (scover0_A_0 c i a3 h3 a4 h4 a5 h5 a6 h6 a7 h7 a8 h8 a9 h9 a10 h10 a11 h11 a12 h12 a13 h13 hc0 hc1 x0 x1 x2 x3 x4 x5 x6 x7 x8)]
  unfold kernelRun0_A
  dsimp only
  sl_unfold_words
  rw [View.canon_cons_unit_zero (S := S512x1024) zeros2, View.readCov_unit_zero (S := S512x1024) _ zeros2]
  simp only [View.readAt_eq_ld, h3.read_unread, h4.read_unread, h6.read_unread, h7.read_unread, h8.read_unread, h9.read_unread,
    View.ld_unit_zero (S := S1x512x1024) zeros3, View.ld_unit_zero (S := S1x512x128) zeros3, View.ld_unit_zero (S := S1x1024x2048) zeros3,
    View.ld_unit_zero (S := S1x1x2048) zeros3, View.ld_unit_zero (S := S1x1024x1024) zeros3, View.ld_unit_zero (S := S1x1x1024) zeros3]

/-- At a middle expert the expert is added to what the point before left. -/
theorem sums_mid (hc0 : ¬cond0_0 i) (hc1 : ¬cond0_1 i) :
    sout0_B_0 c i a3 h3 a4 h4 a5 h5 a6 h6 a7 h7 a8 h8 a9 h9 a10 h10 a11 h11 a12 h12 a13 h13 hc0 hc1 x0 x1 x2 x3 x4 x5 x6 x7 x8 acc
      = addExpert i x0 x1 x3 x4 x5 x6 acc := by
  unfold sout0_B_0 addExpert
  rw [View.read_writes_eq_canon _ _ _ (scover0_B_0 c i a3 h3 a4 h4 a5 h5 a6 h6 a7 h7 a8 h8 a9 h9 a10 h10 a11 h11 a12 h12 a13 h13 hc0 hc1 x0 x1 x2 x3 x4 x5 x6 x7 x8 acc)]
  unfold kernelRun0_B
  dsimp only
  sl_unfold_words
  rw [View.canon_unit_zero (S := S512x1024) zeros2]
  simp only [View.readAt_eq_ld, h3.read_unread, h4.read_unread, h6.read_unread, h7.read_unread, h8.read_unread, h9.read_unread, h13.read_unread,
    View.ld_unit_zero (S := S1x512x1024) zeros3, View.ld_unit_zero (S := S1x512x128) zeros3, View.ld_unit_zero (S := S1x1024x2048) zeros3,
    View.ld_unit_zero (S := S1x1x2048) zeros3, View.ld_unit_zero (S := S1x1024x1024) zeros3, View.ld_unit_zero (S := S1x1x1024) zeros3,
    View.ld_unit_zero (S := S512x1024) zeros2]

/-- At a tile's last expert the output block is the gated residual of the normalized complete sum. -/
theorem out_last (hc0 : ¬cond0_0 i) (hc1 : cond0_1 i) :
    out0_C_9 c i a3 h3 a4 h4 a5 h5 a6 h6 a7 h7 a8 h8 a9 h9 a10 h10 a11 h11 a12 h12 a13 h13 hc0 hc1 x0 x1 x2 x3 x4 x5 x6 x7 x8 acc
      = k0_pay2 (addExpert i x0 x1 x3 x4 x5 x6 acc) x8 x2 x7 := by
  unfold out0_C_9 addExpert
  rw [View.read_writes_eq_canon _ _ _ (cover0_C_9 c i a3 h3 a4 h4 a5 h5 a6 h6 a7 h7 a8 h8 a9 h9 a10 h10 a11 h11 a12 h12 a13 h13 hc0 hc1 x0 x1 x2 x3 x4 x5 x6 x7 x8 acc)]
  unfold kernelRun0_C
  dsimp only
  sl_unfold_words
  rw [View.canon_unit_zero (S := S1x512x1024) zeros3, View.readCov_unit_zero (S := S512x1024) _ zeros2]
  simp only [View.readAt_eq_ld, h3.read_unread, h4.read_unread, h5.read_unread, h6.read_unread, h7.read_unread, h8.read_unread, h9.read_unread,
    h10.read_unread, h11.read_unread, h13.read_unread,
    View.ld_unit_zero (S := S1x512x1024) zeros3, View.ld_unit_zero (S := S1x512x128) zeros3, View.ld_unit_zero (S := S1x1024x2048) zeros3,
    View.ld_unit_zero (S := S1x1x2048) zeros3, View.ld_unit_zero (S := S1x1024x1024) zeros3, View.ld_unit_zero (S := S1x1x1024) zeros3,
    View.ld_unit_zero (S := S1x1024) zeros2, View.ld_unit_zero (S := S512x1024) zeros2]
end

end Cert.KernelIdeal.Moe
end
-- ==== Proof.MoeMath.lean ====
/-
  The mixture of experts over the extended reals, one token and one output feature at a time: what both programs are
  shown to compute.
-/
module

public import Idealize.ShloMosaic.Lib.Pointwise

@[expose] public section

set_option maxRecDepth 16384

noncomputable section

namespace Cert.Moe

open Idealize.ShloMosaic

/-- The gate and up projections of one token: feature `f` of the token's row times the expert's first matrix, plus the bias. -/
def hidden (x : Fin 1024 → EReal) (w : Fin 1024 → Fin 2048 → EReal) (b : Fin 2048 → EReal) (f : Fin 2048) : EReal :=
  ∑ k, x k * w k f + b f

/-- The clamped gated unit of a gate value `g` and an up value `u`: `(clip u + 1) · min g 7 · σ(1.702 · min g 7)`. -/
def unit (g u : EReal) : EReal :=
  (min (Ideal.ofBits .f32 0x40E00000#32) (max (Ideal.ofBits .f32 0xC0E00000#32) u) + 1) * min g (Ideal.ofBits .f32 0x40E00000#32)
    * Ideal.logistic (Ideal.ofBits .f32 0x3FD9DB23#32 * min g (Ideal.ofBits .f32 0x40E00000#32))

/-- One expert's output at feature `l` of one token. -/
def expert (x : Fin 1024 → EReal) (w : Fin 1024 → Fin 2048 → EReal) (b : Fin 2048 → EReal) (wd : Fin 1024 → Fin 1024 → EReal)
    (bd : Fin 1024 → EReal) (l : Fin 1024) : EReal :=
  ∑ f : Fin 1024, unit (hidden x w b ⟨f, by omega⟩) (hidden x w b ⟨1024 + f, by omega⟩) * wd f l + bd l

/-- The gated residual after the experts: `x + gate · norm(y) · g`, the norm by the root mean square of the row `y`. -/
def finish (y : Fin 1024 → EReal) (g x gate : EReal) (l : Fin 1024) : EReal :=
  x + gate * (y l * Ideal.rsqrt (Ideal.div (∑ k, y k * y k) (Ideal.ofBits .f32 0x44800000#32) + Ideal.ofBits .f32 0x358637BD#32) * g)

section
variable (h2 : FVec Ideal ⟨3, ![8, 4096, 1024]⟩ .bf16) (cmb : FVec Ideal ⟨3, ![8, 4096, 128]⟩ .f32)
  (x : FVec Ideal ⟨3, ![8, 4096, 1024]⟩ .f32) (wgu : FVec Ideal ⟨3, ![32, 1024, 2048]⟩ .f32) (bgu : FVec Ideal ⟨2, ![32, 2048]⟩ .f32)
  (wd : FVec Ideal ⟨3, ![32, 1024, 1024]⟩ .f32) (bd : FVec Ideal ⟨2, ![32, 1024]⟩ .f32) (g2 : FVec Ideal ⟨3, ![8, 1, 1024]⟩ .f32)
  (gp : FVec Ideal ⟨1, ![1024]⟩ .f32)

/-- Expert `e`'s weighted output for token `t` of sequence `b`. -/
def term (b : Fin 8) (t : Fin 4096) (e : Fin 32) (l : Fin 1024) : EReal :=
  cmb (ix3 b t ⟨e, by omega⟩) * expert (fun k => h2 (ix3 b t k)) (fun k f => wgu (ix3 e k f)) (fun f => bgu (ix2 e f))
    (fun f o => wd (ix3 e f o)) (fun o => bd (ix2 e o)) l

/-- The layer's result at token `t` of sequence `b`, feature `l`. -/
def result (b : Fin 8) (t : Fin 4096) (l : Fin 1024) : EReal :=
  finish (fun o => ∑ e : Fin 32, term h2 cmb wgu bgu wd bd b t e o) (gp (ix1 l)) (x (ix3 b t l)) (g2 (ix3 b 0 l)) l

/-- The same with each product of the second projection written the other way round, the matrix first. -/
theorem result_comm (b : Fin 8) (t : Fin 4096) (l : Fin 1024) :
    result h2 cmb x wgu bgu wd bd g2 gp b t l = finish (fun o => ∑ e : Fin 32, cmb (ix3 b t ⟨e, by omega⟩) *
      ((∑ f : Fin 1024, wd (ix3 e f o) * unit
        (hidden (fun k => h2 (ix3 b t k)) (fun k f => wgu (ix3 e k f)) (fun f => bgu (ix2 e f)) ⟨f, by omega⟩)
        (hidden (fun k => h2 (ix3 b t k)) (fun k f => wgu (ix3 e k f)) (fun f => bgu (ix2 e f)) ⟨1024 + f, by omega⟩))
        + bd (ix2 e o))) (gp (ix1 l)) (x (ix3 b t l)) (g2 (ix3 b 0 l)) l := by
  unfold result
  refine congrArg (fun y => finish y _ _ _ l) (funext fun o => Finset.sum_congr rfl fun e _ => ?_)
  unfold term expert
  exact congrArg (_ * ·) (congrArg (· + _) (Finset.sum_congr rfl fun f _ => mul_comm _ _))
end

/-- The experts' mask: of 128 lanes only the one numbered `e` is kept, so the sum is that lane's value. -/
theorem lane_sum (v : Fin 128 → EReal) (e : Fin 32) :
    (∑ x : Fin 128, Scalar.select (IntOp.cmpi .eq (BitVec.ofNat 32 x) (BitVec.ofNat 32 e)) (v x) 0) = v ⟨e, by omega⟩ := by
  rw [Finset.sum_eq_single (⟨e, by omega⟩ : Fin 128)]
  · simp [Scalar.select, IntOp.cmpi]
  · intro x _ hx
    have : ¬ BitVec.ofNat 32 x = BitVec.ofNat 32 e := by
      intro h
      have := congrArg BitVec.toNat h
      simp only [BitVec.toNat_ofNat] at this
      exact hx (Fin.ext (by simp only; omega))
    simp only [Scalar.select, IntOp.cmpi, beq_eq_false_iff_ne.mpr this]
    rfl
  · simp

end Cert.Moe
end
-- ==== Proof.MoeBlocks.lean ====
/-
  The experts' kernel: the block each input window hands the body at a grid point, as entries of the argument arrays.
  Point `t` works on sequence `t / 256`, on the tile of 512 tokens number `t / 32 mod 8`, and on expert `t mod 32`.
-/
module

public import proofs.«01_k».proof.Proof.Gen.KernelIdeal.Value
public import proofs.«01_k».proof.Proof.MoeMath

@[expose] public section

set_option maxRecDepth 16384

noncomputable section

namespace Cert.KernelIdeal.Moe

open Cert.KernelIdeal Cert.KernelIdeal.Gen Idealize.ShloMosaic Idealize.ShloMosaic.TcCoe Idealize.SL.Sem

variable (m : (ℓ : Loc nD τ sig) → Buf (Elt Ideal) ℓ) (c : Dev nD)

/-- The sequence point `t` works on. -/
def seqOf (t : Fin cfg0.N) : Fin 8 := ⟨t.val / 256, by have := lt_of_lt_of_eq t.isLt N_0; omega⟩
/-- The expert point `t` works on. -/
def expOf (t : Fin cfg0.N) : Fin 32 := ⟨t.val % 32, by omega⟩
/-- The token that row `r` of point `t`'s tile is. -/
def tokOf (t : Fin cfg0.N) (r : Fin 512) : Fin 4096 := ⟨512 * (t.val / 32 % 8) + r.val, by omega⟩

/-- The tile of the token arrays that point `t` works on. -/
theorem ix_tok : ∀ t : Fin cfg0.N,
    (win0_0.index t 0 = t.val / 256 ∧ win0_0.index t 1 = t.val / 32 % 8 ∧ win0_0.index t 2 = 0)
    ∧ (win0_1.index t 0 = t.val / 256 ∧ win0_1.index t 1 = t.val / 32 % 8 ∧ win0_1.index t 2 = 0)
    ∧ (win0_2.index t 0 = t.val / 256 ∧ win0_2.index t 1 = t.val / 32 % 8 ∧ win0_2.index t 2 = 0) :=
  (by decide +kernel : ∀ t : Fin grid0.N, _)

/-- The expert whose weights point `t` reads. -/
theorem ix_exp : ∀ t : Fin cfg0.N,
    (win0_3.index t 0 = t.val % 32 ∧ win0_3.index t 1 = 0 ∧ win0_3.index t 2 = 0)
    ∧ (win0_4.index t 0 = t.val % 32 ∧ win0_4.index t 1 = 0 ∧ win0_4.index t 2 = 0)
    ∧ (win0_5.index t 0 = t.val % 32 ∧ win0_5.index t 1 = 0 ∧ win0_5.index t 2 = 0)
    ∧ (win0_6.index t 0 = t.val % 32 ∧ win0_6.index t 1 = 0 ∧ win0_6.index t 2 = 0) :=
  (by decide +kernel : ∀ t : Fin grid0.N, _)

/-- The gate's row and the norm's weights that point `t` reads. -/
theorem ix_seq : ∀ t : Fin cfg0.N,
    (win0_7.index t 0 = t.val / 256 ∧ win0_7.index t 1 = 0 ∧ win0_7.index t 2 = 0)
    ∧ (win0_8.index t 0 = 0 ∧ win0_8.index t 1 = 0) ∧ (grid0.coords t 2).val = t.val % 32 :=
  (by decide +kernel : ∀ t : Fin grid0.N, _)

theorem blk0 (t : Fin cfg0.N) (r : Fin 512) (k : Fin 1024) :
    (iblk m c 0 t : Vec Ideal S1x512x1024 .bf16) (ix3 0 r k) = m ((c : Thread nD τ).loc main_arg0) (ix3 (seqOf t) (tokOf t r) k) := by
  obtain ⟨e0, e1, e2⟩ := (ix_tok t).1
  unfold iblk
  rw [View.read_apply]
  show V m c main_arg0 _ = _
  rw [V_main_arg0]
  congr 1
  funext a
  apply Fin.ext
  match a with
  | ⟨0, _⟩ => show win0_0.index t 0 * 1 + 1 * 0 = t.val / 256; rw [e0]; omega
  | ⟨1, _⟩ => show win0_0.index t 1 * 512 + 1 * r.val = 512 * (t.val / 32 % 8) + r.val; rw [e1]; omega
  | ⟨2, _⟩ => show win0_0.index t 2 * 1024 + 1 * k.val = k.val; rw [e2]; omega

theorem blk1 (t : Fin cfg0.N) (r : Fin 512) (k : Fin 128) :
    (iblk m c 1 t : Vec Ideal S1x512x128 .f32) (ix3 0 r k) = m ((c : Thread nD τ).loc main_arg1) (ix3 (seqOf t) (tokOf t r) k) := by
  obtain ⟨e0, e1, e2⟩ := (ix_tok t).2.1
  unfold iblk
  rw [View.read_apply]
  show V m c main_arg1 _ = _
  rw [V_main_arg1]
  congr 1
  funext a
  apply Fin.ext
  match a with
  | ⟨0, _⟩ => show win0_1.index t 0 * 1 + 1 * 0 = t.val / 256; rw [e0]; omega
  | ⟨1, _⟩ => show win0_1.index t 1 * 512 + 1 * r.val = 512 * (t.val / 32 % 8) + r.val; rw [e1]; omega
  | ⟨2, _⟩ => show win0_1.index t 2 * 128 + 1 * k.val = k.val; rw [e2]; omega

theorem blk2 (t : Fin cfg0.N) (r : Fin 512) (k : Fin 1024) :
    (iblk m c 2 t : Vec Ideal S1x512x1024 .f32) (ix3 0 r k) = m ((c : Thread nD τ).loc main_arg2) (ix3 (seqOf t) (tokOf t r) k) := by
  obtain ⟨e0, e1, e2⟩ := (ix_tok t).2.2
  unfold iblk
  rw [View.read_apply]
  show V m c main_arg2 _ = _
  rw [V_main_arg2]
  congr 1
  funext a
  apply Fin.ext
  match a with
  | ⟨0, _⟩ => show win0_2.index t 0 * 1 + 1 * 0 = t.val / 256; rw [e0]; omega
  | ⟨1, _⟩ => show win0_2.index t 1 * 512 + 1 * r.val = 512 * (t.val / 32 % 8) + r.val; rw [e1]; omega
  | ⟨2, _⟩ => show win0_2.index t 2 * 1024 + 1 * k.val = k.val; rw [e2]; omega

theorem blk3 (t : Fin cfg0.N) (k : Fin 1024) (f : Fin 2048) :
    (iblk m c 3 t : Vec Ideal S1x1024x2048 .bf16) (ix3 0 k f) = m ((c : Thread nD τ).loc main_arg3) (ix3 (expOf t) k f) := by
  obtain ⟨e0, e1, e2⟩ := (ix_exp t).1
  have hV : V m c main_v1
      = (truncf .bf16 (m ((c : Thread nD τ).loc main_arg3) : FVec Ideal S32x1024x2048 .f32) bitsLt_bf16_f32 : FVec Ideal S32x1024x2048 .bf16) := by
    unfold V hostOps0; after_results_simp
  unfold iblk
  rw [View.read_apply]
  show V m c main_v1 _ = _
  rw [hV]
  show m ((c : Thread nD τ).loc main_arg3) _ = _
  congr 1
  funext a
  apply Fin.ext
  match a with
  | ⟨0, _⟩ => show win0_3.index t 0 * 1 + 1 * 0 = t.val % 32; rw [e0]; omega
  | ⟨1, _⟩ => show win0_3.index t 1 * 1024 + 1 * k.val = k.val; rw [e1]; omega
  | ⟨2, _⟩ => show win0_3.index t 2 * 2048 + 1 * f.val = f.val; rw [e2]; omega

theorem blk4 (t : Fin cfg0.N) (f : Fin 2048) :
    (iblk m c 4 t : Vec Ideal S1x1x2048 .f32) (ix3 0 0 f) = m ((c : Thread nD τ).loc main_arg4) (ix2 (expOf t) f) := by
  obtain ⟨e0, e1, e2⟩ := (ix_exp t).2.1
  have hV : V m c main_v3 = broadcastInDim S32x1x2048 ![0, 2] bcast_S32x2048_S32x1x2048_0_2 (m ((c : Thread nD τ).loc main_arg4)) := by
    unfold V hostOps0; after_results_simp
  unfold iblk
  rw [View.read_apply]
  show V m c main_v3 _ = _
  rw [hV]
  pointwise
  congr 1
  funext a
  apply Fin.ext
  match a with
  | ⟨0, _⟩ => show win0_4.index t 0 * 1 + 1 * 0 = t.val % 32; rw [e0]; omega
  | ⟨1, _⟩ => show win0_4.index t 2 * 2048 + 1 * f.val = f.val; rw [e2]; omega

theorem blk5 (t : Fin cfg0.N) (k : Fin 1024) (f : Fin 1024) :
    (iblk m c 5 t : Vec Ideal S1x1024x1024 .bf16) (ix3 0 k f) = m ((c : Thread nD τ).loc main_arg5) (ix3 (expOf t) k f) := by
  obtain ⟨e0, e1, e2⟩ := (ix_exp t).2.2.1
  have hV : V m c main_v2
      = (truncf .bf16 (m ((c : Thread nD τ).loc main_arg5) : FVec Ideal S32x1024x1024 .f32) bitsLt_bf16_f32 : FVec Ideal S32x1024x1024 .bf16) := by
    unfold V hostOps0; after_results_simp
  unfold iblk
  rw [View.read_apply]
  show V m c main_v2 _ = _
  rw [hV]
  show m ((c : Thread nD τ).loc main_arg5) _ = _
  congr 1
  funext a
  apply Fin.ext
  match a with
  | ⟨0, _⟩ => show win0_5.index t 0 * 1 + 1 * 0 = t.val % 32; rw [e0]; omega
  | ⟨1, _⟩ => show win0_5.index t 1 * 1024 + 1 * k.val = k.val; rw [e1]; omega
  | ⟨2, _⟩ => show win0_5.index t 2 * 1024 + 1 * f.val = f.val; rw [e2]; omega

theorem blk6 (t : Fin cfg0.N) (f : Fin 1024) :
    (iblk m c 6 t : Vec Ideal S1x1x1024 .f32) (ix3 0 0 f) = m ((c : Thread nD τ).loc main_arg6) (ix2 (expOf t) f) := by
  obtain ⟨e0, e1, e2⟩ := (ix_exp t).2.2.2
  have hV : V m c main_v4 = broadcastInDim S32x1x1024 ![0, 2] bcast_S32x1024_S32x1x1024_0_2 (m ((c : Thread nD τ).loc main_arg6)) := by
    unfold V hostOps0; after_results_simp
  unfold iblk
  rw [View.read_apply]
  show V m c main_v4 _ = _
  rw [hV]
  pointwise
  congr 1
  funext a
  apply Fin.ext
  match a with
  | ⟨0, _⟩ => show win0_6.index t 0 * 1 + 1 * 0 = t.val % 32; rw [e0]; omega
  | ⟨1, _⟩ => show win0_6.index t 2 * 1024 + 1 * f.val = f.val; rw [e2]; omega

theorem blk7 (t : Fin cfg0.N) (k : Fin 1024) :
    (iblk m c 7 t : Vec Ideal S1x1x1024 .f32) (ix3 0 0 k) = m ((c : Thread nD τ).loc main_arg7) (ix3 (seqOf t) 0 k) := by
  obtain ⟨e0, e1, e2⟩ := (ix_seq t).1
  unfold iblk
  rw [View.read_apply]
  show V m c main_arg7 _ = _
  rw [V_main_arg7]
  congr 1
  funext a
  apply Fin.ext
  match a with
  | ⟨0, _⟩ => show win0_7.index t 0 * 1 + 1 * 0 = t.val / 256; rw [e0]; omega
  | ⟨1, _⟩ => show win0_7.index t 1 * 1 + 1 * 0 = 0; rw [e1]
  | ⟨2, _⟩ => show win0_7.index t 2 * 1024 + 1 * k.val = k.val; rw [e2]; omega

theorem blk8 (t : Fin cfg0.N) (k : Fin 1024) :
    (iblk m c 8 t : Vec Ideal S1x1024 .f32) (ix2 0 k) = m ((c : Thread nD τ).loc main_arg8) (ix1 k) := by
  obtain ⟨e0, e1⟩ := (ix_seq t).2.1
  have hV : V m c main_v0 = broadcastInDim S1x1024 ![1] bcast_S1024_S1x1024_1 (m ((c : Thread nD τ).loc main_arg8)) := by
    unfold V hostOps0; after_results_simp
  unfold iblk
  rw [View.read_apply]
  show V m c main_v0 _ = _
  rw [hV]
  pointwise
  congr 1
  funext a
  apply Fin.ext
  match a with
  | ⟨0, _⟩ => show win0_8.index t 1 * 1024 + 1 * k.val = k.val; rw [e1]; omega

end Cert.KernelIdeal.Moe
end
-- ==== Proof.MoeValue.lean ====
/-
  The experts' kernel: the array it leaves is the mixture of experts of its arguments, entry by entry.
-/
module

public import proofs.«01_k».proof.Proof.MoeBody
public import proofs.«01_k».proof.Proof.MoeBlocks

@[expose] public section

set_option maxRecDepth 16384

noncomputable section

namespace Cert.KernelIdeal.Moe

open Cert.KernelIdeal Cert.KernelIdeal.Gen Cert.Moe Idealize.ShloMosaic Idealize.ShloMosaic.TcCoe Idealize.SL.Sem

/-- One expert's matrices and the unit between them, read at row `r` and feature `l` of the tile. -/
theorem matrices (x0 : FVec Ideal S1x512x1024 .bf16) (x3 : FVec Ideal S1x1024x2048 .bf16) (x4 : FVec Ideal S1x1x2048 .f32)
    (x5 : FVec Ideal S1x1024x1024 .bf16) (x6 : FVec Ideal S1x1x1024 .f32) (r : Fin 512) (l : Fin 1024) :
    k0_pay4 (F := Ideal) x0 x3 x4 x5 (ix2 r l) + x6 (ix3 0 0 l)
      = expert (fun k => x0 (ix3 0 r k)) (fun k f => x3 (ix3 0 k f)) (fun f => x4 (ix3 0 0 f)) (fun f o => x5 (ix3 0 f o))
          (fun o => x6 (ix3 0 0 o)) l := by
  pointwise [k0_pay4]
  rfl

/-- One step of the sums, read at row `r` and feature `l` of the tile: the expert's output times its combine weight is added. -/
theorem step (e : Fin 32) (v : FVec Ideal S512x1024 .f32) (x6 : FVec Ideal S1x1x1024 .f32) (x1 : FVec Ideal S1x512x128 .f32)
    (acc : FVec Ideal S512x1024 .f32) (r : Fin 512) (l : Fin 1024) :
    k0_pay1 (F := Ideal) (BitVec.ofNat 32 e.val) v x6 x1 acc (ix2 r l)
      = acc (ix2 r l) + x1 (ix3 0 r ⟨e, by omega⟩) * (v (ix2 r l) + x6 (ix3 0 0 l)) := by
  pointwise [k0_pay1]
  rw [lane_sum (fun x => x1 (ix3 0 r x)) e]

/-- The two together, the blocks as variables. -/
theorem addExpert_row (i : grid0.Coords) (e : Fin 32) (he : (i 2).val = e.val) (x0 : FVec Ideal S1x512x1024 .bf16) (x1 : FVec Ideal S1x512x128 .f32)
    (x3 : FVec Ideal S1x1024x2048 .bf16) (x4 : FVec Ideal S1x1x2048 .f32) (x5 : FVec Ideal S1x1024x1024 .bf16)
    (x6 : FVec Ideal S1x1x1024 .f32) (acc : FVec Ideal S512x1024 .f32) (r : Fin 512) (l : Fin 1024) :
    (addExpert (F := Ideal) i x0 x1 x3 x4 x5 x6 acc (ix2 r l) : EReal) = (acc (ix2 r l) : EReal) + x1 (ix3 0 r ⟨e, by omega⟩)
      * expert (fun k => x0 (ix3 0 r k)) (fun k f => x3 (ix3 0 k f)) (fun f => x4 (ix3 0 0 f)) (fun f o => x5 (ix3 0 f o))
          (fun o => x6 (ix3 0 0 o)) l := by
  unfold addExpert
  rw [he, step e, matrices]

/-- The final norm and gated residual, read at row `r` and feature `l` of the tile. -/
theorem last (y : FVec Ideal S512x1024 .f32) (g : FVec Ideal S1x1024 .f32) (x : FVec Ideal S1x512x1024 .f32)
    (g2 : FVec Ideal S1x1x1024 .f32) (r : Fin 512) (l : Fin 1024) :
    k0_pay2 (F := Ideal) y g x g2 (ix3 0 r l)
      = finish (fun k => y (ix2 r k)) (g (ix2 0 l)) (x (ix3 0 r l)) (g2 (ix3 0 0 l)) l := by
  pointwise [k0_pay2]
  rfl

variable (m : (ℓ : Loc nD τ sig) → Buf (Elt Ideal) ℓ) (c : Dev nD)

/-- Expert `e`'s weighted output for token `t` of sequence `b`, from the arguments in memory. -/
abbrev termAt (b : Fin 8) (t : Fin 4096) (e : Fin 32) (l : Fin 1024) : EReal :=
  term (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) b t e l

/-- The mixture of experts of the arguments in memory. -/
abbrev resultAt (b : Fin 8) (t : Fin 4096) (l : Fin 1024) : EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b t l

/-- At point `t` the body adds, at row `r` and feature `l`, the point's expert's weighted output for the token that row is. -/
theorem addExpert_apply (t : Fin cfg0.N) (acc : Vec Ideal S512x1024 .f32) (r : Fin 512) (l : Fin 1024) :
    addExpert (grid0.coords t) (iblk m c 0 t) (iblk m c 1 t) (iblk m c 3 t) (iblk m c 4 t) (iblk m c 5 t) (iblk m c 6 t) acc (ix2 r l)
      = (acc (ix2 r l) : EReal) + termAt m c (seqOf t) (tokOf t r) (expOf t) l := by
  refine (addExpert_row (grid0.coords t) (expOf t) (ix_seq t).2.2 _ _ _ _ _ _ acc r l).trans ?_
  refine congrArg ((acc (ix2 r l) : EReal) + ·) ?_
  unfold termAt term
  exact congrArg₂ (· * ·) (blk1 m c t r _) (by
    have e0 : (fun k => (iblk m c 0 t : Vec Ideal S1x512x1024 .bf16) (ix3 0 r k)) = _ := funext fun k => blk0 m c t r k
    have e3 : (fun k f => (iblk m c 3 t : Vec Ideal S1x1024x2048 .bf16) (ix3 0 k f)) = _ := funext fun k => funext fun f => blk3 m c t k f
    have e4 : (fun f => (iblk m c 4 t : Vec Ideal S1x1x2048 .f32) (ix3 0 0 f)) = _ := funext fun f => blk4 m c t f
    have e5 : (fun f o => (iblk m c 5 t : Vec Ideal S1x1024x1024 .bf16) (ix3 0 f o)) = _ := funext fun f => funext fun o => blk5 m c t f o
    have e6 : (fun o => (iblk m c 6 t : Vec Ideal S1x1x1024 .f32) (ix3 0 0 o)) = _ := funext fun o => blk6 m c t o
    rw [e0, e3, e4, e5, e6])

/-- The sum of the first `n` experts' weighted outputs. -/
def partialSum (b : Fin 8) (t : Fin 4096) (l : Fin 1024) : ℕ → EReal
  | 0 => 0
  | n + 1 => partialSum b t l n + if h : n < 32 then termAt m c b t ⟨n, h⟩ l else 0

theorem partialSum_eq (b : Fin 8) (t : Fin 4096) (l : Fin 1024) : partialSum m c b t l 32 = ∑ e : Fin 32, termAt m c b t e l := by
  have h : ∀ n, partialSum m c b t l n = ∑ e ∈ Finset.range n, if h : e < 32 then termAt m c b t ⟨e, h⟩ l else 0 := by
    intro n
    induction n with
    | zero => rfl
    | succ n ih => rw [Finset.sum_range_succ, ← ih]; rfl
  rw [h, Finset.sum_range]
  exact Finset.sum_congr rfl fun e _ => dif_pos e.isLt

/-- What the block of sums holds after the first `e + 1` experts of a tile, `e` not its last. -/
theorem sums_eq : ∀ (n : ℕ) (h : n < cfg0.N), n % 32 ≠ 31 → ∀ (r : Fin 512) (l : Fin 1024),
    ((outsAt0 m c n h).2 (ix2 r l) : EReal) = partialSum m c (seqOf ⟨n, h⟩) (tokOf ⟨n, h⟩ r) l (n % 32 + 1)
  | n, h, hn, r, l => by
    by_cases h0 : n % 32 = 0
    · rw [outsAt0_A m c ⟨n, h⟩ h0 hn, sums_first]
      refine (addExpert_apply m c ⟨n, h⟩ (k0_pay3 (F := Ideal)) r l).trans ?_
      rw [h0]
      show _ = (0 : EReal) + if h : (0 : ℕ) < 32 then termAt m c _ _ ⟨0, h⟩ l else 0
      rw [dif_pos (by omega)]
      refine congrArg₂ (· + ·) ?_ ?_
      · pointwise [k0_pay3]
      · rw [show expOf ⟨n, h⟩ = ⟨0, by omega⟩ from Fin.ext h0]
    · obtain ⟨k, rfl⟩ : ∃ k, n = k + 1 := ⟨n - 1, by omega⟩
      have ih := sums_eq k (Nat.lt_of_succ_lt h) (by omega) r l
      rw [outsAt0_B m c ⟨k + 1, h⟩ h0 hn, sums_mid]
      refine (addExpert_apply m c ⟨k + 1, h⟩ _ r l).trans ?_
      have ek : (k + 1) % 32 = k % 32 + 1 := by omega
      have es : seqOf (⟨k + 1, h⟩ : Fin cfg0.N) = seqOf ⟨k, Nat.lt_of_succ_lt h⟩ := Fin.ext (by show (k + 1) / 256 = k / 256; omega)
      have et : tokOf (⟨k + 1, h⟩ : Fin cfg0.N) r = tokOf ⟨k, Nat.lt_of_succ_lt h⟩ r :=
        Fin.ext (by show 512 * ((k + 1) / 32 % 8) + r.val = 512 * (k / 32 % 8) + r.val; omega)
      rw [es, et, ek]
      show _ = partialSum m c _ _ l (k % 32 + 1) + if h : k % 32 + 1 < 32 then termAt m c _ _ ⟨k % 32 + 1, h⟩ l else 0
      rw [dif_pos (by omega)]
      refine congrArg₂ (· + ·) ?_ ?_
      · exact ih
      · rw [show expOf ⟨k + 1, h⟩ = ⟨k % 32 + 1, by omega⟩ from Fin.ext ek]

/-- What the output block holds after a tile's last expert. -/
theorem out_eq (t : Fin cfg0.N) (ht : t.val % 32 = 31) (r : Fin 512) (l : Fin 1024) :
    ((outsAt0 m c t.val t.isLt).1 (ix3 0 r l) : EReal) = resultAt m c (seqOf t) (tokOf t r) l := by
  rw [outsAt0_C m c t (by omega) ht, out_last]
  refine (last _ _ _ _ r l).trans ?_
  unfold resultAt result
  obtain ⟨n, h⟩ := t
  obtain ⟨k, rfl⟩ : ∃ k, n = k + 1 := ⟨n - 1, by have : n % 32 = 31 := ht; omega⟩
  have ht : (k + 1) % 32 = 31 := ht
  have e8 := blk8 m c ⟨k + 1, h⟩ l
  have e2 := blk2 m c ⟨k + 1, h⟩ r l
  have e7 := blk7 m c ⟨k + 1, h⟩ l
  have ey : (fun o => (addExpert (grid0.coords ⟨k + 1, h⟩) (iblk m c 0 ⟨k + 1, h⟩) (iblk m c 1 ⟨k + 1, h⟩) (iblk m c 3 ⟨k + 1, h⟩)
      (iblk m c 4 ⟨k + 1, h⟩) (iblk m c 5 ⟨k + 1, h⟩) (iblk m c 6 ⟨k + 1, h⟩) (outsAt0 m c k (Nat.lt_of_succ_lt h)).2 (ix2 r o) : EReal))
      = fun o => ∑ e : Fin 32, termAt m c (seqOf ⟨k + 1, h⟩) (tokOf ⟨k + 1, h⟩ r) e o := funext fun o => by
    refine (addExpert_apply m c ⟨k + 1, h⟩ _ r o).trans ?_
    rw [← partialSum_eq, sums_eq m c k (Nat.lt_of_succ_lt h) (by omega) r o]
    have es : seqOf (⟨k + 1, h⟩ : Fin cfg0.N) = seqOf ⟨k, Nat.lt_of_succ_lt h⟩ := Fin.ext (by show (k + 1) / 256 = k / 256; omega)
    have et : tokOf (⟨k + 1, h⟩ : Fin cfg0.N) r = tokOf ⟨k, Nat.lt_of_succ_lt h⟩ r :=
      Fin.ext (by show 512 * ((k + 1) / 32 % 8) + r.val = 512 * (k / 32 % 8) + r.val; omega)
    rw [es, et, show k % 32 + 1 = 31 by omega, show expOf ⟨k + 1, h⟩ = ⟨31, by omega⟩ from Fin.ext ht]
    show _ = partialSum m c _ _ o 31 + if h : 31 < 32 then termAt m c _ _ ⟨31, h⟩ o else 0
    rw [dif_pos (by omega)]
  show finish (fun o => (addExpert (grid0.coords ⟨k + 1, h⟩) (iblk m c 0 ⟨k + 1, h⟩) (iblk m c 1 ⟨k + 1, h⟩) (iblk m c 3 ⟨k + 1, h⟩)
      (iblk m c 4 ⟨k + 1, h⟩) (iblk m c 5 ⟨k + 1, h⟩) (iblk m c 6 ⟨k + 1, h⟩) (outsAt0 m c k _).2 (ix2 r o) : EReal)) _ _ _ l = _
  rw [ey]
  show finish _ ((iblk m c 8 ⟨k + 1, h⟩ : Vec Ideal S1x1024 .f32) (ix2 0 l)) ((iblk m c 2 ⟨k + 1, h⟩ : Vec Ideal S1x512x1024 .f32) (ix3 0 r l))
    ((iblk m c 7 ⟨k + 1, h⟩ : Vec Ideal S1x1x1024 .f32) (ix3 0 0 l)) l = _
  rw [e8, e2, e7]

/-- The array the kernel leaves, at token `t` of sequence `b`, feature `l`. -/
theorem value (b : Fin 8) (t : Fin 4096) (l : Fin 1024) : (Value.G9 m c (ix3 b t l) : EReal) = resultAt m c b t l := by
  have hp : 32 * (8 * b.val + t.val / 512) + 31 < cfg0.N := by rw [show cfg0.N = 2048 from N_0]; omega
  have ep : Value.pt9Of (ix3 b t l) = 32 * (8 * b.val + t.val / 512) + 31 := by
    show 32 * (8 * (b.val / 1 - 0) + 1 * (t.val / 512 - 0) + 1 * (l.val / 1024 - 0)) + 31 = _; omega
  have el : Value.loc9Of (ix3 b t l) = ix3 0 ⟨t.val % 512, by omega⟩ l := by
    funext a; apply Fin.ext
    match a with
    | ⟨0, _⟩ => show b.val % 1 = 0; omega
    | ⟨1, _⟩ => rfl
    | ⟨2, _⟩ => show l.val % 1024 = l.val; omega
  unfold Value.G9
  rw [dif_pos (lt_of_eq_of_lt ep hp), el, ← Value.outsAt0_sweep m c _ (lt_of_eq_of_lt ep hp)]
  have := out_eq m c ⟨_, hp⟩ (by show (32 * (8 * b.val + t.val / 512) + 31) % 32 = 31; omega) ⟨t.val % 512, by omega⟩ l
  simp only [ep]
  refine this.trans ?_
  rw [show seqOf ⟨_, hp⟩ = b from Fin.ext (by show (32 * (8 * b.val + t.val / 512) + 31) / 256 = b.val; omega),
    show tokOf ⟨_, hp⟩ ⟨t.val % 512, by omega⟩ = t from Fin.ext (by show 512 * ((32 * (8 * b.val + t.val / 512) + 31) / 32 % 8) + t.val % 512 = t.val; omega)]

end Cert.KernelIdeal.Moe
end
-- ==== Proof.MoeRef.lean ====
/-
  The reference of the experts: what its composed term is at one token and one feature.
-/
module

public import proofs.«01_k».proof.Proof.Gen.ReferenceIdeal.Run
public import proofs.«01_k».proof.Proof.MoeMath

@[expose] public section

set_option maxRecDepth 16384

noncomputable section

namespace Cert.ReferenceIdeal.Moe

open Cert.ReferenceIdeal Cert.Moe Idealize.ShloMosaic Idealize.ShloMosaic.TcCoe Idealize.SL.Sem

/-- The reference's result at token `t` of sequence `b`, feature `l`, is the mixture of experts of its arguments there. -/
theorem value (m : (ℓ : Loc nD τ sig) → Buf (Elt Ideal) ℓ) (c : Dev nD) (b : Fin 8) (t : Fin 4096) (l : Fin 1024) :
    Value.res_main_v47 m c (ix3 b t l)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) b t l := by
  unfold Value.res_main_v47
  pointwise
  rw [result_comm]
  rfl

end Cert.ReferenceIdeal.Moe
end
-- ==== Proof.MoeClaims.lean ====
/-
  What is claimed of the experts' kernel and of its reference: both run and leave their arguments as they were, and the
  kernel's result is the reference's.
-/
module

public import proofs.«01_k».proof.Defs
public import proofs.«01_k».proof.Proof.Gen.Kernel.Frame
public import proofs.«01_k».proof.Proof.MoeValue
public import proofs.«01_k».proof.Proof.MoeRef
public import Idealize.ShloMosaic.Lib.Quiescent

@[expose] public section

set_option maxRecDepth 16384

noncomputable section

namespace Cert.Moe

open Idealize.ShloMosaic Idealize.ShloMosaic.TcCoe Idealize.SL.Sem

/-- The experts' kernel, at the machine's floats, runs, leaves its arguments and ends with every semaphore at zero. -/
theorem frame_kernel : Cert.quiescent_Kernel (hKernel := Cert.Kernel.Gen.facts) := fun m ρ _ => Cert.Kernel.Gen.frame m ρ

/-- The same over the extended reals. -/
theorem frame_ideal : Cert.quiescent_KernelIdeal (hKernelIdeal := Cert.KernelIdeal.Gen.facts) := fun m ρ _ => Cert.KernelIdeal.Gen.frame m ρ

/-- The reference runs, leaves its arguments and ends with every semaphore at zero. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- From arguments that agree, the array the kernel leaves is the array the reference leaves. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v47 m' c = Cert.KernelIdeal.Value.G9 m c := by
  funext i
  rw [eq_ix3 i]
  refine (Cert.ReferenceIdeal.Moe.value m' c (i 0) (i 1) (i 2)).trans (Eq.trans ?_ (Cert.KernelIdeal.Moe.value m c (i 0) (i 1) (i 2)).symm)
  rw [h0, h1, h2, h3, h4, h5, h6, h7, h8]

/-- Kernel and reference, from arguments that agree, end with the same result. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Value.G9 m c, Cert.KernelIdeal.Value.run m ρ, ?_⟩
  refine (θ_run _ _ _).mono (fun r h c => ⟨(h c).1.trans ?_, (h c).2⟩) (Cert.ReferenceIdeal.Value.run m' ρ')
  obtain ⟨h0, h1, h2, h3, h4, h5, h6, h7, h8⟩ := hagree c
  exact arrays_eq m m' c h0 h1 h2 h3 h4 h5 h6 h7 h8

end Cert.Moe
end
-- ==== Proof.AttnMath.lean ====
/-
  Softmax rows over the extended reals: which values are real, and that dividing the weighted sum by the total weight is
  the same as weighting by the divided weights.
-/
module

public import Idealize.ShloMosaic.Lib.Pointwise
public import Idealize.ShloMosaic.PureOps.Ideal.Laws

@[expose] public section

noncomputable section

namespace Cert.Attn

open Idealize.ShloMosaic

/-- The value is a real number. -/
def IsReal (x : EReal) : Prop := ∃ r : ℝ, x = r

theorem IsReal.zero : IsReal 0 := ⟨0, rfl⟩
theorem IsReal.coe (r : ℝ) : IsReal r := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) {f : ι → EReal} (h : ∀ i, IsReal (f i)) : IsReal (∑ i ∈ s, f i) := by
  classical
  induction s using Finset.induction_on with
  | empty => exact IsReal.zero
  | insert a s ha ih => rw [Finset.sum_insert ha]; exact (h a).add ih

theorem IsReal.exp {x : EReal} (hx : IsReal x) : IsReal (Ideal.exp x) := by
  obtain ⟨a, rfl⟩ := hx; exact ⟨Real.exp a, rfl⟩

/-- A value smaller in size than infinity is real. -/
theorem IsReal.of_abs_lt {x : EReal} (h : max x (-x) < ⊤) : IsReal x := by
  induction x with
  | bot => simp at h
  | top => simp at h
  | coe r => exact ⟨r, rfl⟩

/-- Multiplying a finite sum by a real number that is not negative, term by term. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The bits of minus infinity. -/
theorem bits_bot : Ideal.ofBits FTy.f32 4286578688#32 = (⊥ : EReal) := by
  simp [Ideal.ofBits, Ideal.ieee]

variable {n : ℕ}

/-- The largest score of a row. -/
def top (s : Fin n → EReal) : EReal := Finset.univ.fold max (Ideal.ofBits FTy.f32 4286578688#32) s

/-- The weight of one position of a row, before normalization. -/
def weight (s : Fin n → EReal) (k : Fin n) : EReal := Ideal.exp (s k - top s)

/-- The total weight of a row. -/
def mass (s : Fin n → EReal) : EReal := ∑ k, weight s k

/-- The weighted sum of the values, then divided by the total weight. -/
def pooled (s v : Fin n → EReal) : EReal := (∑ k, weight s k * v k) * Ideal.div 1 (mass s)

/-- The values summed with the softmax of the scores. -/
def attend (s v : Fin n → EReal) : EReal := ∑ k, v k * Ideal.div (weight s k) (mass s)

/-- The largest of at least one score is one of them. -/
theorem top_eq [NeZero n] (s : Fin n → EReal) : ∃ k, top s = s k := by
  obtain ⟨k, _, hk⟩ := Finset.exists_mem_eq_sup (Finset.univ : Finset (Fin n)) ⟨0, Finset.mem_univ _⟩ s
  refine ⟨k, Eq.trans ?_ hk⟩
  unfold top
  rw [bits_bot]
  rfl

/-- Taking the largest with minus infinity once more changes nothing. -/
theorem max_top (s : Fin n → EReal) : max (Ideal.ofBits FTy.f32 4286578688#32) (top s) = top s := by
  rw [bits_bot]; exact max_eq_right bot_le

/-- The weights of a row of real scores are positive real numbers. -/
theorem weight_pos [NeZero n] {s : Fin n → EReal} (h : ∀ k, IsReal (s k)) (k : Fin n) : ∃ p : ℝ, 0 < p ∧ weight s k = p := by
  obtain ⟨j, hj⟩ := top_eq s
  obtain ⟨a, ha⟩ := h k
  obtain ⟨b, hb⟩ := h j
  refine ⟨_, Real.exp_pos (a - b), ?_⟩
  unfold weight
  rw [hj, ha, hb, ← EReal.coe_sub]
  rfl

/-- So is their total. -/
theorem mass_pos [NeZero n] {s : Fin n → EReal} (h : ∀ k, IsReal (s k)) : ∃ l : ℝ, 0 < l ∧ mass s = l := by
  choose p hp he using weight_pos h
  refine ⟨∑ k, p k, Finset.sum_pos (fun k _ => hp k) ⟨0, Finset.mem_univ _⟩, ?_⟩
  unfold mass
  rw [Finset.sum_congr rfl fun k _ => he k]
  exact (map_sum (⟨⟨Real.toEReal, rfl⟩, EReal.coe_add⟩ : ℝ →+ EReal) p Finset.univ).symm

/-- For real scores and any values, dividing last is dividing first. -/
theorem pooled_eq_attend [NeZero n] {s : Fin n → EReal} (h : ∀ k, IsReal (s k)) (v : Fin n → EReal) : pooled s v = attend s v := by
  obtain ⟨l, hl, he⟩ := mass_pos h
  unfold pooled attend
  rw [he, Ideal.div_coe hl.ne', one_mul, sum_mul_coe _ _ (one_div_pos.mpr hl).le]
  refine Finset.sum_congr rfl fun k _ => ?_
  rw [Ideal.div_coe hl.ne', mul_comm (weight s k), mul_assoc]

/-- The sum over 128 lanes with one half masked is the sum over that half. -/
theorem half_sum (f : Fin 128 → EReal) (a : Fin 2) :
    (∑ x : Fin 128, if x.val / 64 = a.val then f x else 0) = ∑ d : Fin 64, f ⟨64 * a.val + d.val, by omega⟩ := by
  rw [← Finset.sum_filter]
  refine (Finset.sum_bij' (fun d _ => (⟨64 * a.val + d.val, by omega⟩ : Fin 128)) (fun x _ => (⟨x.val % 64, by omega⟩ : Fin 64))
    ?_ ?_ ?_ ?_ ?_).symm
  · intro d _; simp only [Finset.mem_filter, Finset.mem_univ, true_and]; omega
  · intro x _; exact Finset.mem_univ _
  · intro d _; apply Fin.ext; show (64 * a.val + d.val) % 64 = d.val; omega
  · intro x hx
    simp only [Finset.mem_filter, Finset.mem_univ, true_and] at hx
    apply Fin.ext; show 64 * a.val + x.val % 64 = x.val; omega
  · intro d _; rfl

end Cert.Attn
end
-- ==== Proof.GqaMath.lean ====
/-
  Grouped-query attention of whole arrays, entry by entry: the 512 query columns are two groups of four heads of 64, and the four
  heads of a group attend to the same 64 key and value columns.
-/
module

public import proofs.«01_k».proof.Proof.AttnMath

@[expose] public section

noncomputable section

namespace Cert.GqaMath

open Idealize.ShloMosaic Cert.Attn

/-- The queries' shape. -/
abbrev SQ : Shape := ⟨3, ![8, 4096, 512]⟩
/-- The keys' and the values' shape. -/
abbrev SK : Shape := ⟨3, ![8, 4352, 128]⟩

/-- The score of query row `t` with key row `k`, head `g` of group `h`. -/
def score (q : FVec Ideal SQ .bf16) (kg : FVec Ideal SK .bf16) (b : Fin 8) (t : Fin 4096) (h : Fin 2) (g : Fin 4) (k : Fin 4352) : EReal :=
  ∑ d : Fin 64, kg (ix3 b k ⟨h * 64 + d, by omega⟩) * q (ix3 b t ⟨h * 256 + g * 64 + d, by omega⟩)

/-- The attention's result at query row `t`, head `g` of group `h`, feature `d`. -/
def result (q : FVec Ideal SQ .bf16) (kg vg : FVec Ideal SK .bf16) (b : Fin 8) (t : Fin 4096) (h : Fin 2) (g : Fin 4) (d : Fin 64) : EReal :=
  attend (score q kg b t h g) fun k => vg (ix3 b k ⟨h * 64 + d, by omega⟩)

/-- The scores of real queries and keys are real. -/
theorem score_real {q : FVec Ideal SQ .bf16} {kg : FVec Ideal SK .bf16} (hq : ∀ i, IsReal (q i)) (hk : ∀ i, IsReal (kg i))
    (b : Fin 8) (t : Fin 4096) (h : Fin 2) (g : Fin 4) (k : Fin 4352) : IsReal (score q kg b t h g k) :=
  IsReal.sum _ fun _ => (hk _).mul (hq _)

end Cert.GqaMath
end
-- ==== Proof.GqaBody.lean ====
/-
  The grouped-query attention kernel: what the body stores for one block. Each pair of heads is computed on 128 lanes, one head at a
  time with the other head's lanes set to zero, and the two results are put side by side.
-/
module

public import proofs.«01_k».proof.Proof.Gen.GqaIdeal.Value
public import proofs.«01_k».proof.Proof.GqaMath

@[expose] public section

set_option maxRecDepth 16384

noncomputable section

namespace Cert.GqaIdeal.Attn

open Cert.GqaIdeal Cert.GqaIdeal.Gen Cert.Attn Idealize.ShloMosaic Idealize.ShloMosaic.TcCoe Idealize.SL.Sem

/-- The mask of a pair's first head. -/
theorem first_head (r : Fin 256) (x : Fin 128) : k0_pay4 (ix2 r x) = if x.val / 64 = 0 then 1#1 else 0#1 := by
  have h : ∀ x : Fin 128, IntOp.cmpi .slt (BitVec.ofNat 32 x) 64#32 = if x.val / 64 = 0 then 1#1 else 0#1 := by decide +kernel
  pointwise [k0_pay4]
  exact h x

/-- The mask of a pair's second head. -/
theorem second_head (r : Fin 256) (x : Fin 128) : k0_pay5 (ix2 r x) = if x.val / 64 = 1 then 1#1 else 0#1 := by
  have h : ∀ x : Fin 128, IntOp.cmpi .sge (BitVec.ofNat 32 x) 64#32 = if x.val / 64 = 1 then 1#1 else 0#1 := by decide +kernel
  pointwise [k0_pay5]
  exact h x

theorem select_if {p : Prop} [Decidable p] (a b : EReal) : Scalar.select (if p then 1#1 else 0#1) a b = if p then a else b := by
  split <;> rfl

/-- The scores of a row of queries with the lanes of head `a` of the pair. -/
def scores (q : Fin 128 → EReal) (kt : Fin 128 → Fin 4352 → EReal) (a : ℕ) (k : Fin 4352) : EReal :=
  ∑ x : Fin 128, if x.val / 64 = a then q x * kt x k else 0

variable (x1 : FVec Ideal S1x1x128x4352 .bf16) (x2 : FVec Ideal S1x1x4352x128 .bf16)

/-- The first pair of heads, at row `r` and lane `l`. -/
theorem pair₁ (q : FVec Ideal S1x256x128 .bf16) (r : Fin 256) (l : Fin 128) :
    k0_pay9 (F := Ideal) (k0_pay3 x2) k0_pay5 (k0_pay7 x1 x2 q) (k0_pay8 x1 q) (ix3 0 r l)
      = pooled (scores (fun x => q (ix3 0 r x)) (fun x k => x1 (ix4 0 0 x k)) (l / 64)) (fun k => x2 (ix4 0 0 k l)) := by
  pointwise [k0_pay9, k0_pay7, k0_pay8, k0_pay6, k0_pay2, k0_pay3]
  simp only [first_head, second_head, select_if]
  rcases (by omega : l.val / 64 = 0 ∨ l.val / 64 = 1) with h | h
  · rw [h, if_pos rfl, if_neg (by decide), add_zero]; rfl
  · rw [h, if_neg (by decide), if_pos rfl, zero_add]; rfl

/-- The second pair of heads, at row `r` and lane `l`. -/
theorem pair₂ (q : FVec Ideal S1x256x128 .bf16) (r : Fin 256) (l : Fin 128) :
    k0_pay1 (F := Ideal) (k0_pay2 x1) (k0_pay3 x2) k0_pay4 k0_pay5 (k0_pay10 q) k0_pay11
        (k0_pay12 (k0_pay2 x1) (k0_pay3 x2) k0_pay4 q) k0_pay13 (ix3 0 r l)
      = pooled (scores (fun x => q (ix3 0 r x)) (fun x k => x1 (ix4 0 0 x k)) (l / 64)) (fun k => x2 (ix4 0 0 k l)) := by
  pointwise [k0_pay1, k0_pay10, k0_pay11, k0_pay12, k0_pay13, k0_pay2, k0_pay3]
  simp only [first_head, second_head, select_if]
  rcases (by omega : l.val / 64 = 0 ∨ l.val / 64 = 1) with h | h
  · rw [h, if_pos rfl, if_neg (by decide), add_zero]; rfl
  · rw [h, if_neg (by decide), if_pos rfl, zero_add]; rfl

/-- What the body stores at row `r` and lane `l` of its block of 256 lanes. -/
def rowOut (x0 : FVec Ideal S1x256x256 .bf16) (r l : Fin 256) : EReal :=
  pooled (scores (fun x => x0 (ix3 0 r ⟨l / 128 * 128 + x, by omega⟩)) (fun x k => x1 (ix4 0 0 x k)) (l % 128 / 64))
    (fun k => x2 (ix4 0 0 k ⟨l % 128, by omega⟩))

theorem zeros4 : (![0, 0, 0, 0] : Fin 4 → ℕ) = fun _ => 0 := by funext a; fin_cases a <;> rfl

/-- The same from the pair's own lanes: pair `j` is lanes `128 j` to `128 j + 127` of the block. -/
theorem rowOut_pair (x0 : FVec Ideal S1x256x256 .bf16) (q : FVec Ideal S1x256x128 .bf16) (r : Fin 256) (j : Fin 2) (l : Fin 128)
    (hq : ∀ x : Fin 128, q (ix3 0 r x) = x0 (ix3 0 r ⟨128 * j + x, by omega⟩)) :
    pooled (scores (fun x => q (ix3 0 r x)) (fun x k => x1 (ix4 0 0 x k)) (l / 64)) (fun k => x2 (ix4 0 0 k l))
      = rowOut x1 x2 x0 r ⟨128 * j + l, by omega⟩ := by
  have e₁ : (fun x => q (ix3 0 r x)) = fun x : Fin 128 => x0 (ix3 0 r ⟨(128 * j.val + l.val) / 128 * 128 + x.val, by omega⟩) := by
    funext x
    rw [hq x]
    congr 2
    apply Fin.ext
    show 128 * j.val + x.val = (128 * j.val + l.val) / 128 * 128 + x.val
    omega
  have e₂ : l.val / 64 = (128 * j.val + l.val) % 128 / 64 := by omega
  have e₃ : l = ⟨(128 * j.val + l.val) % 128, by omega⟩ := Fin.ext (by show l.val = (128 * j.val + l.val) % 128; omega)
  unfold rowOut
  rw [e₁, e₂]
  exact congrArg (fun z : Fin 128 => pooled _ fun k => x2 (ix4 0 0 k z)) e₃

/-- The block the body leaves. -/
theorem out_apply (x0 : FVec Ideal S1x256x256 .bf16) (r l : Fin 256) :
    (out0_3 (F := Ideal) x0 x1 x2 (ix3 0 r l) : EReal) = rowOut x1 x2 x0 r l := by
  have z0 : View.ld (Val := Elt Ideal) (e' := .bf16) x1 r0_0 = x1 := View.ld_unit_zero (Val := Elt Ideal) (e := .bf16) (S := S1x1x128x4352) zeros4 _ x1
  have z1 : View.ld (Val := Elt Ideal) (e' := .bf16) x2 r0_1 = x2 := View.ld_unit_zero (Val := Elt Ideal) (e := .bf16) (S := S1x1x4352x128) zeros4 _ x2
  unfold out0_3 k0_pay14 k0_pay15 k0_pay16 k0_pay17
  rw [z0, z1]
  refine View.canon_apply_of_pieces (Val := Elt Ideal) (e := .bf16) (fun y : S1x256x256.Idx => (rowOut x1 x2 x0 (y 1) (y 2) : EReal)) _ ?_ (ix3 0 r l) (cover0_3 _ _ _)
  intro p hp x
  rcases List.mem_cons.mp hp with rfl | hp
  · obtain ⟨r', l', rfl⟩ : ∃ (r' : Fin 256) (l' : Fin 128), x = ix3 0 r' l' := ⟨x 1, x 2, (eq_ix3 x).trans (by congr 1; exact Subsingleton.elim (α := Fin 1) _ _)⟩
    refine (pair₂ x1 x2 _ r' l').trans ((rowOut_pair x1 x2 x0 _ r' 1 l' fun x => ?_).trans ?_)
    · refine congrArg x0 (?_ : r0_3.idx (ix3 0 r' x) = _)
      funext a; apply Fin.ext
      match a with
      | ⟨0, _⟩ => rfl
      | ⟨1, _⟩ => show 0 + 1 * r'.val = r'.val; omega
      | ⟨2, _⟩ => show 128 + 1 * x.val = 128 * 1 + x.val; omega
    · show rowOut x1 x2 x0 r' _ = rowOut x1 x2 x0 (r0_3.emb (ix3 0 r' l') 1) (r0_3.emb (ix3 0 r' l') 2)
      congr 1
      · apply Fin.ext; show r'.val = 0 + 1 * r'.val; omega
      · apply Fin.ext; show 128 * 1 + l'.val = 128 + 1 * l'.val; omega
  · rcases List.mem_singleton.mp hp with rfl
    obtain ⟨r', l', rfl⟩ : ∃ (r' : Fin 256) (l' : Fin 128), x = ix3 0 r' l' := ⟨x 1, x 2, (eq_ix3 x).trans (by congr 1; exact Subsingleton.elim (α := Fin 1) _ _)⟩
    refine (pair₁ x1 x2 _ r' l').trans ((rowOut_pair x1 x2 x0 _ r' 0 l' fun x => ?_).trans ?_)
    · refine congrArg x0 (?_ : r0_2.idx (ix3 0 r' x) = _)
      funext a; apply Fin.ext
      match a with
      | ⟨0, _⟩ => rfl
      | ⟨1, _⟩ => show 0 + 1 * r'.val = r'.val; omega
      | ⟨2, _⟩ => show 0 + 1 * x.val = 128 * 0 + x.val; omega
    · show rowOut x1 x2 x0 r' _ = rowOut x1 x2 x0 (r0_2.emb (ix3 0 r' l') 1) (r0_2.emb (ix3 0 r' l') 2)
      congr 1
      · apply Fin.ext; show r'.val = 0 + 1 * r'.val; omega
      · apply Fin.ext; show 128 * 0 + l'.val = 0 + 1 * l'.val; omega

end Cert.GqaIdeal.Attn
end
-- ==== Proof.GqaBlocks.lean ====
/-
  The grouped-query attention kernel: the block each input window hands the body at a grid point, as entries of the argument arrays.
  Point `t` works on sequence `t / 32`, on group `t / 16 mod 2`, and on the tile of 256 query rows number `t mod 16`. A group's 64 key
  columns, and its 64 value columns, are stored twice side by side, on 128 lanes.
-/
module

public import proofs.«01_k».proof.Proof.Gen.GqaIdeal.Value
public import proofs.«01_k».proof.Proof.GqaMath

@[expose] public section

set_option maxRecDepth 16384

noncomputable section

namespace Cert.GqaIdeal.Attn

open Cert.GqaIdeal Cert.GqaIdeal.Gen Idealize.ShloMosaic Idealize.ShloMosaic.TcCoe Idealize.SL.Sem

variable (m : (ℓ : Loc nD τ sig) → Buf (Elt Ideal) ℓ) (c : Dev nD)

/-- The 64 columns from `o` on, twice side by side. -/
def twice (o : Fin 3 → ℕ) (h : S8x4352x128.Slices o S8x4352x64) (x : FVec Ideal S8x4352x128 .bf16) : FVec Ideal S8x4352x128 .bf16 :=
  concatenate S8x4352x128 2 [⟨S8x4352x64, extractStridedSlice S8x4352x64 o x h⟩, ⟨S8x4352x64, extractStridedSlice S8x4352x64 o x h⟩]
    concatenates_S8x4352x64_S8x4352x64_S8x4352x128_d2

theorem twice₁ (x : FVec Ideal S8x4352x128 .bf16) (b : Fin 8) (k : Fin 4352) (l : Fin 128) :
    twice ![0, 0, 0] slices_S8x4352x128_S8x4352x64_0_0_0 x (ix3 b k l) = x (ix3 b k ⟨l % 64, by omega⟩) := by
  unfold twice
  pointwise
  split
  · refine congrArg (fun z => x (ix3 b k z)) (Fin.ext ?_); show l.val = l.val % 64; omega
  · refine congrArg (fun z => x (ix3 b k z)) (Fin.ext ?_); show l.val - 64 = l.val % 64; omega

theorem twice₂ (x : FVec Ideal S8x4352x128 .bf16) (b : Fin 8) (k : Fin 4352) (l : Fin 128) :
    twice ![0, 0, 64] slices_S8x4352x128_S8x4352x64_0_0_64 x (ix3 b k l) = x (ix3 b k ⟨64 + l % 64, by omega⟩) := by
  unfold twice
  pointwise
  split
  · refine congrArg (fun z => x (ix3 b k z)) (Fin.ext ?_); simp only; omega
  · refine congrArg (fun z => x (ix3 b k z)) (Fin.ext ?_); simp only; omega

/-- The keys as the kernel takes them: transposed, one group after the other. -/
theorem keys (b : Fin 8) (h : Fin 2) (x : Fin 128) (k : Fin 4352) :
    V m c main_v8 (ix4 b h x k) = m ((c : Thread nD τ).loc main_arg1) (ix3 b k ⟨h * 64 + x % 64, by omega⟩) := by
  have hV : V m c main_v8 = concatenate S8x2x128x4352 1
      [⟨S8x1x128x4352, broadcastInDim S8x1x128x4352 ![0, 2, 3] bcast_S8x128x4352_S8x1x128x4352_0_2_3
          (transpose S8x128x4352 [0, 2, 1] (twice ![0, 0, 0] slices_S8x4352x128_S8x4352x64_0_0_0 (m ((c : Thread nD τ).loc main_arg1))) transposes_S8x4352x128_S8x128x4352_0_2_1)⟩,
        ⟨S8x1x128x4352, broadcastInDim S8x1x128x4352 ![0, 2, 3] bcast_S8x128x4352_S8x1x128x4352_0_2_3
          (transpose S8x128x4352 [0, 2, 1] (twice ![0, 0, 64] slices_S8x4352x128_S8x4352x64_0_0_64 (m ((c : Thread nD τ).loc main_arg1))) transposes_S8x4352x128_S8x128x4352_0_2_1)⟩]
      concatenates_S8x1x128x4352_S8x1x128x4352_S8x2x128x4352_d1 := by
    unfold V hostOps0 twice
    after_results <;> rfl
  rw [hV]
  pointwise
  rw [twice₁, twice₂]
  split
  · refine congrArg (fun z => m ((c : Thread nD τ).loc main_arg1) (ix3 b k z)) (Fin.ext ?_); simp only; omega
  · refine congrArg (fun z => m ((c : Thread nD τ).loc main_arg1) (ix3 b k z)) (Fin.ext ?_); simp only; omega

/-- The values as the kernel takes them: one group after the other. -/
theorem vals (b : Fin 8) (h : Fin 2) (x : Fin 128) (k : Fin 4352) :
    V m c main_v15 (ix4 b h k x) = m ((c : Thread nD τ).loc main_arg2) (ix3 b k ⟨h * 64 + x % 64, by omega⟩) := by
  have hV : V m c main_v15 = concatenate S8x2x4352x128 1
      [⟨S8x1x4352x128, broadcastInDim S8x1x4352x128 ![0, 2, 3] bcast_S8x4352x128_S8x1x4352x128_0_2_3
          (twice ![0, 0, 0] slices_S8x4352x128_S8x4352x64_0_0_0 (m ((c : Thread nD τ).loc main_arg2)))⟩,
        ⟨S8x1x4352x128, broadcastInDim S8x1x4352x128 ![0, 2, 3] bcast_S8x4352x128_S8x1x4352x128_0_2_3
          (twice ![0, 0, 64] slices_S8x4352x128_S8x4352x64_0_0_64 (m ((c : Thread nD τ).loc main_arg2)))⟩]
      concatenates_S8x1x4352x128_S8x1x4352x128_S8x2x4352x128_d1 := by
    unfold V hostOps0 twice
    after_results <;> rfl
  rw [hV]
  pointwise
  rw [twice₁, twice₂]
  split
  · refine congrArg (fun z => m ((c : Thread nD τ).loc main_arg2) (ix3 b k z)) (Fin.ext ?_); simp only; omega
  · refine congrArg (fun z => m ((c : Thread nD τ).loc main_arg2) (ix3 b k z)) (Fin.ext ?_); simp only; omega

/-- The sequence point `t` works on. -/
def seqOf (t : Fin cfg0.N) : Fin 8 := ⟨t.val / 32, by have := lt_of_lt_of_eq t.isLt N_0; omega⟩
/-- The group point `t` works on. -/
def groupOf (t : Fin cfg0.N) : Fin 2 := ⟨t.val / 16 % 2, by omega⟩
/-- The query row that row `r` of point `t`'s tile is. -/
def rowOf (t : Fin cfg0.N) (r : Fin 256) : Fin 4096 := ⟨256 * (t.val % 16) + r.val, by omega⟩

/-- The tile, the sequence and the group that point `t` works on. -/
theorem ix : ∀ t : Fin cfg0.N,
    (win0_0.index t 0 = t.val / 32 ∧ win0_0.index t 1 = t.val % 16 ∧ win0_0.index t 2 = t.val / 16 % 2)
    ∧ (win0_1.index t 0 = t.val / 32 ∧ win0_1.index t 1 = t.val / 16 % 2 ∧ win0_1.index t 2 = 0 ∧ win0_1.index t 3 = 0)
    ∧ (win0_2.index t 0 = t.val / 32 ∧ win0_2.index t 1 = t.val / 16 % 2 ∧ win0_2.index t 2 = 0 ∧ win0_2.index t 3 = 0)
    ∧ (win0_3.index t 0 = t.val / 32 ∧ win0_3.index t 1 = t.val % 16 ∧ win0_3.index t 2 = t.val / 16 % 2) :=
  (by decide +kernel : ∀ t : Fin grid0.N, _)

theorem blk0 (t : Fin cfg0.N) (r l : Fin 256) :
    (iblk m c 0 t : Vec Ideal S1x256x256 .bf16) (ix3 0 r l)
      = m ((c : Thread nD τ).loc main_arg0) (ix3 (seqOf t) (rowOf t r) ⟨(groupOf t) * 256 + l, by omega⟩) := by
  obtain ⟨e0, e1, e2⟩ := (ix t).1
  unfold iblk
  rw [View.read_apply]
  show V m c main_arg0 _ = _
  rw [V_main_arg0]
  congr 1
  funext a
  apply Fin.ext
  match a with
  | ⟨0, _⟩ => show win0_0.index t 0 * 1 + 1 * 0 = t.val / 32; rw [e0]; omega
  | ⟨1, _⟩ => show win0_0.index t 1 * 256 + 1 * r.val = 256 * (t.val % 16) + r.val; rw [e1]; omega
  | ⟨2, _⟩ => show win0_0.index t 2 * 256 + 1 * l.val = t.val / 16 % 2 * 256 + l.val; rw [e2]; omega

theorem blk1 (t : Fin cfg0.N) (x : Fin 128) (k : Fin 4352) :
    (iblk m c 1 t : Vec Ideal S1x1x128x4352 .bf16) (ix4 0 0 x k)
      = m ((c : Thread nD τ).loc main_arg1) (ix3 (seqOf t) k ⟨(groupOf t) * 64 + x % 64, by omega⟩) := by
  obtain ⟨e0, e1, e2, e3⟩ := (ix t).2.1
  unfold iblk
  rw [View.read_apply, ← keys m c (seqOf t) (groupOf t) x k]
  show V m c main_v8 _ = _
  congr 1
  funext a
  apply Fin.ext
  match a with
  | ⟨0, _⟩ => show win0_1.index t 0 * 1 + 1 * 0 = t.val / 32; rw [e0]; omega
  | ⟨1, _⟩ => show win0_1.index t 1 * 1 + 1 * 0 = t.val / 16 % 2; rw [e1]; omega
  | ⟨2, _⟩ => show win0_1.index t 2 * 128 + 1 * x.val = x.val; rw [e2]; omega
  | ⟨3, _⟩ => show win0_1.index t 3 * 4352 + 1 * k.val = k.val; rw [e3]; omega

theorem blk2 (t : Fin cfg0.N) (k : Fin 4352) (x : Fin 128) :
    (iblk m c 2 t : Vec Ideal S1x1x4352x128 .bf16) (ix4 0 0 k x)
      = m ((c : Thread nD τ).loc main_arg2) (ix3 (seqOf t) k ⟨(groupOf t) * 64 + x % 64, by omega⟩) := by
  obtain ⟨e0, e1, e2, e3⟩ := (ix t).2.2.1
  unfold iblk
  rw [View.read_apply, ← vals m c (seqOf t) (groupOf t) x k]
  show V m c main_v15 _ = _
  congr 1
  funext a
  apply Fin.ext
  match a with
  | ⟨0, _⟩ => show win0_2.index t 0 * 1 + 1 * 0 = t.val / 32; rw [e0]; omega
  | ⟨1, _⟩ => show win0_2.index t 1 * 1 + 1 * 0 = t.val / 16 % 2; rw [e1]; omega
  | ⟨2, _⟩ => show win0_2.index t 2 * 4352 + 1 * k.val = k.val; rw [e2]; omega
  | ⟨3, _⟩ => show win0_2.index t 3 * 128 + 1 * x.val = x.val; rw [e3]; omega

end Cert.GqaIdeal.Attn
end
-- ==== Proof.GqaValue.lean ====
/-
  The grouped-query attention kernel: the array it leaves is the attention of its arguments, entry by entry.
-/
module

public import proofs.«01_k».proof.Proof.GqaBody
public import proofs.«01_k».proof.Proof.GqaBlocks
public import Idealize.ShloMosaic.Lib.Pipeline.ValueKit.Geometry

@[expose] public section

set_option maxRecDepth 16384

noncomputable section

namespace Cert.GqaIdeal.Attn

open Cert.GqaIdeal Cert.GqaIdeal.Gen Cert.Attn Cert.GqaMath Idealize.ShloMosaic Idealize.ShloMosaic.TcCoe Idealize.SL.Sem
open Idealize.ShloMosaic.Pipeline (Dat)

variable (m : (ℓ : Loc nD τ sig) → Buf (Elt Ideal) ℓ) (c : Dev nD)

/-- The attention of the arguments in memory, at query row `t` and column `l`. -/
abbrev resultAt (b : Fin 8) (t : Fin 4096) (l : Fin 512) : EReal :=
  result (m ((c : Thread nD τ).loc main_arg0)) (m ((c : Thread nD τ).loc main_arg1)) (m ((c : Thread nD τ).loc main_arg2))
    b t ⟨l / 256, by omega⟩ ⟨l / 64 % 4, by omega⟩ ⟨l % 64, by omega⟩

/-- The scores on a head's 64 lanes of its pair's 128 are the scores of that head. -/
theorem scores_eq (q : FVec Ideal SQ .bf16) (kg : FVec Ideal SK .bf16) (b : Fin 8) (t : Fin 4096) (h : Fin 2) (l : Fin 256) (k : Fin 4352) :
    scores (fun x => q (ix3 b t ⟨h * 256 + (l / 128 * 128 + x), by omega⟩)) (fun x k => kg (ix3 b k ⟨h * 64 + x % 64, by omega⟩)) (l % 128 / 64) k
      = score q kg b t h ⟨l / 64, by omega⟩ k := by
  unfold scores
  rw [half_sum (fun x => q (ix3 b t ⟨h * 256 + (l / 128 * 128 + x), by omega⟩) * kg (ix3 b k ⟨h * 64 + x % 64, by omega⟩)) ⟨l % 128 / 64, by omega⟩]
  unfold score
  refine Finset.sum_congr rfl fun d _ => ?_
  rw [mul_comm]
  refine congrArg₂ (· * ·) ?_ ?_
  · refine congrArg (fun z => kg (ix3 b k z)) (Fin.ext ?_)
    show h.val * 64 + (64 * (l.val % 128 / 64) + d.val) % 64 = h.val * 64 + d.val
    omega
  · refine congrArg (fun z => q (ix3 b t z)) (Fin.ext ?_)
    show h.val * 256 + (l.val / 128 * 128 + (64 * (l.val % 128 / 64) + d.val)) = h.val * 256 + l.val / 64 * 64 + d.val
    omega

variable (hq : ∀ i, IsReal (m ((c : Thread nD τ).loc main_arg0) i)) (hk : ∀ i, IsReal (m ((c : Thread nD τ).loc main_arg1) i))
include hq hk

/-- What point `t` leaves at row `r`, lane `l` of its block. -/
theorem block (t : Fin cfg0.N) (r l : Fin 256) :
    (out0_3 (F := Ideal) (iblk m c 0 t) (iblk m c 1 t) (iblk m c 2 t) (ix3 0 r l) : EReal)
      = resultAt m c (seqOf t) (rowOf t r) ⟨(groupOf t) * 256 + l, by omega⟩ := by
  rw [out_apply]
  unfold rowOut
  have e0 : (fun x : Fin 128 => (iblk m c 0 t : Vec Ideal S1x256x256 .bf16) (ix3 0 r ⟨l / 128 * 128 + x, by omega⟩))
      = fun x : Fin 128 => m ((c : Thread nD τ).loc main_arg0) (ix3 (seqOf t) (rowOf t r) ⟨groupOf t * 256 + (l / 128 * 128 + x), by omega⟩) :=
    funext fun x => blk0 m c t r _
  have e1 : (fun (x : Fin 128) k => (iblk m c 1 t : Vec Ideal S1x1x128x4352 .bf16) (ix4 0 0 x k)) = _ :=
    funext fun x => funext fun k => blk1 m c t x k
  have e2 : (fun k => (iblk m c 2 t : Vec Ideal S1x1x4352x128 .bf16) (ix4 0 0 k ⟨l % 128, by omega⟩)) = _ :=
    funext fun k => blk2 m c t k ⟨l % 128, by omega⟩
  rw [e0, e1, e2, show scores _ _ _ = _ from funext fun k => scores_eq _ _ (seqOf t) (rowOf t r) (groupOf t) l k,
    pooled_eq_attend (score_real hq hk _ _ _ _)]
  unfold resultAt result
  have eh : (⟨(groupOf t * 256 + l.val) / 256, by omega⟩ : Fin 2) = groupOf t := Fin.ext (by simp only; omega)
  have eg : (⟨(groupOf t * 256 + l.val) / 64 % 4, by omega⟩ : Fin 4) = ⟨l / 64, by omega⟩ := Fin.ext (by simp only; omega)
  have ed : (⟨(groupOf t * 256 + l.val) % 64, by omega⟩ : Fin 64) = ⟨l % 64, by omega⟩ := Fin.ext (by simp only; omega)
  rw [eh, eg, ed]
  congr 1
  funext k
  refine congrArg (fun z => m ((c : Thread nD τ).loc main_arg2) (ix3 (seqOf t) k z)) (Fin.ext ?_)
  simp only
  omega

/-- The array the kernel leaves. -/
theorem value : (dats m 0 c).arrAt 3 cfg0.N = fun i => resultAt m c (i 0) (i 1) (i 2) := by
  refine (dats m 0 c).arrAt_eq_of_covers 3 _ (by decide +kernel) fun t hf y => ?_
  obtain ⟨e0, e1, e2⟩ := (ix t).2.2.2
  blk_simp
  rw [after0_3]
  obtain ⟨r, l, rfl⟩ : ∃ (r l : Fin 256), y = ix3 0 r l := ⟨y 1, y 2, (eq_ix3 y).trans (by congr 1; exact Subsingleton.elim (α := Fin 1) _ _)⟩
  refine (block m c hq hk t r l).trans ?_
  have h0 : (((cfg0.win 3).blk t).view.emb (ix3 0 r l) 0 : Fin 8) = seqOf t := Fin.ext (by
    show win0_3.index t 0 * 1 + 1 * 0 = t.val / 32; rw [e0]; omega)
  have h1 : (((cfg0.win 3).blk t).view.emb (ix3 0 r l) 1 : Fin 4096) = rowOf t r := Fin.ext (by
    show win0_3.index t 1 * 256 + 1 * r.val = 256 * (t.val % 16) + r.val; rw [e1]; omega)
  have h2 : (((cfg0.win 3).blk t).view.emb (ix3 0 r l) 2 : Fin 512) = (⟨groupOf t * 256 + l, by omega⟩ : Fin 512) := Fin.ext (by
    show win0_3.index t 2 * 256 + 1 * l.val = t.val / 16 % 2 * 256 + l.val; rw [e2]; omega)
  show _ = resultAt m c (((cfg0.win 3).blk t).view.emb (ix3 0 r l) 0) (((cfg0.win 3).blk t).view.emb (ix3 0 r l) 1) (((cfg0.win 3).blk t).view.emb (ix3 0 r l) 2)
  rw [h0, h1, h2]

end Cert.GqaIdeal.Attn
end
-- ==== Proof.GqaRef.lean ====
/-
  The reference of grouped-query attention: what each of its arrays is at one entry.
-/
module

public import proofs.«01_k».proof.Proof.Gen.GqaRefIdeal.Read
public import proofs.«01_k».proof.Proof.GqaMath

@[expose] public section

set_option maxRecDepth 16384

noncomputable section

namespace Cert.GqaRefIdeal.Attn

open Cert.GqaRefIdeal Cert.GqaRefIdeal.Gen Cert.GqaRefIdeal.Read Cert.GqaMath Cert.Attn
open Idealize.ShloMosaic Idealize.ShloMosaic.TcCoe Idealize.SL.Sem

variable (q : FVec Ideal S8x4096x512 .bf16) (kg vg : FVec Ideal S8x4352x128 .bf16)

/-- The scores. -/
theorem scores (b : Fin 8) (h : Fin 2) (g : Fin 4) (t : Fin 4096) (k : Fin 4352) :
    val_main_v7 (F := Ideal) q kg (ix5 b h g t k) = score q kg b t h g k := by
  unfold val_main_v7 val_main_v6 val_main_v3 val_main_v2 val_main_v1 val_main_v0
  pointwise
  rfl

/-- The largest entry of each row of a five-axis array. -/
theorem row_max (x : FVec Ideal S8x2x4x4096x4352 .f32) (init : FVec Ideal S_ .f32) (b : Fin 8) (h : Fin 2) (g : Fin 4) (t : Fin 4096)
    (s : Fin 4352 → EReal) (e : ∀ k, x (ix5 b h g t k) = s k) :
    Host.reduce (FloatOps.maximumf (F := Ideal) (φ := .f32)) x init reducesTo_S8x2x4x4096x4352_S8x2x4x4096_d4 h_S_ (ix4 b h g t)
      = Finset.univ.fold max (init (Shape.Idx.first h_S_)) s := by
  have hr : S8x2x4x4096x4352.Reduces [4] S8x2x4x4096 := by decide
  refine (Host.reduce_eq_fold_single (max : EReal → EReal → EReal) x init reducesTo_S8x2x4x4096x4352_S8x2x4x4096_d4 hr h_S_ (ix4 b h g t)).trans ?_
  congr 1
  funext k
  refine Eq.trans (congrArg x ?_) (e k)
  funext a
  apply Fin.ext
  rw [hr.lift_val]
  match a with
  | ⟨0, _⟩ => rfl
  | ⟨1, _⟩ => rfl
  | ⟨2, _⟩ => rfl
  | ⟨3, _⟩ => rfl
  | ⟨4, _⟩ => rfl

/-- The value the row maximum starts from. -/
theorem bits (i : S_.Idx) : val_main_cst (F := Ideal) i = Ideal.ofBits FTy.f32 4286578688#32 := rfl
theorem bits₀ (i : S_.Idx) : val_main_cst_0 (F := Ideal) i = Ideal.ofBits FTy.f32 4286578688#32 := rfl

/-- The largest score of each row. -/
theorem tops (b : Fin 8) (h : Fin 2) (g : Fin 4) (t : Fin 4096) :
    val_main_v10 (F := Ideal) q kg (ix4 b h g t) = top (score q kg b t h g) := by
  have e : ∀ k, val_main_v7 (F := Ideal) q kg (ix5 b h g t k) = score q kg b t h g k := scores q kg b h g t
  have e8 : val_main_v8 (F := Ideal) q kg (ix4 b h g t) = top (score q kg b t h g) := by
    unfold val_main_v8
    rw [row_max _ _ b h g t _ e, bits]
    rfl
  rw [val_main_v10_apply, e8, val_main_v9_apply, bits₀]
  exact max_top _

/-- The weights. -/
theorem weights (b : Fin 8) (h : Fin 2) (g : Fin 4) (t : Fin 4096) (k : Fin 4352) :
    val_main_v14 (F := Ideal) q kg (ix5 b h g t k) = weight (score q kg b t h g) k := by
  have e := scores q kg b h g t k
  have e' := tops q kg b h g t
  unfold val_main_v14 val_main_v13 val_main_v12 val_main_v11
  generalize val_main_v7 (F := Ideal) q kg = x at e
  generalize val_main_v10 (F := Ideal) q kg = y at e'
  pointwise
  rw [e, e']
  rfl

/-- The softmax. -/
theorem softmax (b : Fin 8) (h : Fin 2) (g : Fin 4) (t : Fin 4096) (k : Fin 4352) :
    val_main_v18 (F := Ideal) q kg (ix5 b h g t k) = Ideal.div (weight (score q kg b t h g) k) (mass (score q kg b t h g)) := by
  have e : ∀ k, val_main_v14 (F := Ideal) q kg (ix5 b h g t k) = weight (score q kg b t h g) k := weights q kg b h g t
  unfold val_main_v18 val_main_v17 val_main_v16 val_main_v15 val_main_cst_1
  generalize val_main_v14 (F := Ideal) q kg = x at e
  pointwise
  simp only [e]
  rfl

/-- The result. -/
theorem value (b : Fin 8) (t : Fin 4096) (l : Fin 512) :
    val_main_v22 (F := Ideal) q kg vg (ix3 b t l)
      = result q kg vg b t ⟨l / 256, by omega⟩ ⟨l / 64 % 4, by omega⟩ ⟨l % 64, by omega⟩ := by
  have e : ∀ k, val_main_v18 (F := Ideal) q kg (ix5 b ⟨l / 256, by omega⟩ ⟨l / 64 % 4, by omega⟩ t k) = _ :=
    softmax q kg b ⟨l / 256, by omega⟩ ⟨l / 64 % 4, by omega⟩ t
  unfold val_main_v22 val_main_v21 val_main_v20 val_main_v19 val_main_v5 val_main_v4
  generalize val_main_v18 (F := Ideal) q kg = x at e
  pointwise
  unfold result attend
  refine Finset.sum_congr rfl fun k _ => ?_
  rw [← e k]

end Cert.GqaRefIdeal.Attn
end
-- ==== Proof.GqaClaims.lean ====
/-
  What is claimed of the grouped-query attention's kernel and of its reference: both run and leave their arguments as they were, and,
  from queries and keys with no infinite entry, the kernel's result is the reference's.
-/
module

public import proofs.«01_k».proof.Defs
public import proofs.«01_k».proof.Proof.Gen.Gqa.Frame
public import proofs.«01_k».proof.Proof.Gen.GqaIdeal.Frame
public import proofs.«01_k».proof.Proof.Gen.Pre_finite_scores
public import proofs.«01_k».proof.Proof.GqaValue
public import proofs.«01_k».proof.Proof.GqaRef
public import Idealize.ShloMosaic.Lib.Quiescent

@[expose] public section

set_option maxRecDepth 16384

noncomputable section

namespace Cert.Gqa

open Idealize.ShloMosaic Idealize.ShloMosaic.TcCoe Idealize.SL.Sem Cert.Attn

/-- The attention's kernel, at the machine's floats, runs, leaves its arguments and ends with every semaphore at zero. -/
theorem frame_kernel : Cert.quiescent_Gqa (hGqa := Cert.Gqa.Gen.facts) := fun m ρ _ => Cert.Gqa.Gen.frame m ρ

/-- The same over the extended reals. -/
theorem frame_ideal : Cert.quiescent_GqaIdeal (hGqaIdeal := Cert.GqaIdeal.Gen.facts) := fun m ρ _ => Cert.GqaIdeal.Gen.frame m ρ

/-- The reference runs, leaves its arguments and ends with every semaphore at zero. -/
theorem frame_reference : Cert.quiescent_GqaRefIdeal (hGqaRefIdeal := Cert.GqaRefIdeal.Gen.facts) := fun m ρ _ =>
  (θ_run _ _ _).mono (fun r h => ⟨fun c => (h c).2, sem_eq_zero_of_no_sems (by decide) r.2⟩) (Cert.GqaRefIdeal.Value.run m ρ)

/-- The bit pattern of plus infinity. -/
theorem bits_top : Ideal.ofBits FTy.f32 2139095040#32 = ⊤ := rfl

/-- Where the comparison of absolute values with plus infinity says one, the array is real. -/
theorem real_of_pre {s : Shape} {x : FVec Ideal s .bf16} {h : FTy.bits .bf16 < FTy.bits .f32} {hb : Shape.BroadcastsInDim ⟨0, ![]⟩ s ![]}
    (hx : cmpf .olt (Host.absf (extf .f32 x h)) (broadcastInDim s ![] hb (constant ⟨0, ![]⟩ .f32 0x7F800000#32)) = fun _ => 1#1) (i : s.Idx) : IsReal (x i) := by
  have e : BitVec.ofBool (decide (max (x i : EReal) (-(x i : EReal)) < Ideal.ofBits FTy.f32 2139095040#32)) = 1#1 := congrFun hx i
  rw [bits_top] at e
  exact IsReal.of_abs_lt (by by_contra hn; simp [hn] at e)

/-- From arguments that agree, the array the kernel leaves is the array the reference leaves. -/
theorem arrays_eq (m : (ℓ : Loc Cert.GqaIdeal.nD Cert.GqaIdeal.τ Cert.GqaIdeal.sig) → Buf (Elt Ideal) ℓ)
    (q : FVec Ideal GqaMath.SQ .bf16) (kg vg : FVec Ideal GqaMath.SK .bf16) (c : Dev Cert.GqaIdeal.nD)
    (h0 : q = m ((c.tc : Thread Cert.GqaIdeal.nD Cert.GqaIdeal.τ).loc Cert.GqaIdeal.main_arg0))
    (h1 : kg = m ((c.tc : Thread Cert.GqaIdeal.nD Cert.GqaIdeal.τ).loc Cert.GqaIdeal.main_arg1))
    (h2 : vg = m ((c.tc : Thread Cert.GqaIdeal.nD Cert.GqaIdeal.τ).loc Cert.GqaIdeal.main_arg2))
    (hq : ∀ i, IsReal (q i)) (hk : ∀ i, IsReal (kg i)) :
    Cert.GqaRefIdeal.Read.val_main_v22 q kg vg = (Cert.GqaIdeal.Gen.dats m 0 c).arrAt 3 Cert.GqaIdeal.cfg0.N := by
  subst h0 h1 h2
  rw [Cert.GqaIdeal.Attn.value m c hq hk]
  funext i
  rw [eq_ix3 i]
  exact Cert.GqaRefIdeal.Attn.value _ _ _ (i 0) (i 1) (i 2)

/-- Kernel and reference, from arguments that agree and whose queries and keys are finite, end with the same result. -/
theorem algebraic : Cert.algebraic_GqaIdeal_GqaRefIdeal_pre_finite_scores (hGqaIdeal := Cert.GqaIdeal.Gen.facts)
    (hGqaRefIdeal := Cert.GqaRefIdeal.Gen.facts) (hPre_finite_scores := Cert.Pre_finite_scores.Gen.facts) := by
  intro m ρ m' ρ' hpre hagree
  refine ⟨fun c => (Cert.GqaIdeal.Gen.dats m 0 c).arrAt 3 Cert.GqaIdeal.cfg0.N, Cert.GqaIdeal.Value.run_blocks m ρ, ?_⟩
  refine (θ_run _ _ _).mono (fun r h c => ⟨(h c).1.trans ?_, (h c).2⟩) (Cert.GqaRefIdeal.Value.run m' ρ')
  obtain ⟨h0, h1, h2⟩ := hagree c
  refine (Cert.GqaRefIdeal.Read.val_main_v22_eq _ _ _).trans (arrays_eq m _ _ _ c h0 h1 h2 ?_ ?_)
  · rw [h0]; exact real_of_pre (hpre c).1
  · rw [h1]; exact real_of_pre (hpre c).2

end Cert.Gqa
end
-- ==== Proof.DiffMath.lean ====
/-
  Differential attention as a function of the queries, keys, values, the four vectors of lambda and the gain: two softmax maps per
  head, the second weighted by lambda and taken off the first, then a norm over the head's 64 features.
-/
module

public import proofs.«01_k».proof.Proof.AttnMath

@[expose] public section

noncomputable section

namespace Cert.DiffMath

open Idealize.ShloMosaic Cert.Attn

/-- The queries' shape. -/
abbrev SQ : Shape := ⟨3, ![8, 4096, 256]⟩
/-- The keys' and the values' shape. -/
abbrev SK : Shape := ⟨3, ![8, 4352, 256]⟩
/-- The shape of a vector of lambda. -/
abbrev SL : Shape := ⟨1, ![32]⟩
/-- The gain's shape. -/
abbrev SG : Shape := ⟨1, ![64]⟩

/-- The score of query row `t` with key row `k` in map `c` of head `h`. -/
def score (q : FVec Ideal SQ .bf16) (kd : FVec Ideal SK .bf16) (b : Fin 8) (t : Fin 4096) (h : Fin 4) (c : Fin 2) (k : Fin 4352) : EReal :=
  ∑ d : Fin 32, q (ix3 b t ⟨h * 64 + c * 32 + d, by omega⟩) * kd (ix3 b k ⟨h * 64 + c * 32 + d, by omega⟩)

/-- The weight of the second map, from its four vectors. -/
def lambda (q₁ k₁ q₂ k₂ : Fin 32 → EReal) : EReal :=
  Ideal.exp (∑ d, q₁ d * k₁ d) - Ideal.exp (∑ d, q₂ d * k₂ d) + Ideal.ofBits FTy.f32 1045220557#32

/-- The values summed with the difference of the two softmax maps. -/
def mixed {n : ℕ} (s₀ s₁ : Fin n → EReal) (lam : EReal) (v : Fin n → EReal) : EReal :=
  ∑ k, v k * (Ideal.div (weight s₀ k) (mass s₀) - lam * Ideal.div (weight s₁ k) (mass s₁))

/-- One feature of a head after its norm, gain and constant factor. -/
def normed (o : Fin 64 → EReal) (g : EReal) (d : Fin 64) : EReal :=
  o d * Ideal.rsqrt (Ideal.div (∑ e, o e * o e) (Ideal.ofBits FTy.f32 1115684864#32) + Ideal.ofBits FTy.f32 897988541#32) * g
    * Ideal.ofBits FTy.f32 1061997773#32

/-- The attention's result at query row `t`, head `h`, feature `d`. -/
def result (q : FVec Ideal SQ .bf16) (kd vd : FVec Ideal SK .bf16) (q₁ k₁ q₂ k₂ : FVec Ideal SL .f32) (g : FVec Ideal SG .f32)
    (b : Fin 8) (t : Fin 4096) (h : Fin 4) (d : Fin 64) : EReal :=
  normed (fun e => mixed (score q kd b t h 0) (score q kd b t h 1)
      (lambda (fun d => q₁ (ix1 d)) (fun d => k₁ (ix1 d)) (fun d => q₂ (ix1 d)) (fun d => k₂ (ix1 d)))
      fun k => vd (ix3 b k ⟨h * 64 + e, by omega⟩)) (g (ix1 d)) d

/-- The scores of real queries and keys are real. -/
theorem score_real {q : FVec Ideal SQ .bf16} {kd : FVec Ideal SK .bf16} (hq : ∀ i, IsReal (q i)) (hk : ∀ i, IsReal (kd i))
    (b : Fin 8) (t : Fin 4096) (h : Fin 4) (c : Fin 2) (k : Fin 4352) : IsReal (score q kd b t h c k) :=
  IsReal.sum _ fun _ => (hq _).mul (hk _)

/-- The constant in lambda is real. -/
theorem bits_fifth : IsReal (Ideal.ofBits FTy.f32 1045220557#32) := ⟨_, rfl⟩

/-- Lambda of real vectors is real. -/
theorem lambda_real {q₁ k₁ q₂ k₂ : Fin 32 → EReal} (h₁ : ∀ d, IsReal (q₁ d)) (h₂ : ∀ d, IsReal (k₁ d)) (h₃ : ∀ d, IsReal (q₂ d))
    (h₄ : ∀ d, IsReal (k₂ d)) : IsReal (lambda q₁ k₁ q₂ k₂) :=
  (((IsReal.sum _ fun d => (h₁ d).mul (h₂ d)).exp).sub ((IsReal.sum _ fun d => (h₃ d).mul (h₄ d)).exp)).add bits_fifth

/-- A finite sum of real numbers. -/
theorem coe_sum {n : ℕ} (f : Fin n → ℝ) : ((∑ k, f k : ℝ) : EReal) = ∑ k, (f k : EReal) :=
  map_sum (⟨⟨Real.toEReal, rfl⟩, EReal.coe_add⟩ : ℝ →+ EReal) f Finset.univ

/-- Taking the two pooled sums' difference is pooling with the difference of the maps, when everything is real. -/
theorem pooled_sub_eq_mixed {n : ℕ} [NeZero n] {s₀ s₁ v : Fin n → EReal} {lam : EReal} (h₀ : ∀ k, IsReal (s₀ k)) (h₁ : ∀ k, IsReal (s₁ k))
    (hv : ∀ k, IsReal (v k)) (hl : IsReal lam) : pooled s₀ v - lam * pooled s₁ v = mixed s₀ s₁ lam v := by
  rw [pooled_eq_attend h₀, pooled_eq_attend h₁]
  obtain ⟨lam, rfl⟩ := hl
  choose u hu using hv
  have hw : ∀ {s : Fin n → EReal}, (∀ k, IsReal (s k)) → ∀ k, ∃ w : ℝ, Ideal.div (weight s k) (mass s) = w := fun h k => by
    obtain ⟨p, -, hp⟩ := weight_pos h k
    obtain ⟨l, hl, he⟩ := mass_pos h
    exact ⟨p * (1 / l), by rw [hp, he, Ideal.div_coe hl.ne', EReal.coe_mul]⟩
  choose w₀ e₀ using hw h₀
  choose w₁ e₁ using hw h₁
  unfold attend mixed
  simp only [hu, e₀, e₁, ← EReal.coe_mul, ← EReal.coe_sub, ← coe_sum]
  congr 1
  simp only [mul_sub, Finset.sum_sub_distrib, Finset.mul_sum]
  congr 1
  exact Finset.sum_congr rfl fun k _ => by ring

/-- Multiplying by one sixty-fourth is dividing by sixty-four. -/
theorem mul_eq_div (x : EReal) : x * Ideal.ofBits FTy.f32 1015021568#32 = Ideal.div x (Ideal.ofBits FTy.f32 1115684864#32) := by
  have e₁ : Ideal.ofBits FTy.f32 1015021568#32 = ((1 / 64 : ℝ) : EReal) := by
    simp [Ideal.ofBits, Ideal.ieee]; rw [← EReal.coe_mul]; norm_num
  have e₂ : Ideal.ofBits FTy.f32 1115684864#32 = ((64 : ℝ) : EReal) := by
    simp [Ideal.ofBits, Ideal.ieee]; rw [← EReal.coe_mul]; norm_num
  rw [e₁, e₂, Ideal.div_coe (by norm_num)]

/-- The sum over 128 lanes of which only the 32 of map `a` count. -/
theorem quarter_sum (f : Fin 128 → EReal) (a : Fin 4) :
    (∑ x : Fin 128, if x.val / 32 = a.val then f x else 0) = ∑ d : Fin 32, f ⟨32 * a.val + d.val, by omega⟩ := by
  rw [← Finset.sum_filter]
  refine (Finset.sum_bij' (fun d _ => (⟨32 * a.val + d.val, by omega⟩ : Fin 128)) (fun x _ => (⟨x.val % 32, by omega⟩ : Fin 32))
    ?_ ?_ ?_ ?_ ?_).symm
  · intro d _; simp only [Finset.mem_filter, Finset.mem_univ, true_and]; omega
  · intro x _; exact Finset.mem_univ _
  · intro d _; apply Fin.ext; show (32 * a.val + d.val) % 32 = d.val; omega
  · intro x hx
    simp only [Finset.mem_filter, Finset.mem_univ, true_and] at hx
    apply Fin.ext; show 32 * a.val + x.val % 32 = x.val; omega
  · intro d _; rfl

end Cert.DiffMath
end
-- ==== Proof.DiffBody.lean ====
/-
  The differential attention kernel: what the body stores for one block. Two heads share 128 lanes; each of their four score maps is
  computed with the other maps' lanes set to zero, and each head's norm with the other head's lanes set to zero.
-/
module

public import proofs.«01_k».proof.Proof.Gen.DiffIdeal.Value
public import proofs.«01_k».proof.Proof.DiffMath

@[expose] public section

set_option maxRecDepth 16384

noncomputable section

namespace Cert.DiffIdeal.Attn

open Cert.DiffIdeal Cert.DiffIdeal.Gen Cert.Attn Cert.DiffMath Idealize.ShloMosaic Idealize.ShloMosaic.TcCoe Idealize.SL.Sem

/-- The lane numbers. -/
abbrev lanes : IVec S256x128 32 := iota .tc S256x128 32 [1] iota_S256x128_d1_w32

/-- The masks of the four maps, 32 lanes each. -/
theorem map₀ (x : Fin 128) : IntOp.andi (IntOp.cmpi .sge (BitVec.ofNat 32 x) 0#32) (IntOp.cmpi .slt (BitVec.ofNat 32 x) 32#32)
    = if x.val / 32 = 0 then 1#1 else 0#1 := by
  revert x; decide +kernel
theorem map₁ (x : Fin 128) : IntOp.andi (IntOp.cmpi .sge (BitVec.ofNat 32 x) 32#32) (IntOp.cmpi .slt (BitVec.ofNat 32 x) 64#32)
    = if x.val / 32 = 1 then 1#1 else 0#1 := by
  revert x; decide +kernel
theorem map₂ (x : Fin 128) : IntOp.andi (IntOp.cmpi .sge (BitVec.ofNat 32 x) 64#32) (IntOp.cmpi .slt (BitVec.ofNat 32 x) 96#32)
    = if x.val / 32 = 2 then 1#1 else 0#1 := by
  revert x; decide +kernel
theorem map₃ (x : Fin 128) : IntOp.andi (IntOp.cmpi .sge (BitVec.ofNat 32 x) 96#32) (IntOp.cmpi .slt (BitVec.ofNat 32 x) 128#32)
    = if x.val / 32 = 3 then 1#1 else 0#1 := by
  revert x; decide +kernel

/-- The masks of the two heads, 64 lanes each. -/
theorem head₀ (x : Fin 128) : IntOp.andi (IntOp.cmpi .sge (BitVec.ofNat 32 x) 0#32) (IntOp.cmpi .slt (BitVec.ofNat 32 x) 64#32)
    = if x.val / 64 = 0 then 1#1 else 0#1 := by
  revert x; decide +kernel
theorem head₁ (x : Fin 128) : IntOp.andi (IntOp.cmpi .sge (BitVec.ofNat 32 x) 64#32) (IntOp.cmpi .slt (BitVec.ofNat 32 x) 128#32)
    = if x.val / 64 = 1 then 1#1 else 0#1 := by
  revert x; decide +kernel

theorem select_if {p : Prop} [Decidable p] (a b : EReal) : Scalar.select (if p then 1#1 else 0#1) a b = if p then a else b := by
  split <;> rfl

/-- The scores of a row of queries with the lanes of map `a`. -/
def scores (q : Fin 128 → EReal) (kt : Fin 128 → Fin 4352 → EReal) (a : ℕ) (k : Fin 4352) : EReal :=
  ∑ x : Fin 128, if x.val / 32 = a then q x * kt x k else 0

/-- The difference of head `h`'s two pooled sums at lane `l`. -/
def pair (q : Fin 128 → EReal) (kt : Fin 128 → Fin 4352 → EReal) (v : Fin 4352 → Fin 128 → EReal) (lam : EReal) (h : ℕ) (l : Fin 128) : EReal :=
  pooled (scores q kt (2 * h)) (fun k => v k l) - lam * pooled (scores q kt (2 * h + 1)) (fun k => v k l)

/-- Lane `l` after the norm over head `h`'s lanes and the gain. -/
def scaled (o : Fin 128 → EReal) (h : ℕ) (g : EReal) (l : Fin 128) : EReal :=
  o l * Ideal.rsqrt ((∑ x : Fin 128, if x.val / 64 = h then o x * o x else 0) * Ideal.ofBits FTy.f32 1015021568#32
    + Ideal.ofBits FTy.f32 897988541#32) * g

variable (x0 : FVec Ideal S1x256x128 .bf16) (x1 : FVec Ideal S1x1x128x4352 .bf16) (x2 : FVec Ideal S1x4352x128 .bf16) (lam : FVec Ideal S1x1 .f32)

/-- The first head. -/
theorem first (r : Fin 256) (l : Fin 128) :
    k0_pay8 (F := Ideal) (k0_pay2 x1) (k0_pay3 x2) lam (k0_pay5 x0) lanes k0_pay7 (Scalar.ofBits .bf16 0x0000#16) (ix2 r l)
      = pair (fun x => x0 (ix3 0 r x)) (fun x k => x1 (ix4 0 0 x k)) (fun k l => x2 (ix3 0 k l)) (lam (ix2 0 0)) 0 l := by
  unfold lanes
  pointwise [k0_pay8, k0_pay2, k0_pay3, k0_pay5, k0_pay7]
  simp only [map₀, map₁, select_if]
  rfl

/-- The first map of the second head. -/
theorem third (r : Fin 256) (l : Fin 128) :
    k0_pay11 (F := Ideal) (k0_pay2 x1) (k0_pay3 x2) (k0_pay5 x0) lanes (ix2 r l)
      = pooled (scores (fun x => x0 (ix3 0 r x)) (fun x k => x1 (ix4 0 0 x k)) 2) (fun k => x2 (ix3 0 k l)) := by
  unfold lanes
  pointwise [k0_pay11, k0_pay2, k0_pay3, k0_pay5]
  simp only [map₂, select_if]
  rfl

/-- The second head, after its norm. -/
theorem second (g : FVec Ideal S1x128 .f32) (r : Fin 256) (l : Fin 128) :
    k0_pay14 (F := Ideal) (k0_pay2 x1) (k0_pay3 x2) lam (k0_pay5 x0) lanes (k0_pay11 (k0_pay2 x1) (k0_pay3 x2) (k0_pay5 x0) lanes) k0_pay12 g (ix2 r l)
      = scaled (pair (fun x => x0 (ix3 0 r x)) (fun x k => x1 (ix4 0 0 x k)) (fun k l => x2 (ix3 0 k l)) (lam (ix2 0 0)) 1) 1 (g (ix2 0 l)) l := by
  have e := third x0 x1 x2 r
  generalize k0_pay11 (F := Ideal) (k0_pay2 x1) (k0_pay3 x2) (k0_pay5 x0) lanes = o at e
  unfold lanes
  pointwise [k0_pay14, k0_pay12, k0_pay13, k0_pay2, k0_pay3, k0_pay5]
  simp only [map₃, head₁, select_if, e]
  rfl

/-- The two heads side by side. -/
theorem both (o₁ o₂ : FVec Ideal S256x128 .f32) (g : FVec Ideal S1x128 .f32) (r : Fin 256) (l : Fin 128) :
    k0_pay1 (F := Ideal) (k0_pay10 k0_pay6 o₁ (k0_pay9 lanes) g) (k0_pay13 lanes) o₂ (Scalar.ofBits .f32 0x3F4CCCCD#32) (ix3 0 r l)
      = (if l.val / 64 = 0 then scaled (fun x => o₁ (ix2 r x)) 0 (g (ix2 0 l)) l else o₂ (ix2 r l)) * Ideal.ofBits FTy.f32 1061997773#32 := by
  unfold lanes
  pointwise [k0_pay1, k0_pay10, k0_pay6, k0_pay9, k0_pay13]
  simp only [head₀, head₁, select_if]
  rcases (by omega : l.val / 64 = 0 ∨ l.val / 64 = 1) with h | h
  · rw [h, if_pos rfl, if_neg (by decide), if_pos rfl, add_zero]; rfl
  · rw [h, if_neg (by decide), if_pos rfl, if_neg (by decide), zero_add]

/-- What the body stores at row `r` and lane `l`. -/
def rowOut (q : Fin 128 → EReal) (kt : Fin 128 → Fin 4352 → EReal) (v : Fin 4352 → Fin 128 → EReal) (lam g : EReal) (l : Fin 128) : EReal :=
  scaled (pair q kt v lam (l / 64)) (l / 64) g l * Ideal.ofBits FTy.f32 1061997773#32

/-- Lambda as the body computes it. -/
theorem lambda_eq (a b c d : FVec Ideal S1x32 .f32) :
    k0_pay4 (F := Ideal) a b c d (ix2 0 0) = lambda (fun i => a (ix2 0 i)) (fun i => b (ix2 0 i)) (fun i => c (ix2 0 i)) (fun i => d (ix2 0 i)) := by
  pointwise [k0_pay4]
  rfl

theorem zeros4 : (![0, 0, 0, 0] : Fin 4 → ℕ) = fun _ => 0 := by funext a; fin_cases a <;> rfl
theorem zeros3 : (![0, 0, 0] : Fin 3 → ℕ) = fun _ => 0 := by funext a; fin_cases a <;> rfl
theorem zeros2 : (![0, 0] : Fin 2 → ℕ) = fun _ => 0 := by funext a; fin_cases a <;> rfl

/-- The block the body leaves. -/
theorem out_apply (x3 x4 x5 x6 : FVec Ideal S1x32 .f32) (x7 : FVec Ideal S1x128 .f32) (r : Fin 256) (l : Fin 128) :
    (out0_8 (F := Ideal) x0 x1 x2 x3 x4 x5 x6 x7 (ix3 0 r l) : EReal)
      = rowOut (fun x => x0 (ix3 0 r x)) (fun x k => x1 (ix4 0 0 x k)) (fun k l => x2 (ix3 0 k l))
          (lambda (fun i => x3 (ix2 0 i)) (fun i => x4 (ix2 0 i)) (fun i => x5 (ix2 0 i)) (fun i => x6 (ix2 0 i))) (x7 (ix2 0 l)) l := by
  have z0 : View.ld (Val := Elt Ideal) (e' := .bf16) x0 r0_3 = x0 := View.ld_unit_zero (Val := Elt Ideal) (e := .bf16) (S := S1x256x128) zeros3 _ x0
  have z1 : View.ld (Val := Elt Ideal) (e' := .bf16) x1 r0_0 = x1 := View.ld_unit_zero (Val := Elt Ideal) (e := .bf16) (S := S1x1x128x4352) zeros4 _ x1
  have z2 : View.ld (Val := Elt Ideal) (e' := .bf16) x2 r0_1 = x2 := View.ld_unit_zero (Val := Elt Ideal) (e := .bf16) (S := S1x4352x128) zeros3 _ x2
  have zl : ∀ x : FVec Ideal S1x32 .f32, View.ld (Val := Elt Ideal) (e' := .f32) x r0_2 = x := fun x =>
    View.ld_unit_zero (Val := Elt Ideal) (e := .f32) (S := S1x32) zeros2 _ x
  have z7 : View.ld (Val := Elt Ideal) (e' := .f32) x7 r0_4 = x7 := View.ld_unit_zero (Val := Elt Ideal) (e := .f32) (S := S1x128) zeros2 _ x7
  unfold out0_8 k0_pay19 k0_pay18 k0_pay17 k0_pay16 k0_pay15
  rw [View.canon_unit_zero zeros3, z0, z1, z2, zl, zl, zl, zl, z7]
  refine (both _ _ _ r l).trans ?_
  rw [second, show (fun x => k0_pay8 (F := Ideal) _ _ _ _ _ _ _ (ix2 r x)) = _ from funext fun x => first x0 x1 x2 _ r x, lambda_eq]
  unfold rowOut
  rcases (by omega : l.val / 64 = 0 ∨ l.val / 64 = 1) with h | h
  · rw [h, if_pos rfl]
  · rw [h, if_neg (by decide)]

end Cert.DiffIdeal.Attn
end
-- ==== Proof.DiffBlocks.lean ====
/-
  The differential attention kernel: the block each input window hands the body at a grid point, as entries of the argument arrays.
  Point `t` works on sequence `t / 32`, on the pair of heads number `t / 16 mod 2`, and on the tile of 256 query rows number `t mod 16`.
-/
module

public import proofs.«01_k».proof.Proof.Gen.DiffIdeal.Value
public import proofs.«01_k».proof.Proof.DiffMath
public import Idealize.ShloMosaic.Lib.Pointwise

@[expose] public section

set_option maxRecDepth 16384

noncomputable section

namespace Cert.DiffIdeal.Attn

open Cert.DiffIdeal Cert.DiffIdeal.Gen Idealize.ShloMosaic Idealize.ShloMosaic.TcCoe Idealize.SL.Sem

variable (m : (ℓ : Loc nD τ sig) → Buf (Elt Ideal) ℓ) (c : Dev nD)

/-- The keys as the kernel takes them: transposed, one pair of heads after the other. -/
theorem keys (b : Fin 8) (h : Fin 2) (x : Fin 128) (k : Fin 4352) :
    V m c main_v1 (ix4 b h x k) = m ((c : Thread nD τ).loc main_arg1) (ix3 b k ⟨h * 128 + x, by omega⟩) := by
  have hV : V m c main_v1 = transpose S8x2x128x4352 [0, 2, 3, 1]
      (shapeCast S8x4352x2x128 (m ((c : Thread nD τ).loc main_arg1)) shapeCasts_S8x4352x256_S8x4352x2x128) transposes_S8x4352x2x128_S8x2x128x4352_0_2_3_1 := by
    unfold V hostOps0
    after_results <;> rfl
  rw [hV]
  pointwise

/-- The gain as the kernel takes it: twice side by side. -/
theorem gain (l : Fin 128) : V m c main_v5 (ix2 0 l) = m ((c : Thread nD τ).loc main_arg7) (ix1 ⟨l % 64, by omega⟩) := by
  have hV : V m c main_v5 = broadcastInDim S1x128 ![1] bcast_S128_S1x128_1 (shapeCast S128
      (broadcastInDim S2x64 ![0, 1] bcast_S1x64_S2x64_0_1 (shapeCast S1x64 (m ((c : Thread nD τ).loc main_arg7)) shapeCasts_S64_S1x64)) shapeCasts_S2x64_S128) := by
    unfold V hostOps0
    after_results <;> rfl
  rw [hV]
  pointwise

/-- The four vectors of lambda as the kernel takes them: as rows. -/
theorem row1 (d : Fin 32) : V m c main_v6 (ix2 0 d) = m ((c : Thread nD τ).loc main_arg3) (ix1 d) := by
  have hV : V m c main_v6 = broadcastInDim S1x32 ![1] bcast_S32_S1x32_1 (m ((c : Thread nD τ).loc main_arg3)) := by
    unfold V hostOps0
    after_results <;> rfl
  rw [hV]
  pointwise

theorem row2 (d : Fin 32) : V m c main_v7 (ix2 0 d) = m ((c : Thread nD τ).loc main_arg4) (ix1 d) := by
  have hV : V m c main_v7 = broadcastInDim S1x32 ![1] bcast_S32_S1x32_1 (m ((c : Thread nD τ).loc main_arg4)) := by
    unfold V hostOps0
    after_results <;> rfl
  rw [hV]
  pointwise

theorem row3 (d : Fin 32) : V m c main_v8 (ix2 0 d) = m ((c : Thread nD τ).loc main_arg5) (ix1 d) := by
  have hV : V m c main_v8 = broadcastInDim S1x32 ![1] bcast_S32_S1x32_1 (m ((c : Thread nD τ).loc main_arg5)) := by
    unfold V hostOps0
    after_results <;> rfl
  rw [hV]
  pointwise

theorem row4 (d : Fin 32) : V m c main_v9 (ix2 0 d) = m ((c : Thread nD τ).loc main_arg6) (ix1 d) := by
  have hV : V m c main_v9 = broadcastInDim S1x32 ![1] bcast_S32_S1x32_1 (m ((c : Thread nD τ).loc main_arg6)) := by
    unfold V hostOps0
    after_results <;> rfl
  rw [hV]
  pointwise

/-- The sequence point `t` works on. -/
def seqOf (t : Fin cfg0.N) : Fin 8 := ⟨t.val / 32, by have := lt_of_lt_of_eq t.isLt N_0; omega⟩
/-- The pair of heads point `t` works on. -/
def pairOf (t : Fin cfg0.N) : Fin 2 := ⟨t.val / 16 % 2, by omega⟩
/-- The query row that row `r` of point `t`'s tile is. -/
def rowOf (t : Fin cfg0.N) (r : Fin 256) : Fin 4096 := ⟨256 * (t.val % 16) + r.val, by omega⟩

/-- The tile, the sequence and the pair of heads that point `t` works on. -/
theorem ix : ∀ t : Fin cfg0.N,
    (win0_0.index t 0 = t.val / 32 ∧ win0_0.index t 1 = t.val % 16 ∧ win0_0.index t 2 = t.val / 16 % 2)
    ∧ (win0_1.index t 0 = t.val / 32 ∧ win0_1.index t 1 = t.val / 16 % 2 ∧ win0_1.index t 2 = 0 ∧ win0_1.index t 3 = 0)
    ∧ (win0_2.index t 0 = t.val / 32 ∧ win0_2.index t 1 = 0 ∧ win0_2.index t 2 = t.val / 16 % 2)
    ∧ (win0_8.index t 0 = t.val / 32 ∧ win0_8.index t 1 = t.val % 16 ∧ win0_8.index t 2 = t.val / 16 % 2) :=
  (by decide +kernel : ∀ t : Fin grid0.N, _)

/-- The windows that stay where they are. -/
theorem ix_still : ∀ t : Fin cfg0.N,
    (win0_3.index t 0 = 0 ∧ win0_3.index t 1 = 0) ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) :=
  (by decide +kernel : ∀ t : Fin grid0.N, _)

theorem blk0 (t : Fin cfg0.N) (r : Fin 256) (x : Fin 128) :
    (iblk m c 0 t : Vec Ideal S1x256x128 .bf16) (ix3 0 r x)
      = m ((c : Thread nD τ).loc main_arg0) (ix3 (seqOf t) (rowOf t r) ⟨(pairOf t) * 128 + x, by omega⟩) := by
  obtain ⟨e0, e1, e2⟩ := (ix t).1
  unfold iblk
  rw [View.read_apply]
  show V m c main_arg0 _ = _
  rw [V_main_arg0]
  congr 1
  funext a
  apply Fin.ext
  match a with
  | ⟨0, _⟩ => show win0_0.index t 0 * 1 + 1 * 0 = t.val / 32; rw [e0]; omega
  | ⟨1, _⟩ => show win0_0.index t 1 * 256 + 1 * r.val = 256 * (t.val % 16) + r.val; rw [e1]; omega
  | ⟨2, _⟩ => show win0_0.index t 2 * 128 + 1 * x.val = t.val / 16 % 2 * 128 + x.val; rw [e2]; omega

theorem blk1 (t : Fin cfg0.N) (x : Fin 128) (k : Fin 4352) :
    (iblk m c 1 t : Vec Ideal S1x1x128x4352 .bf16) (ix4 0 0 x k)
      = m ((c : Thread nD τ).loc main_arg1) (ix3 (seqOf t) k ⟨(pairOf t) * 128 + x, by omega⟩) := by
  obtain ⟨e0, e1, e2, e3⟩ := (ix t).2.1
  unfold iblk
  rw [View.read_apply, ← keys m c (seqOf t) (pairOf t) x k]
  show V m c main_v1 _ = _
  congr 1
  funext a
  apply Fin.ext
  match a with
  | ⟨0, _⟩ => show win0_1.index t 0 * 1 + 1 * 0 = t.val / 32; rw [e0]; omega
  | ⟨1, _⟩ => show win0_1.index t 1 * 1 + 1 * 0 = t.val / 16 % 2; rw [e1]; omega
  | ⟨2, _⟩ => show win0_1.index t 2 * 128 + 1 * x.val = x.val; rw [e2]; omega
  | ⟨3, _⟩ => show win0_1.index t 3 * 4352 + 1 * k.val = k.val; rw [e3]; omega

theorem blk2 (t : Fin cfg0.N) (k : Fin 4352) (x : Fin 128) :
    (iblk m c 2 t : Vec Ideal S1x4352x128 .bf16) (ix3 0 k x)
      = m ((c : Thread nD τ).loc main_arg2) (ix3 (seqOf t) k ⟨(pairOf t) * 128 + x, by omega⟩) := by
  obtain ⟨e0, e1, e2⟩ := (ix t).2.2.1
  unfold iblk
  rw [View.read_apply]
  show V m c main_arg2 _ = _
  rw [V_main_arg2]
  congr 1
  funext a
  apply Fin.ext
  match a with
  | ⟨0, _⟩ => show win0_2.index t 0 * 1 + 1 * 0 = t.val / 32; rw [e0]; omega
  | ⟨1, _⟩ => show win0_2.index t 1 * 4352 + 1 * k.val = k.val; rw [e1]; omega
  | ⟨2, _⟩ => show win0_2.index t 2 * 128 + 1 * x.val = t.val / 16 % 2 * 128 + x.val; rw [e2]; omega

theorem blk3 (t : Fin cfg0.N) (d : Fin 32) :
    (iblk m c 3 t : Vec Ideal S1x32 .f32) (ix2 0 d) = m ((c : Thread nD τ).loc main_arg3) (ix1 d) := by
  obtain ⟨e0, e1⟩ := (ix_still t).1
  unfold iblk
  rw [View.read_apply, ← row1 m c d]
  show V m c main_v6 _ = _
  congr 1
  funext a
  apply Fin.ext
  match a with
  | ⟨0, _⟩ => show win0_3.index t 0 * 1 + 1 * 0 = 0; rw [e0]
  | ⟨1, _⟩ => show win0_3.index t 1 * 32 + 1 * d.val = d.val; rw [e1]; omega

theorem blk4 (t : Fin cfg0.N) (d : Fin 32) :
    (iblk m c 4 t : Vec Ideal S1x32 .f32) (ix2 0 d) = m ((c : Thread nD τ).loc main_arg4) (ix1 d) := by
  obtain ⟨e0, e1⟩ := (ix_still t).2.1
  unfold iblk
  rw [View.read_apply, ← row2 m c d]
  show V m c main_v7 _ = _
  congr 1
  funext a
  apply Fin.ext
  match a with
  | ⟨0, _⟩ => show win0_4.index t 0 * 1 + 1 * 0 = 0; rw [e0]
  | ⟨1, _⟩ => show win0_4.index t 1 * 32 + 1 * d.val = d.val; rw [e1]; omega

theorem blk5 (t : Fin cfg0.N) (d : Fin 32) :
    (iblk m c 5 t : Vec Ideal S1x32 .f32) (ix2 0 d) = m ((c : Thread nD τ).loc main_arg5) (ix1 d) := by
  obtain ⟨e0, e1⟩ := (ix_still t).2.2.1
  unfold iblk
  rw [View.read_apply, ← row3 m c d]
  show V m c main_v8 _ = _
  congr 1
  funext a
  apply Fin.ext
  match a with
  | ⟨0, _⟩ => show win0_5.index t 0 * 1 + 1 * 0 = 0; rw [e0]
  | ⟨1, _⟩ => show win0_5.index t 1 * 32 + 1 * d.val = d.val; rw [e1]; omega

theorem blk6 (t : Fin cfg0.N) (d : Fin 32) :
    (iblk m c 6 t : Vec Ideal S1x32 .f32) (ix2 0 d) = m ((c : Thread nD τ).loc main_arg6) (ix1 d) := by
  obtain ⟨e0, e1⟩ := (ix_still t).2.2.2.1
  unfold iblk
  rw [View.read_apply, ← row4 m c d]
  show V m c main_v9 _ = _
  congr 1
  funext a
  apply Fin.ext
  match a with
  | ⟨0, _⟩ => show win0_6.index t 0 * 1 + 1 * 0 = 0; rw [e0]
  | ⟨1, _⟩ => show win0_6.index t 1 * 32 + 1 * d.val = d.val; rw [e1]; omega

theorem blk7 (t : Fin cfg0.N) (l : Fin 128) :
    (iblk m c 7 t : Vec Ideal S1x128 .f32) (ix2 0 l) = m ((c : Thread nD τ).loc main_arg7) (ix1 ⟨l % 64, by omega⟩) := by
  obtain ⟨e0, e1⟩ := (ix_still t).2.2.2.2
  unfold iblk
  rw [View.read_apply, ← gain m c l]
  show V m c main_v5 _ = _
  congr 1
  funext a
  apply Fin.ext
  match a with
  | ⟨0, _⟩ => show win0_7.index t 0 * 1 + 1 * 0 = 0; rw [e0]
  | ⟨1, _⟩ => show win0_7.index t 1 * 128 + 1 * l.val = l.val; rw [e1]; omega

end Cert.DiffIdeal.Attn
end
-- ==== Proof.DiffValue.lean ====
/-
  The differential attention kernel: the array it leaves is the attention of its arguments, entry by entry.
-/
module

public import proofs.«01_k».proof.Proof.DiffBody
public import proofs.«01_k».proof.Proof.DiffBlocks
public import Idealize.ShloMosaic.Lib.Pipeline.ValueKit.Geometry

@[expose] public section

set_option maxRecDepth 16384

noncomputable section

namespace Cert.DiffIdeal.Attn

open Cert.DiffIdeal Cert.DiffIdeal.Gen Cert.Attn Cert.DiffMath Idealize.ShloMosaic Idealize.ShloMosaic.TcCoe Idealize.SL.Sem
open Idealize.ShloMosaic.Pipeline (Dat)

/-- The scores on a map's 32 lanes of its pair of heads' 128 are the scores of that map. -/
theorem scores_eq (q : FVec Ideal SQ .bf16) (kd : FVec Ideal SK .bf16) (b : Fin 8) (t : Fin 4096) (h o c : Fin 2) (k : Fin 4352) :
    scores (fun x => q (ix3 b t ⟨h * 128 + x, by omega⟩)) (fun x k => kd (ix3 b k ⟨h * 128 + x, by omega⟩)) (2 * o + c) k
      = score q kd b t ⟨2 * h + o, by omega⟩ c k := by
  unfold scores
  rw [quarter_sum (fun x => q (ix3 b t ⟨h * 128 + x, by omega⟩) * kd (ix3 b k ⟨h * 128 + x, by omega⟩)) ⟨2 * o + c, by omega⟩]
  unfold score
  have e : ∀ d : Fin 32, h.val * 128 + (32 * (2 * o.val + c.val) + d.val) = (2 * h.val + o.val) * 64 + c.val * 32 + d.val := fun d => by omega
  refine Finset.sum_congr rfl fun d _ => congrArg₂ (· * ·) ?_ ?_
  · exact congrArg (fun z => q (ix3 b t z)) (Fin.ext (e d))
  · exact congrArg (fun z => kd (ix3 b k z)) (Fin.ext (e d))

/-- The difference of a head's two pooled sums is the sum pooled with the difference of its maps. -/
theorem pair_eq {q : FVec Ideal SQ .bf16} {kd vd : FVec Ideal SK .bf16} {lam : EReal} (hq : ∀ i, IsReal (q i)) (hk : ∀ i, IsReal (kd i))
    (hv : ∀ i, IsReal (vd i)) (hl : IsReal lam) (b : Fin 8) (t : Fin 4096) (h o : Fin 2) (e : Fin 64) :
    pair (fun x => q (ix3 b t ⟨h * 128 + x, by omega⟩)) (fun x k => kd (ix3 b k ⟨h * 128 + x, by omega⟩))
        (fun k l => vd (ix3 b k ⟨h * 128 + l, by omega⟩)) lam o ⟨64 * o + e, by omega⟩
      = mixed (score q kd b t ⟨2 * h + o, by omega⟩ 0) (score q kd b t ⟨2 * h + o, by omega⟩ 1) lam
          fun k => vd (ix3 b k ⟨(2 * h + o) * 64 + e, by omega⟩) := by
  unfold pair
  rw [show scores _ _ (2 * o.val) = _ from funext fun k => scores_eq q kd b t h o 0 k,
    show scores _ _ (2 * o.val + 1) = _ from funext fun k => scores_eq q kd b t h o 1 k,
    pooled_sub_eq_mixed (score_real hq hk _ _ _ _) (score_real hq hk _ _ _ _) (fun _ => hv _) hl]
  congr 1
  funext k
  refine congrArg (fun z => vd (ix3 b k z)) (Fin.ext ?_)
  show h.val * 128 + (64 * o.val + e.val) = (2 * h.val + o.val) * 64 + e.val
  omega

/-- The norm over a head's 64 lanes of its pair's 128 is the norm of that head. -/
theorem scaled_eq (f : Fin 128 → EReal) (o : Fin 2) (g : EReal) (e : Fin 64) :
    scaled f o g ⟨64 * o + e, by omega⟩ * Ideal.ofBits FTy.f32 1061997773#32 = normed (fun e => f ⟨64 * o + e, by omega⟩) g e := by
  unfold scaled normed
  rw [half_sum (fun x => f x * f x) o, mul_eq_div]

variable (m : (ℓ : Loc nD τ sig) → Buf (Elt Ideal) ℓ) (c : Dev nD)

/-- The attention of the arguments in memory, at query row `t` and column `l`. -/
abbrev resultAt (b : Fin 8) (t : Fin 4096) (l : Fin 256) : EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) b t ⟨l / 64, by omega⟩ ⟨l % 64, by omega⟩

/-- The arguments the two maps, lambda and the values are computed from have no infinite entry. -/
structure Finite : Prop where
  q : ∀ i, IsReal (m ((c : Thread nD τ).loc main_arg0) i)
  kd : ∀ i, IsReal (m ((c : Thread nD τ).loc main_arg1) i)
  vd : ∀ i, IsReal (m ((c : Thread nD τ).loc main_arg2) i)
  q₁ : ∀ i, IsReal (m ((c : Thread nD τ).loc main_arg3) i)
  k₁ : ∀ i, IsReal (m ((c : Thread nD τ).loc main_arg4) i)
  q₂ : ∀ i, IsReal (m ((c : Thread nD τ).loc main_arg5) i)
  k₂ : ∀ i, IsReal (m ((c : Thread nD τ).loc main_arg6) i)

variable (hf : Finite m c)
include hf

/-- What point `t` leaves at row `r`, feature `e` of head `o` of its pair. -/
theorem block (t : Fin cfg0.N) (r : Fin 256) (o : Fin 2) (e : Fin 64) :
    (out0_8 (F := Ideal) (iblk m c 0 t) (iblk m c 1 t) (iblk m c 2 t) (iblk m c 3 t) (iblk m c 4 t) (iblk m c 5 t) (iblk m c 6 t) (iblk m c 7 t)
        (ix3 0 r ⟨64 * o + e, by omega⟩) : EReal)
      = resultAt m c (seqOf t) (rowOf t r) ⟨pairOf t * 128 + (64 * o + e), by omega⟩ := by
  rw [out_apply]
  unfold rowOut
  have e0 : (fun x : Fin 128 => (iblk m c 0 t : Vec Ideal S1x256x128 .bf16) (ix3 0 r x)) = _ := funext fun x => blk0 m c t r x
  have e1 : (fun (x : Fin 128) k => (iblk m c 1 t : Vec Ideal S1x1x128x4352 .bf16) (ix4 0 0 x k)) = _ :=
    funext fun x => funext fun k => blk1 m c t x k
  have e2 : (fun k (x : Fin 128) => (iblk m c 2 t : Vec Ideal S1x4352x128 .bf16) (ix3 0 k x)) = _ :=
    funext fun k => funext fun x => blk2 m c t k x
  have e3 : (fun d : Fin 32 => (iblk m c 3 t : Vec Ideal S1x32 .f32) (ix2 0 d)) = _ := funext fun d => blk3 m c t d
  have e4 : (fun d : Fin 32 => (iblk m c 4 t : Vec Ideal S1x32 .f32) (ix2 0 d)) = _ := funext fun d => blk4 m c t d
  have e5 : (fun d : Fin 32 => (iblk m c 5 t : Vec Ideal S1x32 .f32) (ix2 0 d)) = _ := funext fun d => blk5 m c t d
  have e6 : (fun d : Fin 32 => (iblk m c 6 t : Vec Ideal S1x32 .f32) (ix2 0 d)) = _ := funext fun d => blk6 m c t d
  have eo : (64 * o.val + e.val) / 64 = o.val := by omega
  rw [e0, e1, e2, e3, e4, e5, e6, blk7]
  simp only [eo]
  rw [scaled_eq, show (fun e : Fin 64 => pair _ _ _ _ _ _) = _ from funext fun e' =>
    pair_eq hf.q hf.kd hf.vd (lambda_real (fun _ => hf.q₁ _) (fun _ => hf.k₁ _) (fun _ => hf.q₂ _) (fun _ => hf.k₂ _)) (seqOf t) (rowOf t r) (pairOf t) o e']
  unfold resultAt result
  have eh : (⟨(pairOf t * 128 + (64 * o.val + e.val)) / 64, by omega⟩ : Fin 4) = ⟨2 * pairOf t + o, by omega⟩ := Fin.ext (by simp only; omega)
  have ed : (⟨(pairOf t * 128 + (64 * o.val + e.val)) % 64, by omega⟩ : Fin 64) = e := Fin.ext (by simp only; omega)
  have eg : (⟨(64 * o.val + e.val) % 64, by omega⟩ : Fin 64) = e := Fin.ext (by simp only; omega)
  rw [eh, ed, eg]

/-- The array the kernel leaves. -/
theorem value : (dats m 0 c).arrAt 8 cfg0.N = fun i => resultAt m c (i 0) (i 1) (i 2) := by
  refine (dats m 0 c).arrAt_eq_of_covers 8 _ (by decide +kernel) fun t _ y => ?_
  obtain ⟨e0, e1, e2⟩ := (ix t).2.2.2
  blk_simp
  rw [after0_8]
  obtain ⟨r, l, rfl⟩ : ∃ (r : Fin 256) (l : Fin 128), y = ix3 0 r l := ⟨y 1, y 2, (eq_ix3 y).trans (by congr 1; exact Subsingleton.elim (α := Fin 1) _ _)⟩
  obtain ⟨o, e, rfl⟩ : ∃ (o : Fin 2) (e : Fin 64), l = ⟨64 * o + e, by omega⟩ :=
    ⟨⟨l / 64, by omega⟩, ⟨l % 64, by omega⟩, Fin.ext (by simp only; omega)⟩
  refine (block m c hf t r o e).trans ?_
  have h0 : (((cfg0.win 8).blk t).view.emb (ix3 0 r ⟨64 * o + e, by omega⟩) 0 : Fin 8) = seqOf t := Fin.ext (by
    show win0_8.index t 0 * 1 + 1 * 0 = t.val / 32; rw [e0]; omega)
  have h1 : (((cfg0.win 8).blk t).view.emb (ix3 0 r ⟨64 * o + e, by omega⟩) 1 : Fin 4096) = rowOf t r := Fin.ext (by
    show win0_8.index t 1 * 256 + 1 * r.val = 256 * (t.val % 16) + r.val; rw [e1]; omega)
  have h2 : (((cfg0.win 8).blk t).view.emb (ix3 0 r ⟨64 * o + e, by omega⟩) 2 : Fin 256) = (⟨pairOf t * 128 + (64 * o + e), by omega⟩ : Fin 256) := Fin.ext (by
    show win0_8.index t 2 * 128 + 1 * (64 * o.val + e.val) = t.val / 16 % 2 * 128 + (64 * o.val + e.val); rw [e2]; omega)
  show _ = resultAt m c (((cfg0.win 8).blk t).view.emb (ix3 0 r ⟨64 * o + e, by omega⟩) 0)
    (((cfg0.win 8).blk t).view.emb (ix3 0 r ⟨64 * o + e, by omega⟩) 1) (((cfg0.win 8).blk t).view.emb (ix3 0 r ⟨64 * o + e, by omega⟩) 2)
  rw [h0, h1, h2]

end Cert.DiffIdeal.Attn
end
-- ==== Proof.DiffRef.lean ====
/-
  The reference of differential attention: what each of its arrays is at one entry.
-/
module

public import proofs.«01_k».proof.Proof.Gen.DiffRefIdeal.Read
public import proofs.«01_k».proof.Proof.DiffMath

@[expose] public section

set_option maxRecDepth 16384

noncomputable section

namespace Cert.DiffRefIdeal.Attn

open Cert.DiffRefIdeal Cert.DiffRefIdeal.Gen Cert.DiffRefIdeal.Read Cert.DiffMath Cert.Attn
open Idealize.ShloMosaic Idealize.ShloMosaic.TcCoe Idealize.SL.Sem

variable (q : FVec Ideal S8x4096x256 .bf16) (kd vd : FVec Ideal S8x4352x256 .bf16) (q₁ k₁ q₂ k₂ : FVec Ideal S32 .f32) (g : FVec Ideal S64 .f32)

/-- The scores. -/
theorem scores (b : Fin 8) (c : Fin 2) (h : Fin 4) (t : Fin 4096) (k : Fin 4352) :
    val_main_v14 (F := Ideal) q kd (ix5 b c h t k) = score q kd b t h c k := by
  unfold val_main_v14 val_main_v11 val_main_v10 val_main_v9 val_main_v8
  pointwise
  rfl

/-- The largest entry of each row of a five-axis array. -/
theorem row_max (x : FVec Ideal S8x2x4x4096x4352 .f32) (init : FVec Ideal S_ .f32) (b : Fin 8) (c : Fin 2) (h : Fin 4) (t : Fin 4096)
    (s : Fin 4352 → EReal) (e : ∀ k, x (ix5 b c h t k) = s k) :
    Host.reduce (FloatOps.maximumf (F := Ideal) (φ := .f32)) x init reducesTo_S8x2x4x4096x4352_S8x2x4x4096_d4 h_S_ (ix4 b c h t)
      = Finset.univ.fold max (init (Shape.Idx.first h_S_)) s := by
  have hr : S8x2x4x4096x4352.Reduces [4] S8x2x4x4096 := by decide
  refine (Host.reduce_eq_fold_single (max : EReal → EReal → EReal) x init reducesTo_S8x2x4x4096x4352_S8x2x4x4096_d4 hr h_S_ (ix4 b c h t)).trans ?_
  congr 1
  funext k
  refine Eq.trans (congrArg x ?_) (e k)
  funext a
  apply Fin.ext
  rw [hr.lift_val]
  match a with
  | ⟨0, _⟩ => rfl
  | ⟨1, _⟩ => rfl
  | ⟨2, _⟩ => rfl
  | ⟨3, _⟩ => rfl
  | ⟨4, _⟩ => rfl

/-- The value the row maximum starts from. -/
theorem bits (i : S_.Idx) : val_main_cst_2 (F := Ideal) i = Ideal.ofBits FTy.f32 4286578688#32 := rfl
theorem bits₀ (i : S_.Idx) : val_main_cst_3 (F := Ideal) i = Ideal.ofBits FTy.f32 4286578688#32 := rfl

/-- The largest score of each row. -/
theorem tops (b : Fin 8) (c : Fin 2) (h : Fin 4) (t : Fin 4096) :
    val_main_v17 (F := Ideal) q kd (ix4 b c h t) = top (score q kd b t h c) := by
  have e8 : val_main_v15 (F := Ideal) q kd (ix4 b c h t) = top (score q kd b t h c) := by
    unfold val_main_v15
    rw [row_max _ _ b c h t _ (scores q kd b c h t), bits]
    rfl
  rw [val_main_v17_apply, e8, val_main_v16_apply, bits₀]
  exact max_top _

/-- The weights. -/
theorem weights (b : Fin 8) (c : Fin 2) (h : Fin 4) (t : Fin 4096) (k : Fin 4352) :
    val_main_v21 (F := Ideal) q kd (ix5 b c h t k) = weight (score q kd b t h c) k := by
  have e := scores q kd b c h t k
  have e' := tops q kd b c h t
  unfold val_main_v21 val_main_v20 val_main_v19 val_main_v18
  generalize val_main_v14 (F := Ideal) q kd = x at e
  generalize val_main_v17 (F := Ideal) q kd = y at e'
  pointwise
  rw [e, e']
  rfl

/-- The two softmax maps. -/
theorem softmax (b : Fin 8) (c : Fin 2) (h : Fin 4) (t : Fin 4096) (k : Fin 4352) :
    val_main_v25 (F := Ideal) q kd (ix5 b c h t k) = Ideal.div (weight (score q kd b t h c) k) (mass (score q kd b t h c)) := by
  have e : ∀ k, val_main_v21 (F := Ideal) q kd (ix5 b c h t k) = weight (score q kd b t h c) k := weights q kd b c h t
  unfold val_main_v25 val_main_v24 val_main_v23 val_main_v22 val_main_cst_4
  generalize val_main_v21 (F := Ideal) q kd = x at e
  pointwise
  simp only [e]
  rfl

/-- The exponential of each pair's sum of products. -/
theorem exp₁ : val_main_v2 (F := Ideal) q₁ k₁ ix0 = Ideal.exp (∑ d, q₁ (ix1 d) * k₁ (ix1 d)) := by
  unfold val_main_v2 val_main_v1 val_main_v0 val_main_cst
  pointwise
theorem exp₂ : val_main_v5 (F := Ideal) q₂ k₂ ix0 = Ideal.exp (∑ d, q₂ (ix1 d) * k₂ (ix1 d)) := by
  unfold val_main_v5 val_main_v4 val_main_v3 val_main_cst_0
  pointwise

/-- The constant added. -/
theorem fifth (i : S_.Idx) : val_main_cst_1 (F := Ideal) i = Ideal.ofBits FTy.f32 1045220557#32 := rfl

/-- Lambda. -/
theorem lambda_eq : val_main_v7 (F := Ideal) q₁ k₁ q₂ k₂ ix0
    = lambda (fun d => q₁ (ix1 d)) (fun d => k₁ (ix1 d)) (fun d => q₂ (ix1 d)) (fun d => k₂ (ix1 d)) := by
  rw [val_main_v7_apply, val_main_v6_apply, exp₁, exp₂, fifth]
  unfold lambda
  rfl

/-- Where the first map's slice reads the pair of maps. -/
theorem idx₀ (b : Fin 8) (h : Fin 4) (t : Fin 4096) (k : Fin 4352) : idx_main_v26 (idx_main_v27 (ix4 b h t k)) = ix5 b 0 h t k := by
  funext a
  apply Fin.ext
  match a with
  | ⟨0, _⟩ => show (((b.val * 4 + h.val) * 4096 + t.val) * 4352 + k.val) / 71303168 = b.val; omega
  | ⟨1, _⟩ => rfl
  | ⟨2, _⟩ => show (((b.val * 4 + h.val) * 4096 + t.val) * 4352 + k.val) / 17825792 % 4 = h.val; omega
  | ⟨3, _⟩ => show (((b.val * 4 + h.val) * 4096 + t.val) * 4352 + k.val) / 4352 % 4096 = t.val; omega
  | ⟨4, _⟩ => show (((b.val * 4 + h.val) * 4096 + t.val) * 4352 + k.val) % 4352 = k.val; omega

/-- Where the second map's slice reads it. -/
theorem idx₁ (b : Fin 8) (h : Fin 4) (t : Fin 4096) (k : Fin 4352) : idx_main_v28 (idx_main_v29 (ix4 b h t k)) = ix5 b 1 h t k := by
  funext a
  apply Fin.ext
  match a with
  | ⟨0, _⟩ => show (((b.val * 4 + h.val) * 4096 + t.val) * 4352 + k.val) / 71303168 = b.val; omega
  | ⟨1, _⟩ => rfl
  | ⟨2, _⟩ => show (((b.val * 4 + h.val) * 4096 + t.val) * 4352 + k.val) / 17825792 % 4 = h.val; omega
  | ⟨3, _⟩ => show (((b.val * 4 + h.val) * 4096 + t.val) * 4352 + k.val) / 4352 % 4096 = t.val; omega
  | ⟨4, _⟩ => show (((b.val * 4 + h.val) * 4096 + t.val) * 4352 + k.val) % 4352 = k.val; omega

/-- The difference of the maps. -/
theorem maps (b : Fin 8) (h : Fin 4) (t : Fin 4096) (k : Fin 4352) :
    val_main_v32 (F := Ideal) q kd q₁ k₁ q₂ k₂ (ix4 b h t k)
      = Ideal.div (weight (score q kd b t h 0) k) (mass (score q kd b t h 0))
        - lambda (fun d => q₁ (ix1 d)) (fun d => k₁ (ix1 d)) (fun d => q₂ (ix1 d)) (fun d => k₂ (ix1 d))
          * Ideal.div (weight (score q kd b t h 1) k) (mass (score q kd b t h 1)) := by
  rw [val_main_v32_apply, val_main_v31_apply, val_main_v30_apply, val_main_v29_apply, val_main_v28_apply, val_main_v27_apply, val_main_v26_apply,
    idx₀, idx₁, softmax, softmax, show idx_main_v30 (ix4 b h t k) = ix0 from funext fun a => a.elim0, lambda_eq]
  rfl

/-- The pooled values. -/
theorem pooled (b : Fin 8) (t : Fin 4096) (h : Fin 4) (d : Fin 64) :
    val_main_v34 (F := Ideal) q kd vd q₁ k₁ q₂ k₂ (ix4 b t h d)
      = mixed (score q kd b t h 0) (score q kd b t h 1) (lambda (fun d => q₁ (ix1 d)) (fun d => k₁ (ix1 d)) (fun d => q₂ (ix1 d)) (fun d => k₂ (ix1 d)))
          (fun k => vd (ix3 b k ⟨h * 64 + d, by omega⟩)) := by
  have e := maps q kd q₁ k₁ q₂ k₂ b h t
  unfold val_main_v34 val_main_v33 val_main_v13 val_main_v12
  generalize val_main_v32 (F := Ideal) q kd q₁ k₁ q₂ k₂ = x at e
  pointwise
  simp only [e]
  rfl

/-- The result. -/
theorem value (b : Fin 8) (t : Fin 4096) (l : Fin 256) :
    val_main_v51 (F := Ideal) q kd vd q₁ k₁ q₂ k₂ g (ix3 b t l)
      = result q kd vd q₁ k₁ q₂ k₂ g b t ⟨l / 64, by omega⟩ ⟨l % 64, by omega⟩ := by
  have e := pooled q kd vd q₁ k₁ q₂ k₂ b t ⟨l / 64, by omega⟩
  unfold val_main_v51 val_main_v50 val_main_v49 val_main_v48 val_main_v47 val_main_v46 val_main_v45 val_main_v44 val_main_v43 val_main_v42 val_main_v41
    val_main_v40 val_main_v39 val_main_v38 val_main_v37 val_main_v36 val_main_v35 val_main_cst_5 val_main_cst_6 val_main_cst_7 val_main_cst_8
  generalize val_main_v34 (F := Ideal) q kd vd q₁ k₁ q₂ k₂ = x at e
  pointwise
  simp only [e]
  rfl

end Cert.DiffRefIdeal.Attn
end
-- ==== Proof.DiffClaims.lean ====
/-
  What is claimed of the differential attention's kernel and of its reference: both run and leave their arguments as they were, and,
  from queries, keys, values and vectors of lambda with no infinite entry, the kernel's result is the reference's.
-/
module

public import proofs.«01_k».proof.Defs
public import proofs.«01_k».proof.Proof.Gen.Diff.Frame
public import proofs.«01_k».proof.Proof.Gen.DiffIdeal.Frame
public import proofs.«01_k».proof.Proof.Gen.Pre_finite_maps
public import proofs.«01_k».proof.Proof.GqaClaims
public import proofs.«01_k».proof.Proof.DiffValue
public import proofs.«01_k».proof.Proof.DiffRef
public import Idealize.ShloMosaic.Lib.Quiescent

@[expose] public section

set_option maxRecDepth 16384

noncomputable section

namespace Cert.Diff

open Idealize.ShloMosaic Idealize.ShloMosaic.TcCoe Idealize.SL.Sem Cert.Attn

/-- The attention's kernel, at the machine's floats, runs, leaves its arguments and ends with every semaphore at zero. -/
theorem frame_kernel : Cert.quiescent_Diff (hDiff := Cert.Diff.Gen.facts) := fun m ρ _ => Cert.Diff.Gen.frame m ρ

/-- The same over the extended reals. -/
theorem frame_ideal : Cert.quiescent_DiffIdeal (hDiffIdeal := Cert.DiffIdeal.Gen.facts) := fun m ρ _ => Cert.DiffIdeal.Gen.frame m ρ

/-- The reference runs, leaves its arguments and ends with every semaphore at zero. -/
theorem frame_reference : Cert.quiescent_DiffRefIdeal (hDiffRefIdeal := Cert.DiffRefIdeal.Gen.facts) := fun m ρ _ =>
  (θ_run _ _ _).mono (fun r h => ⟨fun c => (h c).2, sem_eq_zero_of_no_sems (by decide) r.2⟩) (Cert.DiffRefIdeal.Value.run m ρ)

/-- Where the comparison of absolute values with plus infinity says one, the array is real. -/
theorem real_of_pre {s : Shape} {x : FVec Ideal s .f32} {hb : Shape.BroadcastsInDim ⟨0, ![]⟩ s ![]}
    (hx : cmpf .olt (Host.absf x) (broadcastInDim s ![] hb (constant ⟨0, ![]⟩ .f32 0x7F800000#32)) = fun _ => 1#1) (i : s.Idx) : IsReal (x i) := by
  have e : BitVec.ofBool (decide (max (x i : EReal) (-(x i : EReal)) < Ideal.ofBits FTy.f32 2139095040#32)) = 1#1 := congrFun hx i
  rw [Cert.Gqa.bits_top] at e
  exact IsReal.of_abs_lt (by by_contra hn; simp [hn] at e)

/-- From arguments that agree, the array the kernel leaves is the array the reference leaves. -/
theorem arrays_eq (m : (ℓ : Loc Cert.DiffIdeal.nD Cert.DiffIdeal.τ Cert.DiffIdeal.sig) → Buf (Elt Ideal) ℓ)
    (q : FVec Ideal DiffMath.SQ .bf16) (kd vd : FVec Ideal DiffMath.SK .bf16) (q₁ k₁ q₂ k₂ : FVec Ideal DiffMath.SL .f32)
    (g : FVec Ideal DiffMath.SG .f32) (c : Dev Cert.DiffIdeal.nD)
    (h0 : q = m ((c.tc : Thread Cert.DiffIdeal.nD Cert.DiffIdeal.τ).loc Cert.DiffIdeal.main_arg0))
    (h1 : kd = m ((c.tc : Thread Cert.DiffIdeal.nD Cert.DiffIdeal.τ).loc Cert.DiffIdeal.main_arg1))
    (h2 : vd = m ((c.tc : Thread Cert.DiffIdeal.nD Cert.DiffIdeal.τ).loc Cert.DiffIdeal.main_arg2))
    (h3 : q₁ = m ((c.tc : Thread Cert.DiffIdeal.nD Cert.DiffIdeal.τ).loc Cert.DiffIdeal.main_arg3))
    (h4 : k₁ = m ((c.tc : Thread Cert.DiffIdeal.nD Cert.DiffIdeal.τ).loc Cert.DiffIdeal.main_arg4))
    (h5 : q₂ = m ((c.tc : Thread Cert.DiffIdeal.nD Cert.DiffIdeal.τ).loc Cert.DiffIdeal.main_arg5))
    (h6 : k₂ = m ((c.tc : Thread Cert.DiffIdeal.nD Cert.DiffIdeal.τ).loc Cert.DiffIdeal.main_arg6))
    (h7 : g = m ((c.tc : Thread Cert.DiffIdeal.nD Cert.DiffIdeal.τ).loc Cert.DiffIdeal.main_arg7))
    (hf : Cert.DiffIdeal.Attn.Finite m c) :
    Cert.DiffRefIdeal.Read.val_main_v51 q kd vd q₁ k₁ q₂ k₂ g = (Cert.DiffIdeal.Gen.dats m 0 c).arrAt 8 Cert.DiffIdeal.cfg0.N := by
  subst h0 h1 h2 h3 h4 h5 h6 h7
  rw [Cert.DiffIdeal.Attn.value m c hf]
  funext i
  rw [eq_ix3 i]
  exact Cert.DiffRefIdeal.Attn.value _ _ _ _ _ _ _ _ (i 0) (i 1) (i 2)

/-- What the precondition says of the arguments. -/
theorem finite_of_pre {m : (ℓ : Loc Cert.DiffIdeal.nD Cert.DiffIdeal.τ Cert.DiffIdeal.sig) → Buf (Elt Ideal) ℓ}
    (h : Cert.Pre_DiffIdeal_finite_maps (hPre_finite_maps := Cert.Pre_finite_maps.Gen.facts) m) (c : Dev Cert.DiffIdeal.nD) :
    Cert.DiffIdeal.Attn.Finite m c := by
  obtain ⟨h0, h1, h2, h3, h4, h5, h6⟩ := h c
  exact ⟨Cert.Gqa.real_of_pre h0, Cert.Gqa.real_of_pre h1, Cert.Gqa.real_of_pre h2, real_of_pre h3, real_of_pre h4, real_of_pre h5, real_of_pre h6⟩

/-- Kernel and reference, from arguments that agree and are finite but for the gain, end with the same result. -/
theorem algebraic : Cert.algebraic_DiffIdeal_DiffRefIdeal_pre_finite_maps (hDiffIdeal := Cert.DiffIdeal.Gen.facts)
    (hDiffRefIdeal := Cert.DiffRefIdeal.Gen.facts) (hPre_finite_maps := Cert.Pre_finite_maps.Gen.facts) := by
  intro m ρ m' ρ' hpre hagree
  refine ⟨fun c => (Cert.DiffIdeal.Gen.dats m 0 c).arrAt 8 Cert.DiffIdeal.cfg0.N, Cert.DiffIdeal.Value.run_blocks m ρ, ?_⟩
  refine (θ_run _ _ _).mono (fun r h c => ⟨(h c).1.trans ?_, (h c).2⟩) (Cert.DiffRefIdeal.Value.run m' ρ')
  obtain ⟨h0, h1, h2, h3, h4, h5, h6, h7⟩ := hagree c
  exact (Cert.DiffRefIdeal.Read.val_main_v51_eq _ _).trans (arrays_eq m _ _ _ _ _ _ _ _ c h0 h1 h2 h3 h4 h5 h6 h7 (finite_of_pre hpre c))

end Cert.Diff
end
-- ==== Proof.InMath.lean ====
/-
  The layer's input projection as a function of its arguments: a modulated norm and one product give the columns; the columns of the
  queries and keys are normed head by head and turned by the position's row and column.
-/
module

public import proofs.«01_k».proof.Proof.DiffMath

@[expose] public section

noncomputable section

namespace Cert.InMath

open Idealize.ShloMosaic Cert.Attn

/-- One entry of the row after its norm, gain and modulation. -/
def modulated (x g sc sh : Fin 1024 → EReal) (c : Fin 1024) : EReal :=
  x c * Ideal.rsqrt (Ideal.div (∑ d, x d * x d) (Ideal.ofBits FTy.f32 1149239296#32) + Ideal.ofBits FTy.f32 897988541#32) * g c
    * (1 + sc c) + sh c

/-- Column `n` of the projection of the row. -/
def column (x g sc sh : Fin 1024 → EReal) (w : Fin 1024 → Fin 2304 → EReal) (n : ℕ) : EReal :=
  ∑ c, modulated x g sc sh c * w c ⟨n % 2304, by omega⟩

/-- Column `n` after the norm over the 64 columns of its head and the gain. -/
def normed (v : ℕ → EReal) (g : Fin 64 → EReal) (n : ℕ) : EReal :=
  v n * Ideal.rsqrt (Ideal.div (∑ d : Fin 64, v (n / 64 * 64 + d) * v (n / 64 * 64 + d)) (Ideal.ofBits FTy.f32 1115684864#32)
    + Ideal.ofBits FTy.f32 897988541#32) * g ⟨n % 64, by omega⟩

/-- The angle of frequency `f` at coordinate `n`; `b` are the bits of the number of frequencies. -/
def angle (b : BitVec 32) (n f : ℕ) : EReal :=
  FloatOps.sitofp (F := Ideal) FTy.f32 (BitVec.ofNat 32 n) * Ideal.pow (Ideal.ofBits FTy.f32 1176256512#32)
    (Ideal.div (-FloatOps.sitofp (F := Ideal) FTy.f32 (BitVec.ofNat 32 f)) (Ideal.ofBits FTy.f32 b))

/-- Position `t` of the grid: its row for `a = 0`, its column otherwise. -/
def place (t a : ℕ) : ℕ := if a = 0 then t / 64 else t % 64

/-- The angle column `n` is turned by at position `t`, with `h` frequencies: the first `2 h` columns of a head by the row. -/
def turn (b : BitVec 32) (h t n : ℕ) : EReal := angle b (place t (n / (2 * h) % 2)) (n % h)

/-- Column `n` turned: columns `n` and `n + h` are a pair. -/
def turned (b : BitVec 32) (h t : ℕ) (v : ℕ → EReal) (n : ℕ) : EReal :=
  if n / h % 2 = 0 then v n * Ideal.cos (turn b h t n) - v (n + h) * Ideal.sin (turn b h t n)
  else v (n - h) * Ideal.sin (turn b h t n) + v n * Ideal.cos (turn b h t n)

/-- The table of sines as a kernel takes it: negative on the first column of a pair. -/
def sines (b : BitVec 32) (h t n : ℕ) : EReal := if n / h % 2 = 0 then -Ideal.sin (turn b h t n) else Ideal.sin (turn b h t n)

/-- Turning with the other column of the pair and the table of sines. -/
def paired (h : ℕ) (c s : EReal) (v : ℕ → EReal) (n : ℕ) : EReal := v n * c + (if n / h % 2 = 0 then v (n + h) else v (n - h)) * s

/-- The two ways to turn agree. -/
theorem paired_eq (b : BitVec 32) (h t : ℕ) (v : ℕ → EReal) (n : ℕ) :
    paired h (Ideal.cos (turn b h t n)) (sines b h t n) v n = turned b h t v n := by
  unfold paired sines turned
  split
  · rw [mul_neg, ← sub_eq_add_neg]
  · rw [add_comm]

/-- A nonnegative real factor on all columns is the same factor after the turn. -/
theorem turned_mul (b : BitVec 32) (h t : ℕ) (v : ℕ → EReal) {k : EReal} (hk : ∃ r : ℝ, 0 ≤ r ∧ k = r) (n : ℕ) :
    turned b h t (fun n => v n * k) n = turned b h t v n * k := by
  obtain ⟨r, hr, rfl⟩ := hk
  have hd : ∀ x y : EReal, (x + y) * (r : EReal) = x * r + y * r := fun x y =>
    EReal.right_distrib_of_nonneg_of_ne_top (EReal.coe_nonneg.mpr hr) (EReal.coe_ne_top r) x y
  unfold turned
  split
  · rw [sub_eq_add_neg, sub_eq_add_neg, hd, neg_mul, mul_right_comm, mul_right_comm (v (n + h))]
  · rw [hd, mul_right_comm, mul_right_comm (v n)]

/-- The two factors of the scores. -/
theorem bits_eighth : ∃ r : ℝ, 0 ≤ r ∧ Ideal.ofBits FTy.f32 1040187392#32 = r :=
  ⟨1 / 8, by norm_num, by simp [Ideal.ofBits, Ideal.ieee]; rw [← EReal.coe_mul]; norm_num⟩
theorem bits_root : ∃ r : ℝ, 0 ≤ r ∧ Ideal.ofBits FTy.f32 1043662067#32 = r :=
  ⟨11863283 * 2 ^ (-26 : ℤ), by positivity, by simp [Ideal.ofBits, Ideal.ieee]⟩

/-- The smallest addend of the norms and the number of a row's entries are positive. -/
theorem bits_eps : ∃ r : ℝ, 0 < r ∧ Ideal.ofBits FTy.f32 897988541#32 = r :=
  ⟨8796093 * 2 ^ (-43 : ℤ), by positivity, by simp [Ideal.ofBits, Ideal.ieee]⟩
theorem bits_width : ∃ r : ℝ, 0 < r ∧ Ideal.ofBits FTy.f32 1149239296#32 = r :=
  ⟨1024, by norm_num, by simp [Ideal.ofBits, Ideal.ieee]; rw [← EReal.coe_mul]; norm_num⟩

/-- The square of a value that is not real is infinite, and no square is negative. -/
theorem sq_top {x : EReal} (h : ¬IsReal x) : x * x = ⊤ := by
  induction x with
  | bot => rfl
  | top => rfl
  | coe r => exact absurd ⟨r, rfl⟩ h
theorem sq_nonneg (x : EReal) : 0 ≤ x * x := by
  induction x with
  | bot => exact le_top
  | top => exact le_top
  | coe r => rw [← EReal.coe_mul]; exact EReal.coe_nonneg.mpr (mul_self_nonneg r)

/-- A row divided by its root mean square is real, whatever its entries. -/
theorem norm_real (x : Fin 1024 → EReal) (c : Fin 1024) :
    IsReal (x c * Ideal.rsqrt (Ideal.div (∑ d, x d * x d) (Ideal.ofBits FTy.f32 1149239296#32) + Ideal.ofBits FTy.f32 897988541#32)) := by
  obtain ⟨w, hw, ew⟩ := bits_width
  obtain ⟨e, he, ee⟩ := bits_eps
  rw [ew, ee, Ideal.div_coe hw.ne']
  by_cases h : ∀ d, IsReal (x d)
  · choose a ha using h
    have es : ∑ d, x d * x d = ((∑ d, a d * a d : ℝ) : EReal) := by
      rw [DiffMath.coe_sum]
      exact Finset.sum_congr rfl fun d _ => by rw [ha, EReal.coe_mul]
    have hp : 0 < (∑ d, a d * a d) * (1 / w) + e :=
      add_pos_of_nonneg_of_pos (mul_nonneg (Finset.sum_nonneg fun d _ => mul_self_nonneg _) (one_div_pos.mpr hw).le) he
    rw [es, ← EReal.coe_mul, ← EReal.coe_add, ha c]
    refine (IsReal.coe _).mul ⟨(Real.sqrt ((∑ d, a d * a d) * (1 / w) + e))⁻¹, ?_⟩
    show (if _ < 0 then _ else if _ = 0 then _ else _) = _
    rw [if_neg hp.not_gt, if_neg hp.ne']
  · obtain ⟨d, hd⟩ := not_forall.mp h
    have es : ∑ d, x d * x d = ⊤ := top_le_iff.mp
      ((sq_top hd).symm.le.trans (Finset.single_le_sum (f := fun d => x d * x d) (fun d _ => sq_nonneg _) (Finset.mem_univ d)))
    rw [es, EReal.top_mul_coe_of_pos (one_div_pos.mpr hw), EReal.top_add_coe]
    show IsReal (x c * 0)
    rw [mul_zero]
    exact IsReal.zero

/-- The columns are real when the gain, the modulation and the weights are. -/
theorem column_real {x g sc sh : Fin 1024 → EReal} {w : Fin 1024 → Fin 2304 → EReal} (hg : ∀ c, IsReal (g c)) (hc : ∀ c, IsReal (sc c))
    (hs : ∀ c, IsReal (sh c)) (hw : ∀ c n, IsReal (w c n)) (n : ℕ) : IsReal (column x g sc sh w n) :=
  IsReal.sum _ fun c => ((((norm_real x c).mul (hg c)).mul ((IsReal.coe 1).add (hc c))).add (hs c)).mul (hw c _)

/-- The sum over lanes of which only the 64 of head `a` count. -/
theorem head_sum {n : ℕ} (f : ℕ → EReal) (a : ℕ) (h : a * 64 + 64 ≤ n) :
    (∑ x : Fin n, f x * if x.val / 64 = a then 1 else 0) = ∑ d : Fin 64, f (a * 64 + d) := by
  simp only [mul_ite, mul_one, mul_zero]
  rw [← Finset.sum_filter]
  refine (Finset.sum_bij' (fun d _ => (⟨a * 64 + d.val, by omega⟩ : Fin n)) (fun x _ => (⟨x.val % 64, by omega⟩ : Fin 64))
    ?_ ?_ ?_ ?_ ?_).symm
  · intro d _; simp only [Finset.mem_filter, Finset.mem_univ, true_and]; omega
  · intro x _; exact Finset.mem_univ _
  · intro d _; apply Fin.ext; show (a * 64 + d.val) % 64 = d.val; omega
  · intro x hx
    simp only [Finset.mem_filter, Finset.mem_univ, true_and] at hx
    apply Fin.ext; show a * 64 + x.val % 64 = x.val; omega
  · intro d _; rfl

/-- The norm computed with products of the squares, and of what their narrowing left, with the pattern `e` of heads. -/
def grouped (n : ℕ) (v : ℕ → EReal) (e : Fin n → EReal) (g : EReal) (l : ℕ) : EReal :=
  v l * Ideal.rsqrt (((∑ x : Fin n, v x * v x * e x) + ∑ x : Fin n, (v x * v x - v x * v x) * e x) * Ideal.ofBits FTy.f32 1015021568#32
    + Ideal.ofBits FTy.f32 897988541#32) * g

/-- For real columns that is the norm head by head. -/
theorem grouped_eq {n : ℕ} {v : ℕ → EReal} (hv : ∀ l, IsReal (v l)) (e : Fin n → EReal) (g : Fin 64 → EReal) (l : ℕ) (h : l / 64 * 64 + 64 ≤ n)
    (he : ∀ x, e x = if x.val / 64 = l / 64 then 1 else 0) : grouped n v e (g ⟨l % 64, by omega⟩) l = normed v g l := by
  have hz : ∀ x : ℕ, v x * v x - v x * v x = 0 := fun x => by
    obtain ⟨r, hr⟩ := (hv x).mul (hv x)
    rw [hr, ← EReal.coe_sub, sub_self, EReal.coe_zero]
  unfold grouped normed
  simp only [hz, zero_mul, Finset.sum_const_zero, add_zero, he]
  rw [head_sum (fun x => v x * v x) (l / 64) h, DiffMath.mul_eq_div]

end Cert.InMath
end
-- ==== Proof.InHeads.lean ====
/-
  What the precondition of the input projection says of the pattern of heads.
-/
module

public import proofs.«01_k».proof.Proof.Gen.Pre_finite_columns
public import proofs.«01_k».proof.Proof.InMath
public import Idealize.ShloMosaic.Lib.Pointwise

@[expose] public section

set_option maxRecDepth 16384

noncomputable section

namespace Cert.In

open Cert.Pre_finite_columns Idealize.ShloMosaic Cert.Attn

/-- The comparison of two heads' numbers, as a number. -/
theorem heads_number (a b : Fin 8) : (FloatOps.uitofp (F := Ideal) FTy.f32 (IntOp.cmpi .eq (BitVec.ofNat 32 a.val) (BitVec.ofNat 32 b.val)) : EReal)
    = (if a.val = b.val then 1 else 0 : EReal) := by
  have hb : ∀ a b : Fin 8, IntOp.cmpi .eq (BitVec.ofNat 32 a.val) (BitVec.ofNat 32 b.val) = if a.val = b.val then 1#1 else 0#1 := by decide +kernel
  rw [hb a b]
  split
  · show ((((1#1 : BitVec 1).toNat : ℝ)) : EReal) = 1
    simp
  · show ((((0#1 : BitVec 1).toNat : ℝ)) : EReal) = 0
    simp

/-- Where the precondition's comparison with the pattern says one, the array is one where two columns lie in the same head of 64 and zero elsewhere. -/
theorem heads_of_pre {e : FVec Ideal S512x512 .bf16} {hc : S8x64.ShapeCasts S512} {h0 : S512.BroadcastsInDim S512x1 (![0] : Fin 1 → Fin S512x1.rank)}
    {h1 : S512.BroadcastsInDim S1x512 (![1] : Fin 1 → Fin S1x512.rank)} {h2 : S512x1.BroadcastsInDim S512x512 (![0, 1] : Fin 2 → Fin S512x512.rank)}
    {h3 : S1x512.BroadcastsInDim S512x512 (![0, 1] : Fin 2 → Fin S512x512.rank)} {hb : FTy.bits .bf16 < FTy.bits .f32}
    (hx : cmpf (F := Ideal) .oeq (extf .f32 e hb) (uitofp .f32 (cmpi .eq
        (broadcastInDim S512x512 ![0, 1] h2 (broadcastInDim S512x1 ![0] h0 (shapeCast S512 (iotaInDim S8x64 32 0) hc)))
        (broadcastInDim S512x512 ![0, 1] h3 (broadcastInDim S1x512 ![1] h1 (shapeCast S512 (iotaInDim S8x64 32 0) hc)))))
      = fun _ => 1#1) (x y : Fin 512) :
    (e (ix2 x y) : EReal) = (if x.val / 64 = y.val / 64 then 1 else 0 : EReal) := by
  have hr : (uitofp (F := Ideal) .f32 (cmpi .eq
        (broadcastInDim S512x512 ![0, 1] h2 (broadcastInDim S512x1 ![0] h0 (shapeCast S512 (iotaInDim S8x64 32 0) hc)))
        (broadcastInDim S512x512 ![0, 1] h3 (broadcastInDim S1x512 ![1] h1 (shapeCast S512 (iotaInDim S8x64 32 0) hc)))) (ix2 x y) : EReal)
      = FloatOps.uitofp (F := Ideal) FTy.f32 (IntOp.cmpi .eq (BitVec.ofNat 32 (x.val / 64)) (BitVec.ofNat 32 (y.val / 64))) := by
    pointwise
  generalize uitofp (F := Ideal) .f32 (cmpi .eq
        (broadcastInDim S512x512 ![0, 1] h2 (broadcastInDim S512x1 ![0] h0 (shapeCast S512 (iotaInDim S8x64 32 0) hc)))
        (broadcastInDim S512x512 ![0, 1] h3 (broadcastInDim S1x512 ![1] h1 (shapeCast S512 (iotaInDim S8x64 32 0) hc)))) = p at hx hr
  have he : BitVec.ofBool (decide ((e (ix2 x y) : EReal) = (p (ix2 x y) : EReal))) = 1#1 := congrFun hx (ix2 x y)
  have hp : (e (ix2 x y) : EReal) = (p (ix2 x y) : EReal) := by by_contra hn; simp [hn] at he
  exact (hp.trans hr).trans (heads_number ⟨x.val / 64, by omega⟩ ⟨y.val / 64, by omega⟩)

end Cert.In
end
-- ==== Proof.InBody.lean ====
/-
  The input projection's kernel: what the body stores for one block of 512 positions.
-/
module

public import proofs.«01_k».proof.Proof.Gen.InIdeal.Value
public import proofs.«01_k».proof.Proof.InMath

@[expose] public section

set_option maxRecDepth 16384

noncomputable section

namespace Cert.InIdeal.Attn

open Cert.InIdeal Cert.InIdeal.Gen Cert.Attn Cert.InMath Idealize.ShloMosaic Idealize.ShloMosaic.TcCoe Idealize.SL.Sem

/-- The mask the body computes for heads of 32. -/
abbrev first₂ : IVec S512x128 1 :=
  k0_pay21 (Scalar.select (Scalar.cmpi .eq 16#32 0#32) 1#32 16#32) k0_pay17 k0_pay18 k0_pay19
    k0_pay20

/-- The lanes that are the first column of their pair, in heads of 64 and of 32. -/
theorem mask₁ (r : Fin 512) (l : Fin 128) : k0_pay16 (ix2 r l) = if l.val / 16 % 2 = 0 then 1#1 else 0#1 := by
  pointwise [k0_pay16]
  revert l; decide +kernel
theorem mask₂ (r : Fin 512) (l : Fin 128) : first₂ (ix2 r l) = if l.val / 8 % 2 = 0 then 1#1 else 0#1 := by
  unfold first₂
  pointwise [k0_pay17, k0_pay18, k0_pay19, k0_pay20, k0_pay21]
  revert l; decide +kernel

theorem select_if {p : Prop} [Decidable p] (a b : EReal) : Scalar.select (if p then 1#1 else 0#1) a b = if p then a else b := by
  split <;> rfl

/-- An array's row as a function of the number of the column, read around its end. -/
def line {n k : ℕ} [NeZero k] (v : FVec Ideal ⟨2, ![n, k]⟩ .f32) (r : Fin n) (l : ℕ) : EReal :=
  v (ix2 r ⟨l % k, Nat.mod_lt _ (NeZero.pos k)⟩)

theorem line_eq {n k : ℕ} [NeZero k] (v : FVec Ideal ⟨2, ![n, k]⟩ .f32) (r : Fin n) {l : ℕ} (l' : Fin k) (h : l % k = l'.val) :
    v (ix2 r l') = line v r l := congrArg (fun z => v (ix2 r z)) (Fin.ext h.symm)

section turns

variable (c s : FVec Ideal S512x128 .f32) (r : Fin 512) (l : Fin 128)

/-- The four stores of 128 lanes of the queries in heads of 64. -/
theorem queries₀ (v : FVec Ideal S512x512 .f32) : k0_pay26 (F := Ideal) v k0_pay16 c s (ix3 0 r l)
    = paired 16 (c (ix2 r l)) (s (ix2 r l)) (line v r) (0 + l) := by
  have e := mask₁ r l
  generalize k0_pay16 = k at e
  pointwise [k0_pay26, k0_pay22, k0_pay23]
  rw [e, select_if]
  unfold paired
  refine congrArg₂ (· + ·) (congrArg (· * _) (line_eq v r _ ?_)) (congrArg (· * _) ?_)
  · simp only; omega
  · exact if_ctx_congr (by omega) (fun h => line_eq v r _ (by simp only; omega)) (fun h => line_eq v r _ (by simp only; omega))

theorem queries₁ (v : FVec Ideal S512x512 .f32) : k0_pay27 (F := Ideal) v k0_pay16 c s (ix3 0 r l)
    = paired 16 (c (ix2 r l)) (s (ix2 r l)) (line v r) (128 + l) := by
  have e := mask₁ r l
  generalize k0_pay16 = k at e
  pointwise [k0_pay27, k0_pay22, k0_pay23]
  rw [e, select_if]
  unfold paired
  refine congrArg₂ (· + ·) (congrArg (· * _) (line_eq v r _ ?_)) (congrArg (· * _) ?_)
  · simp only; omega
  · exact if_ctx_congr (by omega) (fun h => line_eq v r _ (by simp only; omega)) (fun h => line_eq v r _ (by simp only; omega))

theorem queries₂ (v : FVec Ideal S512x512 .f32) : k0_pay29 (F := Ideal) k0_pay16 (k0_pay22 c) (k0_pay23 s) (k0_pay28 v) (ix3 0 r l)
    = paired 16 (c (ix2 r l)) (s (ix2 r l)) (line v r) (256 + l) := by
  have e := mask₁ r l
  generalize k0_pay16 = k at e
  pointwise [k0_pay29, k0_pay28, k0_pay22, k0_pay23]
  rw [e, select_if]
  unfold paired
  refine congrArg₂ (· + ·) (congrArg (· * _) (line_eq v r _ ?_)) (congrArg (· * _) ?_)
  · simp only; omega
  · exact if_ctx_congr (by omega) (fun h => line_eq v r _ (by simp only; omega)) (fun h => line_eq v r _ (by simp only; omega))

theorem queries₃ (v : FVec Ideal S512x512 .f32) : k0_pay30 (F := Ideal) v k0_pay16 (k0_pay22 c) (k0_pay23 s) (ix3 0 r l)
    = paired 16 (c (ix2 r l)) (s (ix2 r l)) (line v r) (384 + l) := by
  have e := mask₁ r l
  generalize k0_pay16 = k at e
  pointwise [k0_pay30, k0_pay22, k0_pay23]
  rw [e, select_if]
  unfold paired
  refine congrArg₂ (· + ·) (congrArg (· * _) (line_eq v r _ ?_)) (congrArg (· * _) ?_)
  · simp only; omega
  · exact if_ctx_congr (by omega) (fun h => line_eq v r _ (by simp only; omega)) (fun h => line_eq v r _ (by simp only; omega))

/-- The store of the keys in heads of 64. -/
theorem keys₀ (v : FVec Ideal S512x128 .f32) : k0_pay31 (F := Ideal) v k0_pay16 (k0_pay22 c) (k0_pay23 s) (ix3 0 r l)
    = paired 16 (c (ix2 r l)) (s (ix2 r l)) (line v r) (0 + l) := by
  have e := mask₁ r l
  generalize k0_pay16 = k at e
  pointwise [k0_pay31, k0_pay22, k0_pay23]
  rw [e, select_if]
  unfold paired
  refine congrArg₂ (· + ·) (congrArg (· * _) (line_eq v r _ ?_)) (congrArg (· * _) ?_)
  · omega
  · exact if_ctx_congr (by omega) (fun h => line_eq v r _ (by simp only; omega)) (fun h => line_eq v r _ (by simp only; omega))

/-- The two stores of the queries in heads of 32, and of the keys. -/
theorem maps₀ (v : FVec Ideal S512x256 .f32) : k0_pay33 (F := Ideal) (k0_pay32 v first₂ (k0_pay24 c) (k0_pay25 s)) (ix3 0 r l)
    = paired 8 (c (ix2 r l)) (s (ix2 r l)) (line v r) (0 + l) := by
  have e := mask₂ r l
  generalize first₂ = k at e
  pointwise [k0_pay33, k0_pay32, k0_pay24, k0_pay25]
  rw [e, select_if]
  unfold paired
  refine congrArg₂ (· + ·) (congrArg (· * _) (line_eq v r _ ?_)) (congrArg (· * _) ?_)
  · simp only; omega
  · exact if_ctx_congr (by omega) (fun h => line_eq v r _ (by simp only; omega)) (fun h => line_eq v r _ (by simp only; omega))

theorem maps₁ (v : FVec Ideal S512x256 .f32) : k0_pay35 (F := Ideal) v first₂ (k0_pay24 c) (k0_pay25 s) (ix3 0 r l)
    = paired 8 (c (ix2 r l)) (s (ix2 r l)) (line v r) (128 + l) := by
  have e := mask₂ r l
  generalize first₂ = k at e
  pointwise [k0_pay35, k0_pay24, k0_pay25]
  rw [e, select_if]
  unfold paired
  refine congrArg₂ (· + ·) (congrArg (· * _) (line_eq v r _ ?_)) (congrArg (· * _) ?_)
  · simp only; omega
  · exact if_ctx_congr (by omega) (fun h => line_eq v r _ (by simp only; omega)) (fun h => line_eq v r _ (by simp only; omega))

theorem maps₂ (v : FVec Ideal S512x256 .f32) : k0_pay34 (F := Ideal) v first₂ (k0_pay24 c) (k0_pay25 s) (ix3 0 r l)
    = paired 8 (c (ix2 r l)) (s (ix2 r l)) (line v r) (0 + l) := by
  have e := mask₂ r l
  generalize first₂ = k at e
  pointwise [k0_pay34, k0_pay24, k0_pay25]
  rw [e, select_if]
  unfold paired
  refine congrArg₂ (· + ·) (congrArg (· * _) (line_eq v r _ ?_)) (congrArg (· * _) ?_)
  · simp only; omega
  · exact if_ctx_congr (by omega) (fun h => line_eq v r _ (by simp only; omega)) (fun h => line_eq v r _ (by simp only; omega))

theorem maps₃ (v : FVec Ideal S512x256 .f32) : k0_pay1 (F := Ideal) (k0_pay36 v first₂ (k0_pay24 c) (k0_pay25 s)) (ix3 0 r l)
    = paired 8 (c (ix2 r l)) (s (ix2 r l)) (line v r) (128 + l) := by
  have e := mask₂ r l
  generalize first₂ = k at e
  pointwise [k0_pay1, k0_pay36, k0_pay24, k0_pay25]
  rw [e, select_if]
  unfold paired
  refine congrArg₂ (· + ·) (congrArg (· * _) (line_eq v r _ ?_)) (congrArg (· * _) ?_)
  · simp only; omega
  · exact if_ctx_congr (by omega) (fun h => line_eq v r _ (by simp only; omega)) (fun h => line_eq v r _ (by simp only; omega))

end turns

section columns

variable (x0 : FVec Ideal S1x512x1024 .f32) (x1 x2 : FVec Ideal S1x1x1024 .f32) (x3 : FVec Ideal S1x1024 .f32) (x4 : FVec Ideal S1024x2304 .bf16)
  (r : Fin 512)

/-- The projection of row `r` of the block. -/
def cols (n : ℕ) : EReal :=
  column (fun d => x0 (ix3 0 r d)) (fun d => x3 (ix2 0 d)) (fun d => x1 (ix3 0 0 d)) (fun d => x2 (ix3 0 0 d)) (fun d n => x4 (ix2 d n)) n

/-- All columns. -/
theorem product (n : Fin 2304) : k0_pay2 (F := Ideal) x0 x3 x1 x2 x4 (ix2 r n) = cols x0 x1 x2 x3 x4 r n := by
  pointwise [k0_pay2]
  unfold cols column modulated
  refine Finset.sum_congr rfl fun d _ => congrArg (_ * ·) (congrArg (fun z => x4 (ix2 d z)) (Fin.ext ?_))
  exact (Nat.mod_eq_of_lt n.isLt).symm

/-- The columns kept as they are. -/
theorem plain (l : Fin 768) : k0_pay3 (F := Ideal) x0 x3 x1 x2 x4 (ix3 0 r l) = cols x0 x1 x2 x3 x4 r l := by
  have e := product x0 x1 x2 x3 x4 r
  unfold k0_pay3
  generalize k0_pay2 (F := Ideal) x0 x3 x1 x2 x4 = p at e
  pointwise
  rw [e]
theorem values₁ (l : Fin 128) : k0_pay7 (F := Ideal) (k0_pay2 x0 x3 x1 x2 x4) (ix3 0 r l) = cols x0 x1 x2 x3 x4 r (1664 + l) := by
  have e := product x0 x1 x2 x3 x4 r
  generalize k0_pay2 (F := Ideal) x0 x3 x1 x2 x4 = p at e
  pointwise [k0_pay7]
  rw [e]
theorem values₂ (l : Fin 256) : k0_pay9 (F := Ideal) (k0_pay2 x0 x3 x1 x2 x4) (ix3 0 r l) = cols x0 x1 x2 x3 x4 r (2048 + l) := by
  have e := product x0 x1 x2 x3 x4 r
  generalize k0_pay2 (F := Ideal) x0 x3 x1 x2 x4 = p at e
  pointwise [k0_pay9]
  rw [e]

/-- The queries in heads of 64, before the turn. -/
theorem row₁ (b : FVec Ideal S512x512 .bf16) (g : FVec Ideal S1x512 .f32) (l : Fin 512) :
    k0_pay14 (F := Ideal) (k0_pay10 (k0_pay4 x0 x3 x1 x2 x4) b g) (ix2 r l)
      = grouped 512 (fun n => cols x0 x1 x2 x3 x4 r (768 + n)) (fun x => b (ix2 x l)) (g (ix2 0 l)) l * Ideal.ofBits FTy.f32 1040187392#32 := by
  have e := product x0 x1 x2 x3 x4 r
  unfold k0_pay4
  generalize k0_pay2 (F := Ideal) x0 x3 x1 x2 x4 = p at e
  pointwise [k0_pay14, k0_pay10]
  simp only [e]
  rfl

/-- The keys in heads of 64, before the turn. -/
theorem row₂ (b : FVec Ideal S512x512 .bf16) (g : FVec Ideal S1x128 .f32) (l : Fin 128) :
    k0_pay13 (F := Ideal) (k0_pay6 (k0_pay2 x0 x3 x1 x2 x4)) (k0_pay11 (k0_pay2 x0 x3 x1 x2 x4) b) k0_pay12 g (ix2 r l)
      = grouped 128 (fun n => cols x0 x1 x2 x3 x4 r (1536 + n)) (fun x => b (ix2 ⟨x, by omega⟩ ⟨l, by omega⟩)) (g (ix2 0 l)) l := by
  have e := product x0 x1 x2 x3 x4 r
  generalize k0_pay2 (F := Ideal) x0 x3 x1 x2 x4 = p at e
  pointwise [k0_pay13, k0_pay11, k0_pay6, k0_pay12]
  simp only [e]
  rfl

/-- The queries in heads of 32, before the turn. -/
theorem row₃ (l : Fin 256) : k0_pay15 (F := Ideal) (k0_pay5 x0 x3 x1 x2 x4) (ix2 r l)
    = cols x0 x1 x2 x3 x4 r (1280 + l) * Ideal.ofBits FTy.f32 1043662067#32 := by
  have e := product x0 x1 x2 x3 x4 r
  unfold k0_pay5
  generalize k0_pay2 (F := Ideal) x0 x3 x1 x2 x4 = p at e
  pointwise [k0_pay15]
  rw [e]

/-- The keys in heads of 32, before the turn. -/
theorem row₄ (l : Fin 256) : k0_pay8 (F := Ideal) (k0_pay2 x0 x3 x1 x2 x4) (ix2 r l) = cols x0 x1 x2 x3 x4 r (1792 + l) := by
  have e := product x0 x1 x2 x3 x4 r
  generalize k0_pay2 (F := Ideal) x0 x3 x1 x2 x4 = p at e
  pointwise [k0_pay8]
  rw [e]

end columns

end Cert.InIdeal.Attn
end
-- ==== Proof.InStore.lean ====
/-
  The input projection's kernel: what each of the seven blocks it leaves holds, entry by entry.
-/
module

public import proofs.«01_k».proof.Proof.InBody

@[expose] public section

set_option maxRecDepth 16384

noncomputable section

namespace Cert.InIdeal.Attn

open Cert.InIdeal Cert.InIdeal.Gen Cert.Attn Cert.InMath Idealize.ShloMosaic Idealize.ShloMosaic.TcCoe Idealize.SL.Sem

theorem zeros3 : (![0, 0, 0] : Fin 3 → ℕ) = fun _ => 0 := by funext a; fin_cases a <;> rfl
theorem zeros2 : (![0, 0] : Fin 2 → ℕ) = fun _ => 0 := by funext a; fin_cases a <;> rfl

/-- Column `n` of row `r`, turned by tables of 128 lanes that repeat. -/
def stored (h : ℕ) {k : ℕ} [NeZero k] (c s : FVec Ideal S512x128 .f32) (v : FVec Ideal ⟨2, ![512, k]⟩ .f32) (r : Fin 512) (n : ℕ) : EReal :=
  paired h (c (ix2 r ⟨n % 128, by omega⟩)) (s (ix2 r ⟨n % 128, by omega⟩)) (line v r) n

theorem stored_eq (h : ℕ) {k : ℕ} [NeZero k] (c s : FVec Ideal S512x128 .f32) (v : FVec Ideal ⟨2, ![512, k]⟩ .f32) (r : Fin 512) (o : ℕ) (l : Fin 128)
    (ho : o % 128 = 0) : paired h (c (ix2 r l)) (s (ix2 r l)) (line v r) (o + l) = stored h c s v r (o + l) := by
  unfold stored
  rw [show (⟨(o + l.val) % 128, by omega⟩ : Fin 128) = l from Fin.ext (by simp only; omega)]

variable (x0 : FVec Ideal S1x512x1024 .f32) (x1 x2 : FVec Ideal S1x1x1024 .f32) (x3 : FVec Ideal S1x1024 .f32) (x4 : FVec Ideal S1024x2304 .bf16)
  (x5 : FVec Ideal S1x512 .f32) (x6 : FVec Ideal S1x128 .f32) (x7 : FVec Ideal S512x512 .bf16) (x8 x9 x10 x11 : FVec Ideal S512x128 .f32)

/-- What the body reads is each window's whole block. -/
theorem ld0 : View.ld (Val := Elt Ideal) (e' := .f32) x0 r0_0 = x0 := View.ld_unit_zero (Val := Elt Ideal) (e := .f32) (S := S1x512x1024) zeros3 _ x0
theorem ld1 : View.ld (Val := Elt Ideal) (e' := .f32) x1 r0_2 = x1 := View.ld_unit_zero (Val := Elt Ideal) (e := .f32) (S := S1x1x1024) zeros3 _ x1
theorem ld3 : View.ld (Val := Elt Ideal) (e' := .f32) x3 r0_1 = x3 := View.ld_unit_zero (Val := Elt Ideal) (e := .f32) (S := S1x1024) zeros2 _ x3
theorem ld4 : View.ld (Val := Elt Ideal) (e' := .bf16) x4 r0_3 = x4 := View.ld_unit_zero (Val := Elt Ideal) (e := .bf16) (S := S1024x2304) zeros2 _ x4
theorem ld5 : View.ld (Val := Elt Ideal) (e' := .f32) x5 r0_8 = x5 := View.ld_unit_zero (Val := Elt Ideal) (e := .f32) (S := S1x512) zeros2 _ x5
theorem ld6 : View.ld (Val := Elt Ideal) (e' := .f32) x6 r0_9 = x6 := View.ld_unit_zero (Val := Elt Ideal) (e := .f32) (S := S1x128) zeros2 _ x6
theorem ld7 : View.ld (Val := Elt Ideal) (e' := .bf16) x7 r0_7 = x7 := View.ld_unit_zero (Val := Elt Ideal) (e := .bf16) (S := S512x512) zeros2 _ x7
theorem ld8 : View.ld (Val := Elt Ideal) (e' := .f32) x8 r0_10 = x8 := View.ld_unit_zero (Val := Elt Ideal) (e := .f32) (S := S512x128) zeros2 _ x8

variable (r : Fin 512)

/-- The columns kept as they are. -/
theorem out12 (l : Fin 768) : (out0_12 (F := Ideal) x0 x1 x2 x3 x4 x5 x6 x7 x8 x9 x10 x11 (ix3 0 r l) : EReal) = cols x0 x1 x2 x3 x4 r l := by
  unfold out0_12
  rw [View.canon_unit_zero zeros3, ld0, ld1, ld1, ld3, ld4]
  exact plain x0 x1 x2 x3 x4 r l

/-- The values of the heads of 64. -/
theorem out16 (l : Fin 128) : (out0_16 (F := Ideal) x0 x1 x2 x3 x4 x5 x6 x7 x8 x9 x10 x11 (ix3 0 r l) : EReal) = cols x0 x1 x2 x3 x4 r (1664 + l) := by
  unfold out0_16 k0_pay37
  rw [View.canon_unit_zero zeros3, ld0, ld1, ld1, ld3, ld4]
  exact values₁ x0 x1 x2 x3 x4 r l

/-- The values of the differential heads. -/
theorem out18 (l : Fin 256) : (out0_18 (F := Ideal) x0 x1 x2 x3 x4 x5 x6 x7 x8 x9 x10 x11 (ix3 0 r l) : EReal) = cols x0 x1 x2 x3 x4 r (2048 + l) := by
  unfold out0_18 k0_pay37
  rw [View.canon_unit_zero zeros3, ld0, ld1, ld1, ld3, ld4]
  exact values₂ x0 x1 x2 x3 x4 r l

/-- The keys in heads of 64. -/
theorem out15 (l : Fin 128) : (out0_15 (F := Ideal) x0 x1 x2 x3 x4 x5 x6 x7 x8 x9 x10 x11 (ix3 0 r l) : EReal)
    = stored 16 x8 x9 (k0_pay13 (F := Ideal) (k0_pay6 (k0_pay2 x0 x3 x1 x2 x4)) (k0_pay11 (k0_pay2 x0 x3 x1 x2 x4) x7) k0_pay12 x6) r l := by
  unfold out0_15 k0_pay44 k0_pay43 k0_pay41 k0_pay37
  rw [View.canon_unit_zero zeros3, ld0, ld1, ld1, ld3, ld4, ld6, ld7, ld8, ld8]
  refine (keys₀ x8 x9 r l _).trans ((stored_eq 16 x8 x9 _ r 0 l rfl).trans ?_)
  rw [zero_add]

/-- The queries in heads of 64. -/
theorem out13 (l : Fin 512) : (out0_13 (F := Ideal) x0 x1 x2 x3 x4 x5 x6 x7 x8 x9 x10 x11 (ix3 0 r l) : EReal)
    = stored 16 x8 x9 (k0_pay14 (F := Ideal) (k0_pay10 (k0_pay4 x0 x3 x1 x2 x4) x7 x5)) r l := by
  unfold out0_13 k0_pay44 k0_pay43 k0_pay41 k0_pay39
  rw [ld0, ld1, ld1, ld3, ld4, ld5, ld7, ld8, ld8]
  refine View.canon_apply_of_pieces (Val := Elt Ideal) (e := .bf16) (fun y : S1x512x512.Idx => (stored 16 x8 x9 (k0_pay14 (F := Ideal) (k0_pay10 (k0_pay4 x0 x3 x1 x2 x4) x7 x5)) (y 1) (y 2).val : EReal)) _ ?_ (ix3 0 r l) (cover0_13 _ _ _ _ _)
  intro p hp x
  rcases List.mem_cons.mp hp with rfl | hp
  · obtain ⟨r', l', rfl⟩ : ∃ (r' : Fin 512) (l' : Fin 128), x = ix3 0 r' l' := ⟨x 1, x 2, (eq_ix3 x).trans (by congr 1; exact Subsingleton.elim (α := Fin 1) _ _)⟩
    refine (queries₃ x8 x9 r' l' _).trans ((stored_eq 16 x8 x9 _ r' 384 l' rfl).trans ?_)
    show _ = stored 16 x8 x9 _ (r0_14.emb (ix3 0 r' l') 1) (r0_14.emb (ix3 0 r' l') 2).val
    congr 1
    · apply Fin.ext; show r'.val = 0 + 1 * r'.val; omega
    · show 384 + l'.val = 384 + 1 * l'.val; omega
  rcases List.mem_cons.mp hp with rfl | hp
  · obtain ⟨r', l', rfl⟩ : ∃ (r' : Fin 512) (l' : Fin 128), x = ix3 0 r' l' := ⟨x 1, x 2, (eq_ix3 x).trans (by congr 1; exact Subsingleton.elim (α := Fin 1) _ _)⟩
    refine (queries₂ x8 x9 r' l' _).trans ((stored_eq 16 x8 x9 _ r' 256 l' rfl).trans ?_)
    show _ = stored 16 x8 x9 _ (r0_13.emb (ix3 0 r' l') 1) (r0_13.emb (ix3 0 r' l') 2).val
    congr 1
    · apply Fin.ext; show r'.val = 0 + 1 * r'.val; omega
    · show 256 + l'.val = 256 + 1 * l'.val; omega
  rcases List.mem_cons.mp hp with rfl | hp
  · obtain ⟨r', l', rfl⟩ : ∃ (r' : Fin 512) (l' : Fin 128), x = ix3 0 r' l' := ⟨x 1, x 2, (eq_ix3 x).trans (by congr 1; exact Subsingleton.elim (α := Fin 1) _ _)⟩
    refine (queries₁ x8 x9 r' l' _).trans ((stored_eq 16 x8 x9 _ r' 128 l' rfl).trans ?_)
    show _ = stored 16 x8 x9 _ (r0_12.emb (ix3 0 r' l') 1) (r0_12.emb (ix3 0 r' l') 2).val
    congr 1
    · apply Fin.ext; show r'.val = 0 + 1 * r'.val; omega
    · show 128 + l'.val = 128 + 1 * l'.val; omega
  rcases List.mem_singleton.mp hp with rfl
  obtain ⟨r', l', rfl⟩ : ∃ (r' : Fin 512) (l' : Fin 128), x = ix3 0 r' l' := ⟨x 1, x 2, (eq_ix3 x).trans (by congr 1; exact Subsingleton.elim (α := Fin 1) _ _)⟩
  refine (queries₀ x8 x9 r' l' _).trans ((stored_eq 16 x8 x9 _ r' 0 l' rfl).trans ?_)
  show _ = stored 16 x8 x9 _ (r0_11.emb (ix3 0 r' l') 1) (r0_11.emb (ix3 0 r' l') 2).val
  congr 1
  · apply Fin.ext; show r'.val = 0 + 1 * r'.val; omega
  · show 0 + l'.val = 0 + 1 * l'.val; omega

/-- The queries in heads of 32. -/
theorem out14 (l : Fin 256) : (out0_14 (F := Ideal) x0 x1 x2 x3 x4 x5 x6 x7 x8 x9 x10 x11 (ix3 0 r l) : EReal)
    = stored 8 x10 x11 (k0_pay15 (F := Ideal) (k0_pay5 x0 x3 x1 x2 x4)) r l := by
  unfold out0_14 k0_pay46 k0_pay45 k0_pay42 k0_pay40
  rw [ld0, ld1, ld1, ld3, ld4, ld8, ld8]
  refine View.canon_apply_of_pieces (Val := Elt Ideal) (e := .bf16) (fun y : S1x512x256.Idx => (stored 8 x10 x11 (k0_pay15 (F := Ideal) (k0_pay5 x0 x3 x1 x2 x4)) (y 1) (y 2).val : EReal)) _ ?_ (ix3 0 r l) (cover0_14 _ _ _)
  intro p hp x
  rcases List.mem_cons.mp hp with rfl | hp
  · obtain ⟨r', l', rfl⟩ : ∃ (r' : Fin 512) (l' : Fin 128), x = ix3 0 r' l' := ⟨x 1, x 2, (eq_ix3 x).trans (by congr 1; exact Subsingleton.elim (α := Fin 1) _ _)⟩
    refine (maps₁ x10 x11 r' l' _).trans ((stored_eq 8 x10 x11 _ r' 128 l' rfl).trans ?_)
    show _ = stored 8 x10 x11 _ (r0_16.emb (ix3 0 r' l') 1) (r0_16.emb (ix3 0 r' l') 2).val
    congr 1
    · apply Fin.ext; show r'.val = 0 + 1 * r'.val; omega
    · show 128 + l'.val = 128 + 1 * l'.val; omega
  rcases List.mem_singleton.mp hp with rfl
  obtain ⟨r', l', rfl⟩ : ∃ (r' : Fin 512) (l' : Fin 128), x = ix3 0 r' l' := ⟨x 1, x 2, (eq_ix3 x).trans (by congr 1; exact Subsingleton.elim (α := Fin 1) _ _)⟩
  refine (maps₀ x10 x11 r' l' _).trans ((stored_eq 8 x10 x11 _ r' 0 l' rfl).trans ?_)
  show _ = stored 8 x10 x11 _ (r0_15.emb (ix3 0 r' l') 1) (r0_15.emb (ix3 0 r' l') 2).val
  congr 1
  · apply Fin.ext; show r'.val = 0 + 1 * r'.val; omega
  · show 0 + l'.val = 0 + 1 * l'.val; omega

/-- The keys in heads of 32. -/
theorem out17 (l : Fin 256) : (out0_17 (F := Ideal) x0 x1 x2 x3 x4 x5 x6 x7 x8 x9 x10 x11 (ix3 0 r l) : EReal)
    = stored 8 x10 x11 (k0_pay8 (F := Ideal) (k0_pay2 x0 x3 x1 x2 x4)) r l := by
  unfold out0_17 k0_pay46 k0_pay45 k0_pay42 k0_pay38 k0_pay37
  rw [ld0, ld1, ld1, ld3, ld4, ld8, ld8]
  refine View.canon_apply_of_pieces (Val := Elt Ideal) (e := .bf16) (fun y : S1x512x256.Idx => (stored 8 x10 x11 (k0_pay8 (F := Ideal) (k0_pay2 x0 x3 x1 x2 x4)) (y 1) (y 2).val : EReal)) _ ?_ (ix3 0 r l) (cover0_17 _ _ _)
  intro p hp x
  rcases List.mem_cons.mp hp with rfl | hp
  · obtain ⟨r', l', rfl⟩ : ∃ (r' : Fin 512) (l' : Fin 128), x = ix3 0 r' l' := ⟨x 1, x 2, (eq_ix3 x).trans (by congr 1; exact Subsingleton.elim (α := Fin 1) _ _)⟩
    refine (maps₃ x10 x11 r' l' _).trans ((stored_eq 8 x10 x11 _ r' 128 l' rfl).trans ?_)
    show _ = stored 8 x10 x11 _ (r0_16.emb (ix3 0 r' l') 1) (r0_16.emb (ix3 0 r' l') 2).val
    congr 1
    · apply Fin.ext; show r'.val = 0 + 1 * r'.val; omega
    · show 128 + l'.val = 128 + 1 * l'.val; omega
  rcases List.mem_singleton.mp hp with rfl
  obtain ⟨r', l', rfl⟩ : ∃ (r' : Fin 512) (l' : Fin 128), x = ix3 0 r' l' := ⟨x 1, x 2, (eq_ix3 x).trans (by congr 1; exact Subsingleton.elim (α := Fin 1) _ _)⟩
  refine (maps₂ x10 x11 r' l' _).trans ((stored_eq 8 x10 x11 _ r' 0 l' rfl).trans ?_)
  show _ = stored 8 x10 x11 _ (r0_15.emb (ix3 0 r' l') 1) (r0_15.emb (ix3 0 r' l') 2).val
  congr 1
  · apply Fin.ext; show r'.val = 0 + 1 * r'.val; omega
  · show 0 + l'.val = 0 + 1 * l'.val; omega

end Cert.InIdeal.Attn
end
-- ==== Proof.InTables.lean ====
/-
  The input projection's kernel: the arrays the host prepares for it, entry by entry.
-/
module

public import proofs.«01_k».proof.Proof.Gen.InIdeal.Value
public import proofs.«01_k».proof.Proof.InMath
public import Idealize.ShloMosaic.Lib.Pointwise
public import Idealize.ShloMosaic.Lib.StableHlo.ReadAt

@[expose] public section

set_option maxRecDepth 16384

noncomputable section

namespace Cert.InIdeal.Attn

open Cert.InIdeal Cert.InIdeal.Gen Cert.Attn Cert.InMath Idealize.ShloMosaic Idealize.ShloMosaic.TcCoe Idealize.SL.Sem

/-- The position's row, computed on integers by a division corrected for signs. -/
theorem rowBits (t : Fin 4096) : (Scalar.select
      (IntOp.andi
        (IntOp.cmpi CmpIPredicate.ne
          (if BitVec.ofNat 32 t.val = 0 then (0 : BitVec 32) else if (BitVec.ofNat 32 t.val).msb = true then (-1 : BitVec 32) else (1 : BitVec 32))
          (if (64#32 : BitVec 32) = 0 then (0 : BitVec 32) else if BitVec.msb (64#32) = true then (-1 : BitVec 32) else (1 : BitVec 32)))
        (IntOp.cmpi CmpIPredicate.ne (IntOp.remsi ArithUnit.host (BitVec.ofNat 32 t.val) (64#32)) 0#32))
      (IntOp.subi (IntOp.divsi ArithUnit.host (BitVec.ofNat 32 t.val) (64#32)) 1#32)
      (IntOp.divsi ArithUnit.host (BitVec.ofNat 32 t.val) (64#32)) : BitVec 32) = BitVec.ofNat 32 (t.val / 64) := by
  revert t; decide +kernel

/-- The divisor of the remainder. -/
abbrev divisor : BitVec 32 := Scalar.select (IntOp.cmpi CmpIPredicate.eq (64#32 : BitVec 32) 0#32) (1#32 : BitVec 32) (64#32 : BitVec 32)

/-- The position's column, computed on integers by a remainder corrected for signs. -/
theorem colBits (t : Fin 4096) : (Scalar.select
      (IntOp.andi
        (IntOp.cmpi CmpIPredicate.ne (IntOp.cmpi CmpIPredicate.slt (IntOp.remsi ArithUnit.host (BitVec.ofNat 32 t.val) divisor) 0#32)
          (IntOp.cmpi CmpIPredicate.slt divisor 0#32))
        (IntOp.cmpi CmpIPredicate.ne (IntOp.remsi ArithUnit.host (BitVec.ofNat 32 t.val) divisor) 0#32))
      (IntOp.addi (IntOp.remsi ArithUnit.host (BitVec.ofNat 32 t.val) divisor) divisor)
      (IntOp.remsi ArithUnit.host (BitVec.ofNat 32 t.val) divisor) : BitVec 32) = BitVec.ofNat 32 (t.val % 64) := by
  revert t; decide +kernel

/-- The angle as it is computed from the bits of a coordinate. -/
def bitsAngle (b x : BitVec 32) (f : ℕ) : EReal :=
  FloatOps.sitofp (F := Ideal) FTy.f32 x * Ideal.pow (Ideal.ofBits FTy.f32 1176256512#32)
    (Ideal.div (-FloatOps.sitofp (F := Ideal) FTy.f32 (BitVec.ofNat 32 f)) (Ideal.ofBits FTy.f32 b))

theorem turn_row (b : BitVec 32) (h t n f : ℕ) {x : BitVec 32} (hx : x = BitVec.ofNat 32 (t / 64)) (ha : n / (2 * h) % 2 = 0) (hf : f = n % h) :
    bitsAngle b x f = turn b h t n := by
  subst hx hf
  unfold turn place
  rw [if_pos ha]
  rfl

theorem turn_col (b : BitVec 32) (h t n f : ℕ) {x : BitVec 32} (hx : x = BitVec.ofNat 32 (t % 64)) (ha : ¬n / (2 * h) % 2 = 0) (hf : f = n % h) :
    bitsAngle b x f = turn b h t n := by
  subst hx hf
  unfold turn place
  rw [if_neg ha]
  rfl

theorem sines_first {b : BitVec 32} {h t n : ℕ} {a : EReal} (ha : a = turn b h t n) (hn : n / h % 2 = 0) : -Ideal.sin a = sines b h t n := by
  subst ha
  exact (if_pos hn).symm
theorem sines_second {b : BitVec 32} {h t n : ℕ} {a : EReal} (ha : a = turn b h t n) (hn : ¬n / h % 2 = 0) : Ideal.sin a = sines b h t n := by
  subst ha
  exact (if_neg hn).symm

variable (m : (ℓ : Loc nD τ sig) → Buf (Elt Ideal) ℓ) (c : Dev nD)

set_option maxHeartbeats 4000000 in
/-- The table of cosines for heads of 64. -/
theorem cosines₁ (t : Fin 4096) (l : Fin 128) : (V m c main_v45 (ix2 t l) : EReal) = Ideal.cos (turn 1098907648#32 16 t l) := by
  unfold V
  simp only [List.flatten_cons, List.flatten_nil, List.append_nil]
  after_reads_at
  split_ifs <;> after_reads_at
  all_goals first
    | exact congrArg Ideal.cos (turn_row _ 16 t l _ (rowBits t) (by omega) (by omega))
    | exact congrArg Ideal.cos (turn_col _ 16 t l _ (colBits t) (by omega) (by omega))

set_option maxHeartbeats 4000000 in
/-- The table of sines for heads of 64. -/
theorem sines₁ (t : Fin 4096) (l : Fin 128) : (V m c main_v48 (ix2 t l) : EReal) = sines 1098907648#32 16 t l := by
  unfold V
  simp only [List.flatten_cons, List.flatten_nil, List.append_nil]
  after_reads_at
  split_ifs <;> after_reads_at
  all_goals first
    | exact sines_first (turn_row _ 16 t l _ (rowBits t) (by omega) (by omega)) (by omega)
    | exact sines_second (turn_row _ 16 t l _ (rowBits t) (by omega) (by omega)) (by omega)
    | exact sines_first (turn_col _ 16 t l _ (colBits t) (by omega) (by omega)) (by omega)
    | exact sines_second (turn_col _ 16 t l _ (colBits t) (by omega) (by omega)) (by omega)

set_option maxHeartbeats 4000000 in
/-- The table of cosines for heads of 32. -/
theorem cosines₂ (t : Fin 4096) (l : Fin 128) : (V m c main_v77 (ix2 t l) : EReal) = Ideal.cos (turn 1090519040#32 8 t l) := by
  unfold V
  simp only [List.flatten_cons, List.flatten_nil, List.append_nil]
  after_reads_at
  split_ifs <;> after_reads_at
  all_goals first
    | exact congrArg Ideal.cos (turn_row _ 8 t l _ (rowBits t) (by omega) (by omega))
    | exact congrArg Ideal.cos (turn_col _ 8 t l _ (colBits t) (by omega) (by omega))

set_option maxHeartbeats 4000000 in
/-- The table of sines for heads of 32. -/
theorem sines₂ (t : Fin 4096) (l : Fin 128) : (V m c main_v80 (ix2 t l) : EReal) = sines 1090519040#32 8 t l := by
  unfold V
  simp only [List.flatten_cons, List.flatten_nil, List.append_nil]
  after_reads_at
  split_ifs <;> after_reads_at
  all_goals first
    | exact sines_first (turn_row _ 8 t l _ (rowBits t) (by omega) (by omega)) (by omega)
    | exact sines_second (turn_row _ 8 t l _ (rowBits t) (by omega) (by omega)) (by omega)
    | exact sines_first (turn_col _ 8 t l _ (colBits t) (by omega) (by omega)) (by omega)
    | exact sines_second (turn_col _ 8 t l _ (colBits t) (by omega) (by omega)) (by omega)

set_option maxHeartbeats 1000000 in
/-- The gain of the queries, once per head. -/
theorem gain₁ (l : Fin 512) : V m c main_v3 (ix2 0 l) = m ((c : Thread nD τ).loc main_arg5) (ix1 ⟨l % 64, by omega⟩) := by
  unfold V
  simp only [List.flatten_cons, List.flatten_nil, List.append_nil]
  after_reads_at

set_option maxHeartbeats 1000000 in
/-- The gain of the keys, once per head. -/
theorem gain₂ (l : Fin 128) : V m c main_v7 (ix2 0 l) = m ((c : Thread nD τ).loc main_arg6) (ix1 ⟨l % 64, by omega⟩) := by
  unfold V
  simp only [List.flatten_cons, List.flatten_nil, List.append_nil]
  after_reads_at

set_option maxHeartbeats 1000000 in
/-- The gain of the row, as a row. -/
theorem gain₃ (l : Fin 1024) : V m c main_v8 (ix2 0 l) = m ((c : Thread nD τ).loc main_arg3) (ix1 l) := by
  unfold V
  simp only [List.flatten_cons, List.flatten_nil, List.append_nil]
  after_reads_at

set_option maxHeartbeats 1000000 in
/-- The weights. -/
theorem weights (d : Fin 1024) (n : Fin 2304) : V m c main_v9 (ix2 d n) = m ((c : Thread nD τ).loc main_arg4) (ix2 d n) := by
  unfold V
  simp only [List.flatten_cons, List.flatten_nil, List.append_nil]
  after_reads_at

end Cert.InIdeal.Attn
end
-- ==== Proof.InBlocks.lean ====
/-
  The input projection's kernel: the block each input window hands the body at a grid point, as entries of the argument arrays.
  Point `t` works on sequence `t / 8` and on the tile of 512 rows number `t mod 8`.
-/
module

public import proofs.«01_k».proof.Proof.InTables

@[expose] public section

set_option maxRecDepth 16384

noncomputable section

namespace Cert.InIdeal.Attn

open Cert.InIdeal Cert.InIdeal.Gen Cert.InMath Idealize.ShloMosaic Idealize.ShloMosaic.TcCoe Idealize.SL.Sem

variable (m : (ℓ : Loc nD τ sig) → Buf (Elt Ideal) ℓ) (c : Dev nD)

/-- The sequence point `t` works on. -/
def seqOf (t : Fin cfg0.N) : Fin 8 := ⟨t.val / 8, by have := lt_of_lt_of_eq t.isLt N_0; omega⟩
/-- The position that row `r` of point `t`'s tile is. -/
def rowOf (t : Fin cfg0.N) (r : Fin 512) : Fin 4096 := ⟨512 * (t.val % 8) + r.val, by omega⟩

/-- The sequence and the tile that point `t` reads. -/
theorem ix : ∀ t : Fin cfg0.N,
    (win0_0.index t 0 = t.val / 8 ∧ win0_0.index t 1 = t.val % 8 ∧ win0_0.index t 2 = 0)
    ∧ (win0_1.index t 0 = t.val / 8 ∧ win0_1.index t 1 = 0 ∧ win0_1.index t 2 = 0)
    ∧ (win0_2.index t 0 = t.val / 8 ∧ win0_2.index t 1 = 0 ∧ win0_2.index t 2 = 0)
    ∧ (win0_8.index t 0 = t.val % 8 ∧ win0_8.index t 1 = 0) ∧ (win0_9.index t 0 = t.val % 8 ∧ win0_9.index t 1 = 0)
    ∧ (win0_10.index t 0 = t.val % 8 ∧ win0_10.index t 1 = 0) ∧ (win0_11.index t 0 = t.val % 8 ∧ win0_11.index t 1 = 0) :=
  (by decide +kernel : ∀ t : Fin grid0.N, _)

/-- The windows that stay where they are. -/
theorem ix_still : ∀ t : Fin cfg0.N,
    (win0_3.index t 0 = 0 ∧ win0_3.index t 1 = 0) ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) :=
  (by decide +kernel : ∀ t : Fin grid0.N, _)

/-- The sequence and the tile that point `t` writes. -/
theorem ix_out : ∀ t : Fin cfg0.N,
    (win0_12.index t 0 = t.val / 8 ∧ win0_12.index t 1 = t.val % 8 ∧ win0_12.index t 2 = 0)
    ∧ (win0_13.index t 0 = t.val / 8 ∧ win0_13.index t 1 = t.val % 8 ∧ win0_13.index t 2 = 0)
    ∧ (win0_14.index t 0 = t.val / 8 ∧ win0_14.index t 1 = t.val % 8 ∧ win0_14.index t 2 = 0)
    ∧ (win0_15.index t 0 = t.val / 8 ∧ win0_15.index t 1 = t.val % 8 ∧ win0_15.index t 2 = 0)
    ∧ (win0_16.index t 0 = t.val / 8 ∧ win0_16.index t 1 = t.val % 8 ∧ win0_16.index t 2 = 0)
    ∧ (win0_17.index t 0 = t.val / 8 ∧ win0_17.index t 1 = t.val % 8 ∧ win0_17.index t 2 = 0)
    ∧ (win0_18.index t 0 = t.val / 8 ∧ win0_18.index t 1 = t.val % 8 ∧ win0_18.index t 2 = 0) :=
  (by decide +kernel : ∀ t : Fin grid0.N, _)

theorem blk0 (t : Fin cfg0.N) (r : Fin 512) (d : Fin 1024) :
    (iblk m c 0 t : Vec Ideal S1x512x1024 .f32) (ix3 0 r d) = m ((c : Thread nD τ).loc main_arg0) (ix3 (seqOf t) (rowOf t r) d) := by
  obtain ⟨e0, e1, e2⟩ := (ix t).1
  unfold iblk
  rw [View.read_apply]
  show V m c main_arg0 _ = _
  rw [V_main_arg0]
  congr 1
  funext a
  apply Fin.ext
  match a with
  | ⟨0, _⟩ => show win0_0.index t 0 * 1 + 1 * 0 = t.val / 8; rw [e0]; omega
  | ⟨1, _⟩ => show win0_0.index t 1 * 512 + 1 * r.val = 512 * (t.val % 8) + r.val; rw [e1]; omega
  | ⟨2, _⟩ => show win0_0.index t 2 * 1024 + 1 * d.val = d.val; rw [e2]; omega

theorem blk1 (t : Fin cfg0.N) (d : Fin 1024) :
    (iblk m c 1 t : Vec Ideal S1x1x1024 .f32) (ix3 0 0 d) = m ((c : Thread nD τ).loc main_arg1) (ix3 (seqOf t) 0 d) := by
  obtain ⟨e0, e1, e2⟩ := (ix t).2.1
  unfold iblk
  rw [View.read_apply]
  show V m c main_arg1 _ = _
  rw [V_main_arg1]
  congr 1
  funext a
  apply Fin.ext
  match a with
  | ⟨0, _⟩ => show win0_1.index t 0 * 1 + 1 * 0 = t.val / 8; rw [e0]; omega
  | ⟨1, _⟩ => show win0_1.index t 1 * 1 + 1 * 0 = 0; rw [e1]
  | ⟨2, _⟩ => show win0_1.index t 2 * 1024 + 1 * d.val = d.val; rw [e2]; omega

theorem blk2 (t : Fin cfg0.N) (d : Fin 1024) :
    (iblk m c 2 t : Vec Ideal S1x1x1024 .f32) (ix3 0 0 d) = m ((c : Thread nD τ).loc main_arg2) (ix3 (seqOf t) 0 d) := by
  obtain ⟨e0, e1, e2⟩ := (ix t).2.2.1
  unfold iblk
  rw [View.read_apply]
  show V m c main_arg2 _ = _
  rw [V_main_arg2]
  congr 1
  funext a
  apply Fin.ext
  match a with
  | ⟨0, _⟩ => show win0_2.index t 0 * 1 + 1 * 0 = t.val / 8; rw [e0]; omega
  | ⟨1, _⟩ => show win0_2.index t 1 * 1 + 1 * 0 = 0; rw [e1]
  | ⟨2, _⟩ => show win0_2.index t 2 * 1024 + 1 * d.val = d.val; rw [e2]; omega

theorem blk3 (t : Fin cfg0.N) (d : Fin 1024) :
    (iblk m c 3 t : Vec Ideal S1x1024 .f32) (ix2 0 d) = m ((c : Thread nD τ).loc main_arg3) (ix1 d) := by
  obtain ⟨e0, e1⟩ := (ix_still t).1
  unfold iblk
  rw [View.read_apply, ← gain₃ m c d]
  show V m c main_v8 _ = _
  congr 1
  funext a
  apply Fin.ext
  match a with
  | ⟨0, _⟩ => show win0_3.index t 0 * 1 + 1 * 0 = 0; rw [e0]
  | ⟨1, _⟩ => show win0_3.index t 1 * 1024 + 1 * d.val = d.val; rw [e1]; omega

theorem blk4 (t : Fin cfg0.N) (d : Fin 1024) (n : Fin 2304) :
    (iblk m c 4 t : Vec Ideal S1024x2304 .bf16) (ix2 d n) = m ((c : Thread nD τ).loc main_arg4) (ix2 d n) := by
  obtain ⟨e0, e1⟩ := (ix_still t).2.1
  unfold iblk
  rw [View.read_apply, ← weights m c d n]
  show V m c main_v9 _ = _
  congr 1
  funext a
  apply Fin.ext
  match a with
  | ⟨0, _⟩ => show win0_4.index t 0 * 1024 + 1 * d.val = d.val; rw [e0]; omega
  | ⟨1, _⟩ => show win0_4.index t 1 * 2304 + 1 * n.val = n.val; rw [e1]; omega

theorem blk5 (t : Fin cfg0.N) (l : Fin 512) :
    (iblk m c 5 t : Vec Ideal S1x512 .f32) (ix2 0 l) = m ((c : Thread nD τ).loc main_arg5) (ix1 ⟨l % 64, by omega⟩) := by
  obtain ⟨e0, e1⟩ := (ix_still t).2.2.1
  unfold iblk
  rw [View.read_apply, ← gain₁ m c l]
  show V m c main_v3 _ = _
  congr 1
  funext a
  apply Fin.ext
  match a with
  | ⟨0, _⟩ => show win0_5.index t 0 * 1 + 1 * 0 = 0; rw [e0]
  | ⟨1, _⟩ => show win0_5.index t 1 * 512 + 1 * l.val = l.val; rw [e1]; omega

theorem blk6 (t : Fin cfg0.N) (l : Fin 128) :
    (iblk m c 6 t : Vec Ideal S1x128 .f32) (ix2 0 l) = m ((c : Thread nD τ).loc main_arg6) (ix1 ⟨l % 64, by omega⟩) := by
  obtain ⟨e0, e1⟩ := (ix_still t).2.2.2.1
  unfold iblk
  rw [View.read_apply, ← gain₂ m c l]
  show V m c main_v7 _ = _
  congr 1
  funext a
  apply Fin.ext
  match a with
  | ⟨0, _⟩ => show win0_6.index t 0 * 1 + 1 * 0 = 0; rw [e0]
  | ⟨1, _⟩ => show win0_6.index t 1 * 128 + 1 * l.val = l.val; rw [e1]; omega

theorem blk7 (t : Fin cfg0.N) (x y : Fin 512) :
    (iblk m c 7 t : Vec Ideal S512x512 .bf16) (ix2 x y) = m ((c : Thread nD τ).loc main_arg7) (ix2 x y) := by
  obtain ⟨e0, e1⟩ := (ix_still t).2.2.2.2
  unfold iblk
  rw [View.read_apply]
  show V m c main_arg7 _ = _
  rw [V_main_arg7]
  congr 1
  funext a
  apply Fin.ext
  match a with
  | ⟨0, _⟩ => show win0_7.index t 0 * 512 + 1 * x.val = x.val; rw [e0]; omega
  | ⟨1, _⟩ => show win0_7.index t 1 * 512 + 1 * y.val = y.val; rw [e1]; omega

theorem blk8 (t : Fin cfg0.N) (r : Fin 512) (l : Fin 128) :
    (iblk m c 8 t : Vec Ideal S512x128 .f32) (ix2 r l) = Ideal.cos (turn 1098907648#32 16 (rowOf t r) l) := by
  obtain ⟨e0, e1⟩ := (ix t).2.2.2.1
  unfold iblk
  rw [View.read_apply, ← cosines₁ m c (rowOf t r) l]
  show V m c main_v45 _ = _
  congr 1
  funext a
  apply Fin.ext
  match a with
  | ⟨0, _⟩ => show win0_8.index t 0 * 512 + 1 * r.val = 512 * (t.val % 8) + r.val; rw [e0]; omega
  | ⟨1, _⟩ => show win0_8.index t 1 * 128 + 1 * l.val = l.val; rw [e1]; omega

theorem blk9 (t : Fin cfg0.N) (r : Fin 512) (l : Fin 128) :
    (iblk m c 9 t : Vec Ideal S512x128 .f32) (ix2 r l) = sines 1098907648#32 16 (rowOf t r) l := by
  obtain ⟨e0, e1⟩ := (ix t).2.2.2.2.1
  unfold iblk
  rw [View.read_apply, ← sines₁ m c (rowOf t r) l]
  show V m c main_v48 _ = _
  congr 1
  funext a
  apply Fin.ext
  match a with
  | ⟨0, _⟩ => show win0_9.index t 0 * 512 + 1 * r.val = 512 * (t.val % 8) + r.val; rw [e0]; omega
  | ⟨1, _⟩ => show win0_9.index t 1 * 128 + 1 * l.val = l.val; rw [e1]; omega

theorem blk10 (t : Fin cfg0.N) (r : Fin 512) (l : Fin 128) :
    (iblk m c 10 t : Vec Ideal S512x128 .f32) (ix2 r l) = Ideal.cos (turn 1090519040#32 8 (rowOf t r) l) := by
  obtain ⟨e0, e1⟩ := (ix t).2.2.2.2.2.1
  unfold iblk
  rw [View.read_apply, ← cosines₂ m c (rowOf t r) l]
  show V m c main_v77 _ = _
  congr 1
  funext a
  apply Fin.ext
  match a with
  | ⟨0, _⟩ => show win0_10.index t 0 * 512 + 1 * r.val = 512 * (t.val % 8) + r.val; rw [e0]; omega
  | ⟨1, _⟩ => show win0_10.index t 1 * 128 + 1 * l.val = l.val; rw [e1]; omega

theorem blk11 (t : Fin cfg0.N) (r : Fin 512) (l : Fin 128) :
    (iblk m c 11 t : Vec Ideal S512x128 .f32) (ix2 r l) = sines 1090519040#32 8 (rowOf t r) l := by
  obtain ⟨e0, e1⟩ := (ix t).2.2.2.2.2.2
  unfold iblk
  rw [View.read_apply, ← sines₂ m c (rowOf t r) l]
  show V m c main_v80 _ = _
  congr 1
  funext a
  apply Fin.ext
  match a with
  | ⟨0, _⟩ => show win0_11.index t 0 * 512 + 1 * r.val = 512 * (t.val % 8) + r.val; rw [e0]; omega
  | ⟨1, _⟩ => show win0_11.index t 1 * 128 + 1 * l.val = l.val; rw [e1]; omega

end Cert.InIdeal.Attn
end
-- ==== Proof.InValue.lean ====
/-
  The input projection's kernel: the seven arrays it leaves are the projection of its arguments, normed and turned, entry by entry.
-/
module

public import proofs.«01_k».proof.Proof.InStore
public import proofs.«01_k».proof.Proof.InBlocks
public import Idealize.ShloMosaic.Lib.Pipeline.ValueKit.Geometry

@[expose] public section

set_option maxRecDepth 16384

noncomputable section

namespace Cert.InIdeal.Attn

open Cert.InIdeal Cert.InIdeal.Gen Cert.Attn Cert.InMath Idealize.ShloMosaic Idealize.ShloMosaic.TcCoe Idealize.SL.Sem
open Idealize.ShloMosaic.Pipeline (Dat)

/-- What a column becomes when it is turned depends only on the columns of its pair. -/
theorem turned_congr (b : BitVec 32) (h t n : ℕ) {v v' : ℕ → EReal} (h0 : v n = v' n) (h1 : n / h % 2 = 0 → v (n + h) = v' (n + h))
    (h2 : v (n - h) = v' (n - h)) : turned b h t v n = turned b h t v' n := by
  unfold turned
  split
  · next e => rw [h0, h1 e]
  · rw [h0, h2]

/-- The tables repeat every 128 lanes. -/
theorem turn_lane₁ (b : BitVec 32) (t n : ℕ) : turn b 16 t (n % 128) = turn b 16 t n := by
  unfold turn
  rw [show n % 128 / (2 * 16) % 2 = n / (2 * 16) % 2 by omega, show n % 128 % 16 = n % 16 by omega]
theorem turn_lane₂ (b : BitVec 32) (t n : ℕ) : turn b 8 t (n % 128) = turn b 8 t n := by
  unfold turn
  rw [show n % 128 / (2 * 8) % 2 = n / (2 * 8) % 2 by omega, show n % 128 % 8 = n % 8 by omega]
theorem sines_lane₁ (b : BitVec 32) (t n : ℕ) : sines b 16 t (n % 128) = sines b 16 t n := by
  unfold sines
  rw [turn_lane₁, show n % 128 / 16 % 2 = n / 16 % 2 by omega]
theorem sines_lane₂ (b : BitVec 32) (t n : ℕ) : sines b 8 t (n % 128) = sines b 8 t n := by
  unfold sines
  rw [turn_lane₂, show n % 128 / 8 % 2 = n / 8 % 2 by omega]

variable (m : (ℓ : Loc nD τ sig) → Buf (Elt Ideal) ℓ) (c : Dev nD)

/-- Column `n` of the projection of the arguments in memory, for row `t` of sequence `b`. -/
def proj (b : Fin 8) (t : Fin 4096) (n : ℕ) : EReal :=
  column (fun d => m ((c : Thread nD τ).loc main_arg0) (ix3 b t d)) (fun d => m ((c : Thread nD τ).loc main_arg3) (ix1 d))
    (fun d => m ((c : Thread nD τ).loc main_arg1) (ix3 b 0 d)) (fun d => m ((c : Thread nD τ).loc main_arg2) (ix3 b 0 d))
    (fun d n => m ((c : Thread nD τ).loc main_arg4) (ix2 d n)) n

/-- The gains of the two norms over a head. -/
def gainQ (d : Fin 64) : EReal := m ((c : Thread nD τ).loc main_arg5) (ix1 d)
def gainK (d : Fin 64) : EReal := m ((c : Thread nD τ).loc main_arg6) (ix1 d)

/-- The modulation, the gain and the weights have no infinite entry, and the pattern of heads is one where two columns lie in the same head of 64, zero elsewhere. -/
structure Finite : Prop where
  sc : ∀ i, IsReal (m ((c : Thread nD τ).loc main_arg1) i)
  sh : ∀ i, IsReal (m ((c : Thread nD τ).loc main_arg2) i)
  g : ∀ i, IsReal (m ((c : Thread nD τ).loc main_arg3) i)
  w : ∀ i, IsReal (m ((c : Thread nD τ).loc main_arg4) i)
  heads : ∀ x y : Fin 512, (m ((c : Thread nD τ).loc main_arg7) (ix2 x y) : EReal) = (if x.val / 64 = y.val / 64 then 1 else 0 : EReal)

theorem proj_real {m : (ℓ : Loc nD τ sig) → Buf (Elt Ideal) ℓ} {c : Dev nD} (hf : Finite m c) (b : Fin 8) (t : Fin 4096) (n : ℕ) :
    IsReal (proj m c b t n) := column_real (fun _ => hf.g _) (fun _ => hf.sc _) (fun _ => hf.sh _) (fun _ _ => hf.w _) n

/-- The columns the body computes at point `t`. -/
theorem cols_eq (t : Fin cfg0.N) (r : Fin 512) (n : ℕ) :
    cols (iblk m c 0 t) (iblk m c 1 t) (iblk m c 2 t) (iblk m c 3 t) (iblk m c 4 t) r n = proj m c (seqOf t) (rowOf t r) n := by
  unfold cols proj
  have e0 : (fun d : Fin 1024 => (iblk m c 0 t : Vec Ideal S1x512x1024 .f32) (ix3 0 r d)) = _ := funext fun d => blk0 m c t r d
  have e1 : (fun d : Fin 1024 => (iblk m c 1 t : Vec Ideal S1x1x1024 .f32) (ix3 0 0 d)) = _ := funext fun d => blk1 m c t d
  have e2 : (fun d : Fin 1024 => (iblk m c 2 t : Vec Ideal S1x1x1024 .f32) (ix3 0 0 d)) = _ := funext fun d => blk2 m c t d
  have e3 : (fun d : Fin 1024 => (iblk m c 3 t : Vec Ideal S1x1024 .f32) (ix2 0 d)) = _ := funext fun d => blk3 m c t d
  have e4 : (fun (d : Fin 1024) (n : Fin 2304) => (iblk m c 4 t : Vec Ideal S1024x2304 .bf16) (ix2 d n)) = _ :=
    funext fun d => funext fun n => blk4 m c t d n
  rw [e0, e1, e2, e3, e4]

/-- Columns turned by the tables of the heads of 64. -/
theorem stored₁ {k : ℕ} [NeZero k] (t : Fin cfg0.N) (v : FVec Ideal ⟨2, ![512, k]⟩ .f32) (r : Fin 512) (n : ℕ) :
    stored 16 (iblk m c 8 t : Vec Ideal S512x128 .f32) (iblk m c 9 t : Vec Ideal S512x128 .f32) v r n
      = turned 1098907648#32 16 (rowOf t r) (line v r) n := by
  unfold stored
  rw [blk8, blk9]
  show paired 16 (Ideal.cos (turn 1098907648#32 16 (rowOf t r) (n % 128))) (sines 1098907648#32 16 (rowOf t r) (n % 128)) (line v r) n = _
  rw [turn_lane₁, sines_lane₁, paired_eq]

/-- Columns turned by the tables of the heads of 32. -/
theorem stored₂ {k : ℕ} [NeZero k] (t : Fin cfg0.N) (v : FVec Ideal ⟨2, ![512, k]⟩ .f32) (r : Fin 512) (n : ℕ) :
    stored 8 (iblk m c 10 t : Vec Ideal S512x128 .f32) (iblk m c 11 t : Vec Ideal S512x128 .f32) v r n
      = turned 1090519040#32 8 (rowOf t r) (line v r) n := by
  unfold stored
  rw [blk10, blk11]
  show paired 8 (Ideal.cos (turn 1090519040#32 8 (rowOf t r) (n % 128))) (sines 1090519040#32 8 (rowOf t r) (n % 128)) (line v r) n = _
  rw [turn_lane₂, sines_lane₂, paired_eq]

/-- The seven results, at row `t` of sequence `b` and column `l`. -/
def plainAt (b : Fin 8) (t : Fin 4096) (l : Fin 768) : EReal := proj m c b t l
def queryAt (b : Fin 8) (t : Fin 4096) (l : Fin 512) : EReal :=
  turned 1098907648#32 16 t (normed (fun n => proj m c b t (768 + n)) (gainQ m c)) l * Ideal.ofBits FTy.f32 1040187392#32
def mapQueryAt (b : Fin 8) (t : Fin 4096) (l : Fin 256) : EReal :=
  turned 1090519040#32 8 t (fun n => proj m c b t (1280 + n)) l * Ideal.ofBits FTy.f32 1043662067#32
def keyAt (b : Fin 8) (t : Fin 4096) (l : Fin 128) : EReal := turned 1098907648#32 16 t (normed (fun n => proj m c b t (1536 + n)) (gainK m c)) l
def valueAt (b : Fin 8) (t : Fin 4096) (l : Fin 128) : EReal := proj m c b t (1664 + l)
def mapKeyAt (b : Fin 8) (t : Fin 4096) (l : Fin 256) : EReal := turned 1090519040#32 8 t (fun n => proj m c b t (1792 + n)) l
def mapValueAt (b : Fin 8) (t : Fin 4096) (l : Fin 256) : EReal := proj m c b t (2048 + l)

/-- What each output window holds at point `t`. -/
theorem block12 (t : Fin cfg0.N) (r : Fin 512) (l : Fin 768) : (out0_12 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (ix3 0 r l) : EReal) = plainAt m c (seqOf t) (rowOf t r) l := by
  rw [out12]
  exact cols_eq m c t r l

theorem block13 (hf : Finite m c) (t : Fin cfg0.N) (r : Fin 512) (l : Fin 512) : (out0_13 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (ix3 0 r l) : EReal) = queryAt m c (seqOf t) (rowOf t r) l := by
  rw [out13, stored₁]
  have e : ∀ n, n < 512 → line (k0_pay14 (F := Ideal) (k0_pay10 (k0_pay4 (iblk m c 0 t) (iblk m c 3 t) (iblk m c 1 t) (iblk m c 2 t) (iblk m c 4 t))
      (iblk m c 7 t) (iblk m c 5 t))) r n
      = normed (fun n => proj m c (seqOf t) (rowOf t r) (768 + n)) (gainQ m c) n * Ideal.ofBits FTy.f32 1040187392#32 := by
    intro n hn
    rw [← line_eq _ r ⟨n, hn⟩ (Nat.mod_eq_of_lt hn), row₁]
    simp only [cols_eq]
    rw [blk5]
    refine congrArg (· * _) (grouped_eq (fun n => proj_real hf _ _ _) _ (gainQ m c) n (by omega) fun x => ?_)
    exact (blk7 m c t x ⟨n, hn⟩).trans (hf.heads _ _)
  unfold queryAt
  rw [← turned_mul 1098907648#32 16 _ _ bits_eighth]
  exact turned_congr _ _ _ _ (e _ l.isLt) (fun h => e _ (by omega)) (e _ (by omega))

theorem block14 (t : Fin cfg0.N) (r : Fin 512) (l : Fin 256) : (out0_14 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (ix3 0 r l) : EReal) = mapQueryAt m c (seqOf t) (rowOf t r) l := by
  rw [out14, stored₂]
  have e : ∀ n, n < 256 → line (k0_pay15 (F := Ideal) (k0_pay5 (iblk m c 0 t) (iblk m c 3 t) (iblk m c 1 t) (iblk m c 2 t) (iblk m c 4 t))) r n
      = proj m c (seqOf t) (rowOf t r) (1280 + n) * Ideal.ofBits FTy.f32 1043662067#32 := by
    intro n hn
    rw [← line_eq _ r ⟨n, hn⟩ (Nat.mod_eq_of_lt hn), row₃, cols_eq]
  unfold mapQueryAt
  rw [← turned_mul 1090519040#32 8 _ _ bits_root]
  exact turned_congr _ _ _ _ (e _ l.isLt) (fun h => e _ (by omega)) (e _ (by omega))

theorem block15 (hf : Finite m c) (t : Fin cfg0.N) (r : Fin 512) (l : Fin 128) : (out0_15 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (ix3 0 r l) : EReal) = keyAt m c (seqOf t) (rowOf t r) l := by
  rw [out15, stored₁]
  have e : ∀ n, n < 128 → line (k0_pay13 (F := Ideal) (k0_pay6 (k0_pay2 (iblk m c 0 t) (iblk m c 3 t) (iblk m c 1 t) (iblk m c 2 t) (iblk m c 4 t)))
      (k0_pay11 (k0_pay2 (iblk m c 0 t) (iblk m c 3 t) (iblk m c 1 t) (iblk m c 2 t) (iblk m c 4 t)) (iblk m c 7 t)) k0_pay12
      (iblk m c 6 t)) r n = normed (fun n => proj m c (seqOf t) (rowOf t r) (1536 + n)) (gainK m c) n := by
    intro n hn
    rw [← line_eq _ r ⟨n, hn⟩ (Nat.mod_eq_of_lt hn), row₂]
    simp only [cols_eq]
    rw [blk6]
    refine grouped_eq (fun n => proj_real hf _ _ _) _ (gainK m c) n (by omega) fun x => ?_
    exact (blk7 m c t ⟨x, by omega⟩ ⟨n, by omega⟩).trans (hf.heads _ _)
  exact turned_congr _ _ _ _ (e _ l.isLt) (fun h => e _ (by omega)) (e _ (by omega))

theorem block16 (t : Fin cfg0.N) (r : Fin 512) (l : Fin 128) : (out0_16 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (ix3 0 r l) : EReal) = valueAt m c (seqOf t) (rowOf t r) l := by
  rw [out16]
  exact cols_eq m c t r _

theorem block17 (t : Fin cfg0.N) (r : Fin 512) (l : Fin 256) : (out0_17 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (ix3 0 r l) : EReal) = mapKeyAt m c (seqOf t) (rowOf t r) l := by
  rw [out17, stored₂]
  have e : ∀ n, n < 256 → line (k0_pay8 (F := Ideal) (k0_pay2 (iblk m c 0 t) (iblk m c 3 t) (iblk m c 1 t) (iblk m c 2 t) (iblk m c 4 t))) r n
      = proj m c (seqOf t) (rowOf t r) (1792 + n) := by
    intro n hn
    rw [← line_eq _ r ⟨n, hn⟩ (Nat.mod_eq_of_lt hn), row₄, cols_eq]
  exact turned_congr _ _ _ _ (e _ l.isLt) (fun h => e _ (by omega)) (e _ (by omega))

theorem block18 (t : Fin cfg0.N) (r : Fin 512) (l : Fin 256) : (out0_18 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (ix3 0 r l) : EReal) = mapValueAt m c (seqOf t) (rowOf t r) l := by
  rw [out18]
  exact cols_eq m c t r _

/-- The seven arrays the kernel leaves. -/
theorem value12 : (dats m 0 c).arrAt 12 cfg0.N = fun i => plainAt m c (i 0) (i 1) (i 2) := by
  refine (dats m 0 c).arrAt_eq_of_covers 12 _ (by decide +kernel) fun t _ y => ?_
  obtain ⟨e0, e1, e2⟩ := (ix_out t).1
  blk_simp
  rw [after0_12]
  obtain ⟨r, l, rfl⟩ : ∃ (r : Fin 512) (l : Fin 768), y = ix3 0 r l := ⟨y 1, y 2, (eq_ix3 y).trans (by congr 1; exact Subsingleton.elim (α := Fin 1) _ _)⟩
  refine (block12 m c t r l).trans ?_
  have h0 : (((cfg0.win 12).blk t).view.emb (ix3 0 r l) 0 : Fin 8) = seqOf t := Fin.ext (by
    show win0_12.index t 0 * 1 + 1 * 0 = t.val / 8; rw [e0]; omega)
  have h1 : (((cfg0.win 12).blk t).view.emb (ix3 0 r l) 1 : Fin 4096) = rowOf t r := Fin.ext (by
    show win0_12.index t 1 * 512 + 1 * r.val = 512 * (t.val % 8) + r.val; rw [e1]; omega)
  have h2 : (((cfg0.win 12).blk t).view.emb (ix3 0 r l) 2 : Fin 768) = l := Fin.ext (by
    show win0_12.index t 2 * 768 + 1 * l.val = l.val; rw [e2]; omega)
  show _ = plainAt m c (((cfg0.win 12).blk t).view.emb (ix3 0 r l) 0) (((cfg0.win 12).blk t).view.emb (ix3 0 r l) 1)
    (((cfg0.win 12).blk t).view.emb (ix3 0 r l) 2 : Fin 768)
  rw [h0, h1, h2]

theorem value13 (hf : Finite m c) : (dats m 0 c).arrAt 13 cfg0.N = fun i => queryAt m c (i 0) (i 1) (i 2) := by
  refine (dats m 0 c).arrAt_eq_of_covers 13 _ (by decide +kernel) fun t _ y => ?_
  obtain ⟨e0, e1, e2⟩ := (ix_out t).2.1
  blk_simp
  rw [after0_13]
  obtain ⟨r, l, rfl⟩ : ∃ (r : Fin 512) (l : Fin 512), y = ix3 0 r l := ⟨y 1, y 2, (eq_ix3 y).trans (by congr 1; exact Subsingleton.elim (α := Fin 1) _ _)⟩
  refine (block13 m c hf t r l).trans ?_
  have h0 : (((cfg0.win 13).blk t).view.emb (ix3 0 r l) 0 : Fin 8) = seqOf t := Fin.ext (by
    show win0_13.index t 0 * 1 + 1 * 0 = t.val / 8; rw [e0]; omega)
  have h1 : (((cfg0.win 13).blk t).view.emb (ix3 0 r l) 1 : Fin 4096) = rowOf t r := Fin.ext (by
    show win0_13.index t 1 * 512 + 1 * r.val = 512 * (t.val % 8) + r.val; rw [e1]; omega)
  have h2 : (((cfg0.win 13).blk t).view.emb (ix3 0 r l) 2 : Fin 512) = l := Fin.ext (by
    show win0_13.index t 2 * 512 + 1 * l.val = l.val; rw [e2]; omega)
  show _ = queryAt m c (((cfg0.win 13).blk t).view.emb (ix3 0 r l) 0) (((cfg0.win 13).blk t).view.emb (ix3 0 r l) 1)
    (((cfg0.win 13).blk t).view.emb (ix3 0 r l) 2 : Fin 512)
  rw [h0, h1, h2]

theorem value14 : (dats m 0 c).arrAt 14 cfg0.N = fun i => mapQueryAt m c (i 0) (i 1) (i 2) := by
  refine (dats m 0 c).arrAt_eq_of_covers 14 _ (by decide +kernel) fun t _ y => ?_
  obtain ⟨e0, e1, e2⟩ := (ix_out t).2.2.1
  blk_simp
  rw [after0_14]
  obtain ⟨r, l, rfl⟩ : ∃ (r : Fin 512) (l : Fin 256), y = ix3 0 r l := ⟨y 1, y 2, (eq_ix3 y).trans (by congr 1; exact Subsingleton.elim (α := Fin 1) _ _)⟩
  refine (block14 m c t r l).trans ?_
  have h0 : (((cfg0.win 14).blk t).view.emb (ix3 0 r l) 0 : Fin 8) = seqOf t := Fin.ext (by
    show win0_14.index t 0 * 1 + 1 * 0 = t.val / 8; rw [e0]; omega)
  have h1 : (((cfg0.win 14).blk t).view.emb (ix3 0 r l) 1 : Fin 4096) = rowOf t r := Fin.ext (by
    show win0_14.index t 1 * 512 + 1 * r.val = 512 * (t.val % 8) + r.val; rw [e1]; omega)
  have h2 : (((cfg0.win 14).blk t).view.emb (ix3 0 r l) 2 : Fin 256) = l := Fin.ext (by
    show win0_14.index t 2 * 256 + 1 * l.val = l.val; rw [e2]; omega)
  show _ = mapQueryAt m c (((cfg0.win 14).blk t).view.emb (ix3 0 r l) 0) (((cfg0.win 14).blk t).view.emb (ix3 0 r l) 1)
    (((cfg0.win 14).blk t).view.emb (ix3 0 r l) 2 : Fin 256)
  rw [h0, h1, h2]

theorem value15 (hf : Finite m c) : (dats m 0 c).arrAt 15 cfg0.N = fun i => keyAt m c (i 0) (i 1) (i 2) := by
  refine (dats m 0 c).arrAt_eq_of_covers 15 _ (by decide +kernel) fun t _ y => ?_
  obtain ⟨e0, e1, e2⟩ := (ix_out t).2.2.2.1
  blk_simp
  rw [after0_15]
  obtain ⟨r, l, rfl⟩ : ∃ (r : Fin 512) (l : Fin 128), y = ix3 0 r l := ⟨y 1, y 2, (eq_ix3 y).trans (by congr 1; exact Subsingleton.elim (α := Fin 1) _ _)⟩
  refine (block15 m c hf t r l).trans ?_
  have h0 : (((cfg0.win 15).blk t).view.emb (ix3 0 r l) 0 : Fin 8) = seqOf t := Fin.ext (by
    show win0_15.index t 0 * 1 + 1 * 0 = t.val / 8; rw [e0]; omega)
  have h1 : (((cfg0.win 15).blk t).view.emb (ix3 0 r l) 1 : Fin 4096) = rowOf t r := Fin.ext (by
    show win0_15.index t 1 * 512 + 1 * r.val = 512 * (t.val % 8) + r.val; rw [e1]; omega)
  have h2 : (((cfg0.win 15).blk t).view.emb (ix3 0 r l) 2 : Fin 128) = l := Fin.ext (by
    show win0_15.index t 2 * 128 + 1 * l.val = l.val; rw [e2]; omega)
  show _ = keyAt m c (((cfg0.win 15).blk t).view.emb (ix3 0 r l) 0) (((cfg0.win 15).blk t).view.emb (ix3 0 r l) 1)
    (((cfg0.win 15).blk t).view.emb (ix3 0 r l) 2 : Fin 128)
  rw [h0, h1, h2]

theorem value16 : (dats m 0 c).arrAt 16 cfg0.N = fun i => valueAt m c (i 0) (i 1) (i 2) := by
  refine (dats m 0 c).arrAt_eq_of_covers 16 _ (by decide +kernel) fun t _ y => ?_
  obtain ⟨e0, e1, e2⟩ := (ix_out t).2.2.2.2.1
  blk_simp
  rw [after0_16]
  obtain ⟨r, l, rfl⟩ : ∃ (r : Fin 512) (l : Fin 128), y = ix3 0 r l := ⟨y 1, y 2, (eq_ix3 y).trans (by congr 1; exact Subsingleton.elim (α := Fin 1) _ _)⟩
  refine (block16 m c t r l).trans ?_
  have h0 : (((cfg0.win 16).blk t).view.emb (ix3 0 r l) 0 : Fin 8) = seqOf t := Fin.ext (by
    show win0_16.index t 0 * 1 + 1 * 0 = t.val / 8; rw [e0]; omega)
  have h1 : (((cfg0.win 16).blk t).view.emb (ix3 0 r l) 1 : Fin 4096) = rowOf t r := Fin.ext (by
    show win0_16.index t 1 * 512 + 1 * r.val = 512 * (t.val % 8) + r.val; rw [e1]; omega)
  have h2 : (((cfg0.win 16).blk t).view.emb (ix3 0 r l) 2 : Fin 128) = l := Fin.ext (by
    show win0_16.index t 2 * 128 + 1 * l.val = l.val; rw [e2]; omega)
  show _ = valueAt m c (((cfg0.win 16).blk t).view.emb (ix3 0 r l) 0) (((cfg0.win 16).blk t).view.emb (ix3 0 r l) 1)
    (((cfg0.win 16).blk t).view.emb (ix3 0 r l) 2 : Fin 128)
  rw [h0, h1, h2]

theorem value17 : (dats m 0 c).arrAt 17 cfg0.N = fun i => mapKeyAt m c (i 0) (i 1) (i 2) := by
  refine (dats m 0 c).arrAt_eq_of_covers 17 _ (by decide +kernel) fun t _ y => ?_
  obtain ⟨e0, e1, e2⟩ := (ix_out t).2.2.2.2.2.1
  blk_simp
  rw [after0_17]
  obtain ⟨r, l, rfl⟩ : ∃ (r : Fin 512) (l : Fin 256), y = ix3 0 r l := ⟨y 1, y 2, (eq_ix3 y).trans (by congr 1; exact Subsingleton.elim (α := Fin 1) _ _)⟩
  refine (block17 m c t r l).trans ?_
  have h0 : (((cfg0.win 17).blk t).view.emb (ix3 0 r l) 0 : Fin 8) = seqOf t := Fin.ext (by
    show win0_17.index t 0 * 1 + 1 * 0 = t.val / 8; rw [e0]; omega)
  have h1 : (((cfg0.win 17).blk t).view.emb (ix3 0 r l) 1 : Fin 4096) = rowOf t r := Fin.ext (by
    show win0_17.index t 1 * 512 + 1 * r.val = 512 * (t.val % 8) + r.val; rw [e1]; omega)
  have h2 : (((cfg0.win 17).blk t).view.emb (ix3 0 r l) 2 : Fin 256) = l := Fin.ext (by
    show win0_17.index t 2 * 256 + 1 * l.val = l.val; rw [e2]; omega)
  show _ = mapKeyAt m c (((cfg0.win 17).blk t).view.emb (ix3 0 r l) 0) (((cfg0.win 17).blk t).view.emb (ix3 0 r l) 1)
    (((cfg0.win 17).blk t).view.emb (ix3 0 r l) 2 : Fin 256)
  rw [h0, h1, h2]

theorem value18 : (dats m 0 c).arrAt 18 cfg0.N = fun i => mapValueAt m c (i 0) (i 1) (i 2) := by
  refine (dats m 0 c).arrAt_eq_of_covers 18 _ (by decide +kernel) fun t _ y => ?_
  obtain ⟨e0, e1, e2⟩ := (ix_out t).2.2.2.2.2.2
  blk_simp
  rw [after0_18]
  obtain ⟨r, l, rfl⟩ : ∃ (r : Fin 512) (l : Fin 256), y = ix3 0 r l := ⟨y 1, y 2, (eq_ix3 y).trans (by congr 1; exact Subsingleton.elim (α := Fin 1) _ _)⟩
  refine (block18 m c t r l).trans ?_
  have h0 : (((cfg0.win 18).blk t).view.emb (ix3 0 r l) 0 : Fin 8) = seqOf t := Fin.ext (by
    show win0_18.index t 0 * 1 + 1 * 0 = t.val / 8; rw [e0]; omega)
  have h1 : (((cfg0.win 18).blk t).view.emb (ix3 0 r l) 1 : Fin 4096) = rowOf t r := Fin.ext (by
    show win0_18.index t 1 * 512 + 1 * r.val = 512 * (t.val % 8) + r.val; rw [e1]; omega)
  have h2 : (((cfg0.win 18).blk t).view.emb (ix3 0 r l) 2 : Fin 256) = l := Fin.ext (by
    show win0_18.index t 2 * 256 + 1 * l.val = l.val; rw [e2]; omega)
  show _ = mapValueAt m c (((cfg0.win 18).blk t).view.emb (ix3 0 r l) 0) (((cfg0.win 18).blk t).view.emb (ix3 0 r l) 1)
    (((cfg0.win 18).blk t).view.emb (ix3 0 r l) 2 : Fin 256)
  rw [h0, h1, h2]

end Cert.InIdeal.Attn
end
-- ==== Proof.InRef.lean ====
/-
  The reference of the input projection: what each of its arrays is at one entry.
-/
module

public import proofs.«01_k».proof.Proof.Gen.InRefIdeal.Read
public import proofs.«01_k».proof.Proof.InMath

@[expose] public section

set_option maxRecDepth 16384

noncomputable section

namespace Cert.InRefIdeal.Attn

open Cert.InRefIdeal Cert.InRefIdeal.Gen Cert.InRefIdeal.Read Cert.Attn Cert.InMath Idealize.ShloMosaic Idealize.ShloMosaic.TcCoe Idealize.SL.Sem

/-- The row and the column of position `t`. -/
theorem row (t : Fin 4096) : (val_main_v2 (F := Ideal) (ix1 t) : BitVec 32) = BitVec.ofNat 32 (t.val / 64) := by
  unfold val_main_v2 val_main_v1 val_main_v0
  pointwise
theorem col (t : Fin 4096) : (val_main_v6 (F := Ideal) (ix1 t) : BitVec 32) = BitVec.ofNat 32 (t.val % 64) := by
  unfold val_main_v6 val_main_v5 val_main_v4 val_main_v3
  pointwise

/-- The frequencies of the angles, 16 of them. -/
theorem freq₁ (f : Fin 16) : (val_main_v39 (F := Ideal) (ix1 f) : EReal) = Ideal.pow (Ideal.ofBits FTy.f32 1176256512#32)
    (Ideal.div (-FloatOps.sitofp (F := Ideal) FTy.f32 (BitVec.ofNat 32 f)) (Ideal.ofBits FTy.f32 1098907648#32)) := by
  unfold val_main_v39 val_main_v38 val_main_v37 val_main_v36 val_main_v35 val_main_v34 val_main_cst_3 val_main_cst_4
  pointwise

/-- The angle of the position's row. -/
theorem angleRow₁ (t : Fin 4096) (f : Fin 16) : (val_main_v45 (F := Ideal) (ix2 t f) : EReal) = angle 1098907648#32 (t.val / 64) f := by
  have e := row t
  have e' := freq₁ f
  unfold val_main_v45 val_main_v44 val_main_v43 val_main_v42 val_main_v41 val_main_v40
  generalize val_main_v2 (F := Ideal) = y at e
  generalize val_main_v39 (F := Ideal) = z at e'
  pointwise
  rw [e, e']
  rfl

/-- The angle of the position's column. -/
theorem angleCol₁ (t : Fin 4096) (f : Fin 16) : (val_main_v51 (F := Ideal) (ix2 t f) : EReal) = angle 1098907648#32 (t.val % 64) f := by
  have e := col t
  have e' := freq₁ f
  unfold val_main_v51 val_main_v50 val_main_v49 val_main_v48 val_main_v47 val_main_v46
  generalize val_main_v6 (F := Ideal) = y at e
  generalize val_main_v39 (F := Ideal) = z at e'
  pointwise
  rw [e, e']
  rfl

theorem cosRow₁ (t : Fin 4096) (f : Fin 16) : (val_main_v53 (F := Ideal) (ix3 t 0 f) : EReal) = Ideal.cos (angle 1098907648#32 (t.val / 64) f) := by
  have e := angleRow₁ t f
  unfold val_main_v53 val_main_v52
  generalize val_main_v45 (F := Ideal) = y at e
  pointwise
  rw [e]

theorem sinRow₁ (t : Fin 4096) (f : Fin 16) : (val_main_v55 (F := Ideal) (ix3 t 0 f) : EReal) = Ideal.sin (angle 1098907648#32 (t.val / 64) f) := by
  have e := angleRow₁ t f
  unfold val_main_v55 val_main_v54
  generalize val_main_v45 (F := Ideal) = y at e
  pointwise
  rw [e]

theorem cosCol₁ (t : Fin 4096) (f : Fin 16) : (val_main_v57 (F := Ideal) (ix3 t 0 f) : EReal) = Ideal.cos (angle 1098907648#32 (t.val % 64) f) := by
  have e := angleCol₁ t f
  unfold val_main_v57 val_main_v56
  generalize val_main_v51 (F := Ideal) = y at e
  pointwise
  rw [e]

theorem sinCol₁ (t : Fin 4096) (f : Fin 16) : (val_main_v59 (F := Ideal) (ix3 t 0 f) : EReal) = Ideal.sin (angle 1098907648#32 (t.val % 64) f) := by
  have e := angleCol₁ t f
  unfold val_main_v59 val_main_v58
  generalize val_main_v51 (F := Ideal) = y at e
  pointwise
  rw [e]

/-- The frequencies of the angles, 8 of them. -/
theorem freq₂ (f : Fin 8) : (val_main_v65 (F := Ideal) (ix1 f) : EReal) = Ideal.pow (Ideal.ofBits FTy.f32 1176256512#32)
    (Ideal.div (-FloatOps.sitofp (F := Ideal) FTy.f32 (BitVec.ofNat 32 f)) (Ideal.ofBits FTy.f32 1090519040#32)) := by
  unfold val_main_v65 val_main_v64 val_main_v63 val_main_v62 val_main_v61 val_main_v60 val_main_cst_5 val_main_cst_6
  pointwise

/-- The angle of the position's row. -/
theorem angleRow₂ (t : Fin 4096) (f : Fin 8) : (val_main_v71 (F := Ideal) (ix2 t f) : EReal) = angle 1090519040#32 (t.val / 64) f := by
  have e := row t
  have e' := freq₂ f
  unfold val_main_v71 val_main_v70 val_main_v69 val_main_v68 val_main_v67 val_main_v66
  generalize val_main_v2 (F := Ideal) = y at e
  generalize val_main_v65 (F := Ideal) = z at e'
  pointwise
  rw [e, e']
  rfl

/-- The angle of the position's column. -/
theorem angleCol₂ (t : Fin 4096) (f : Fin 8) : (val_main_v77 (F := Ideal) (ix2 t f) : EReal) = angle 1090519040#32 (t.val % 64) f := by
  have e := col t
  have e' := freq₂ f
  unfold val_main_v77 val_main_v76 val_main_v75 val_main_v74 val_main_v73 val_main_v72
  generalize val_main_v6 (F := Ideal) = y at e
  generalize val_main_v65 (F := Ideal) = z at e'
  pointwise
  rw [e, e']
  rfl

theorem cosRow₂ (t : Fin 4096) (f : Fin 8) : (val_main_v79 (F := Ideal) (ix3 t 0 f) : EReal) = Ideal.cos (angle 1090519040#32 (t.val / 64) f) := by
  have e := angleRow₂ t f
  unfold val_main_v79 val_main_v78
  generalize val_main_v71 (F := Ideal) = y at e
  pointwise
  rw [e]

theorem sinRow₂ (t : Fin 4096) (f : Fin 8) : (val_main_v81 (F := Ideal) (ix3 t 0 f) : EReal) = Ideal.sin (angle 1090519040#32 (t.val / 64) f) := by
  have e := angleRow₂ t f
  unfold val_main_v81 val_main_v80
  generalize val_main_v71 (F := Ideal) = y at e
  pointwise
  rw [e]

theorem cosCol₂ (t : Fin 4096) (f : Fin 8) : (val_main_v83 (F := Ideal) (ix3 t 0 f) : EReal) = Ideal.cos (angle 1090519040#32 (t.val % 64) f) := by
  have e := angleCol₂ t f
  unfold val_main_v83 val_main_v82
  generalize val_main_v77 (F := Ideal) = y at e
  pointwise
  rw [e]

theorem sinCol₂ (t : Fin 4096) (f : Fin 8) : (val_main_v85 (F := Ideal) (ix3 t 0 f) : EReal) = Ideal.sin (angle 1090519040#32 (t.val % 64) f) := by
  have e := angleCol₂ t f
  unfold val_main_v85 val_main_v84
  generalize val_main_v77 (F := Ideal) = y at e
  pointwise
  rw [e]

/-- The two columns of a pair, turned. -/
theorem turned_first {b : BitVec 32} {h t n i j : ℕ} {a : EReal} {v : ℕ → EReal} (hn : n / h % 2 = 0) (hi : i = n) (hj : j = n + h)
    (ha : a = turn b h t n) : v i * Ideal.cos a - v j * Ideal.sin a = turned b h t v n := by
  subst hi hj ha
  exact (if_pos hn).symm
theorem turned_second {b : BitVec 32} {h t n i j : ℕ} {a : EReal} {v : ℕ → EReal} (hn : ¬n / h % 2 = 0) (hi : i = n - h) (hj : j = n)
    (ha : a = turn b h t n) : v i * Ideal.sin a + v j * Ideal.cos a = turned b h t v n := by
  subst hi hj ha
  exact (if_neg hn).symm
theorem turn_row (b : BitVec 32) {h t n f : ℕ} (ha : n / (2 * h) % 2 = 0) (hf : f = n % h) : angle b (t / 64) f = turn b h t n := by
  subst hf
  unfold turn place
  rw [if_pos ha]
theorem turn_col (b : BitVec 32) {h t n f : ℕ} (ha : ¬n / (2 * h) % 2 = 0) (hf : f = n % h) : angle b (t % 64) f = turn b h t n := by
  subst hf
  unfold turn place
  rw [if_neg ha]

variable (x : FVec Ideal S8x4096x1024 .f32) (sc sh : FVec Ideal S8x1x1024 .f32) (g : FVec Ideal S1024 .f32) (w : FVec Ideal S1024x2304 .f32)
  (qn kn : FVec Ideal S64 .f32)

/-- Column `n` of the projection of row `t` of sequence `b`. -/
def proj (b : Fin 8) (t : Fin 4096) (n : ℕ) : EReal :=
  column (fun d => x (ix3 b t d)) (fun d => g (ix1 d)) (fun d => sc (ix3 b 0 d)) (fun d => sh (ix3 b 0 d)) (fun d n => w (ix2 d n)) n

/-- The modulated norm. -/
theorem mod (b : Fin 8) (t : Fin 4096) (d : Fin 1024) : (val_main_v25 (F := Ideal) x sc sh g (ix3 b t d) : EReal)
    = modulated (fun d => x (ix3 b t d)) (fun d => g (ix1 d)) (fun d => sc (ix3 b 0 d)) (fun d => sh (ix3 b 0 d)) d := by
  unfold val_main_v25 val_main_v24 val_main_v23 val_main_v22 val_main_v21 val_main_v20 val_main_v19 val_main_v18 val_main_v17 val_main_v16 val_main_v15
    val_main_v14 val_main_v13 val_main_v12 val_main_v11 val_main_v10 val_main_v9 val_main_v8 val_main_v7 val_main_cst val_main_cst_0 val_main_cst_1 val_main_cst_2
  pointwise
  rfl

/-- All columns. -/
theorem columns (b : Fin 8) (t : Fin 4096) (n : Fin 2304) : (val_main_v26 (F := Ideal) x sc sh g w (ix3 b t n) : EReal) = proj x sc sh g w b t n := by
  have e := mod x sc sh g b t
  unfold val_main_v26
  generalize val_main_v25 (F := Ideal) x sc sh g = y at e
  pointwise
  unfold proj column
  refine Finset.sum_congr rfl fun d _ => congrArg₂ (· * ·) (e d) (congrArg (fun z => w (ix2 d z)) (Fin.ext ?_))
  exact (Nat.mod_eq_of_lt n.isLt).symm

/-- The columns kept as they are. -/
theorem hyena (b : Fin 8) (t : Fin 4096) (l : Fin 768) : (val_main_v27 (F := Ideal) x sc sh g w (ix3 b t l) : EReal) = proj x sc sh g w b t (l) := by
  have e := columns x sc sh g w b t
  unfold val_main_v27
  generalize val_main_v26 (F := Ideal) x sc sh g w = y at e
  pointwise
  rw [e]

/-- The values of the heads of 64. -/
theorem values₁ (b : Fin 8) (t : Fin 4096) (l : Fin 128) : (val_main_v258 (F := Ideal) x sc sh g w (ix3 b t l) : EReal) = proj x sc sh g w b t (1664 + l) := by
  have e := columns x sc sh g w b t
  unfold val_main_v258 val_main_v31
  generalize val_main_v26 (F := Ideal) x sc sh g w = y at e
  pointwise
  rw [e]

/-- The values of the heads of 32. -/
theorem values₂ (b : Fin 8) (t : Fin 4096) (l : Fin 256) : (val_main_v261 (F := Ideal) x sc sh g w (ix3 b t l) : EReal) = proj x sc sh g w b t (2048 + l) := by
  have e := columns x sc sh g w b t
  unfold val_main_v261 val_main_v33
  generalize val_main_v26 (F := Ideal) x sc sh g w = y at e
  pointwise
  rw [e]

/-- The queries in heads of 64 after their norm. -/
theorem normed₁ (b : Fin 8) (t : Fin 4096) (h : Fin 8) (e : Fin 64) : (val_main_v99 (F := Ideal) x sc sh g w qn (ix4 b t h e) : EReal)
    = normed (fun n => proj x sc sh g w b t (768 + n)) (fun d => qn (ix1 d)) (h * 64 + e) := by
  have e1 := columns x sc sh g w b t
  have e0 : ∀ (h : Fin 8) (e : Fin 64), (val_main_v86 (F := Ideal) x sc sh g w (ix4 b t h e) : EReal) = proj x sc sh g w b t (768 + (h * 64 + e)) := by
    intro h e
    unfold val_main_v86 val_main_v28
    generalize val_main_v26 (F := Ideal) x sc sh g w = y at e1
    pointwise
    rw [e1]
  unfold val_main_v99 val_main_v98 val_main_v97 val_main_v96 val_main_v95 val_main_v94 val_main_v93 val_main_v92 val_main_v91 val_main_v90 val_main_v89 val_main_v88 val_main_v87 val_main_cst_7 val_main_cst_8 val_main_cst_9
  generalize val_main_v86 (F := Ideal) x sc sh g w = y at e0
  pointwise
  simp only [e0]
  unfold normed
  have h1 : (h.val * 64 + e.val) / 64 = h.val := by omega
  have h2 : (⟨(h.val * 64 + e.val) % 64, by omega⟩ : Fin 64) = e := Fin.ext (by simp only; omega)
  rw [h1, h2]

/-- The keys in heads of 64 after their norm. -/
theorem normed₂ (b : Fin 8) (t : Fin 4096) (h : Fin 2) (e : Fin 64) : (val_main_v148 (F := Ideal) x sc sh g w kn (ix4 b t h e) : EReal)
    = normed (fun n => proj x sc sh g w b t (1536 + n)) (fun d => kn (ix1 d)) (h * 64 + e) := by
  have e1 := columns x sc sh g w b t
  have e0 : ∀ (h : Fin 2) (e : Fin 64), (val_main_v135 (F := Ideal) x sc sh g w (ix4 b t h e) : EReal) = proj x sc sh g w b t (1536 + (h * 64 + e)) := by
    intro h e
    unfold val_main_v135 val_main_v30
    generalize val_main_v26 (F := Ideal) x sc sh g w = y at e1
    pointwise
    rw [e1]
  unfold val_main_v148 val_main_v147 val_main_v146 val_main_v145 val_main_v144 val_main_v143 val_main_v142 val_main_v141 val_main_v140 val_main_v139 val_main_v138 val_main_v137 val_main_v136 val_main_cst_11 val_main_cst_12 val_main_cst_13
  generalize val_main_v135 (F := Ideal) x sc sh g w = y at e0
  pointwise
  simp only [e0]
  unfold normed
  have h1 : (h.val * 64 + e.val) / 64 = h.val := by omega
  have h2 : (⟨(h.val * 64 + e.val) % 64, by omega⟩ : Fin 64) = e := Fin.ext (by simp only; omega)
  rw [h1, h2]

end Cert.InRefIdeal.Attn
end
-- ==== Proof.InRefTurn.lean ====
/-
  The reference of the input projection: the turns of its queries and keys, and its seven results, at one entry.
-/
module

public import proofs.«01_k».proof.Proof.InRef

@[expose] public section

set_option maxRecDepth 16384

noncomputable section

namespace Cert.InRefIdeal.Attn

open Cert.InRefIdeal Cert.InRefIdeal.Gen Cert.InRefIdeal.Read Cert.Attn Cert.InMath Idealize.ShloMosaic Idealize.ShloMosaic.TcCoe Idealize.SL.Sem

variable (x : FVec Ideal S8x4096x1024 .f32) (sc sh : FVec Ideal S8x1x1024 .f32) (g : FVec Ideal S1024 .f32) (w : FVec Ideal S1024x2304 .f32)
  (qn kn : FVec Ideal S64 .f32)

/-- The queries in heads of 64, turned. -/
theorem turned₁ (b : Fin 8) (t : Fin 4096) (h : Fin 8) (e : Fin 64) : (val_main_v132 (F := Ideal) x sc sh g w qn (ix4 b t h e) : EReal)
    = turned 1098907648#32 16 t (normed (fun n => proj x sc sh g w b t (768 + n)) (fun d => qn (ix1 d))) (h * 64 + e) := by
  have e0 := normed₁ x sc sh g w qn b t
  generalize hv : (normed (fun n => proj x sc sh g w b t (768 + n)) (fun d => qn (ix1 d))) = v at e0 ⊢
  have p0 : ∀ f : Fin 16, (val_main_v110 (F := Ideal) x sc sh g w qn (ix4 b t h f) : EReal) = turned 1098907648#32 16 t v (h * 64 + (0 + f)) := by
    intro f
    have ec := cosRow₁ t f
    have es := sinRow₁ t f
    unfold val_main_v110 val_main_v109 val_main_v108 val_main_v107 val_main_v106 val_main_v105 val_main_v104 val_main_v100 val_main_v101
    generalize val_main_v99 (F := Ideal) x sc sh g w qn = y at e0
    generalize val_main_v53 (F := Ideal) = yc at ec
    generalize val_main_v55 (F := Ideal) = ys at es
    pointwise
    rw [e0, e0, ec, es]
    exact turned_first (by omega) (by first | omega | (simp only; done) | (simp only; omega)) (by first | omega | (simp only; done) | (simp only; omega)) (turn_row _ (by omega) (by omega))
  have p1 : ∀ f : Fin 16, (val_main_v117 (F := Ideal) x sc sh g w qn (ix4 b t h f) : EReal) = turned 1098907648#32 16 t v (h * 64 + (16 + f)) := by
    intro f
    have ec := cosRow₁ t f
    have es := sinRow₁ t f
    unfold val_main_v117 val_main_v116 val_main_v115 val_main_v114 val_main_v113 val_main_v112 val_main_v111 val_main_v100 val_main_v101
    generalize val_main_v99 (F := Ideal) x sc sh g w qn = y at e0
    generalize val_main_v53 (F := Ideal) = yc at ec
    generalize val_main_v55 (F := Ideal) = ys at es
    pointwise
    rw [e0, e0, ec, es]
    exact turned_second (by omega) (by first | omega | (simp only; done) | (simp only; omega)) (by first | omega | (simp only; done) | (simp only; omega)) (turn_row _ (by omega) (by omega))
  have p2 : ∀ f : Fin 16, (val_main_v124 (F := Ideal) x sc sh g w qn (ix4 b t h f) : EReal) = turned 1098907648#32 16 t v (h * 64 + (32 + f)) := by
    intro f
    have ec := cosCol₁ t f
    have es := sinCol₁ t f
    unfold val_main_v124 val_main_v123 val_main_v122 val_main_v121 val_main_v120 val_main_v119 val_main_v118 val_main_v102 val_main_v103
    generalize val_main_v99 (F := Ideal) x sc sh g w qn = y at e0
    generalize val_main_v57 (F := Ideal) = yc at ec
    generalize val_main_v59 (F := Ideal) = ys at es
    pointwise
    rw [e0, e0, ec, es]
    exact turned_first (by omega) (by first | omega | (simp only; done) | (simp only; omega)) (by first | omega | (simp only; done) | (simp only; omega)) (turn_col _ (by omega) (by omega))
  have p3 : ∀ f : Fin 16, (val_main_v131 (F := Ideal) x sc sh g w qn (ix4 b t h f) : EReal) = turned 1098907648#32 16 t v (h * 64 + (48 + f)) := by
    intro f
    have ec := cosCol₁ t f
    have es := sinCol₁ t f
    unfold val_main_v131 val_main_v130 val_main_v129 val_main_v128 val_main_v127 val_main_v126 val_main_v125 val_main_v102 val_main_v103
    generalize val_main_v99 (F := Ideal) x sc sh g w qn = y at e0
    generalize val_main_v57 (F := Ideal) = yc at ec
    generalize val_main_v59 (F := Ideal) = ys at es
    pointwise
    rw [e0, e0, ec, es]
    exact turned_second (by omega) (by first | omega | (simp only; done) | (simp only; omega)) (by first | omega | (simp only; done) | (simp only; omega)) (turn_col _ (by omega) (by omega))
  unfold val_main_v132
  generalize val_main_v110 (F := Ideal) x sc sh g w qn = q0 at p0
  generalize val_main_v117 (F := Ideal) x sc sh g w qn = q1 at p1
  generalize val_main_v124 (F := Ideal) x sc sh g w qn = q2 at p2
  generalize val_main_v131 (F := Ideal) x sc sh g w qn = q3 at p3
  pointwise
  split_ifs <;> pointwise
  all_goals first
    | exact (p0 _).trans (congrArg (turned 1098907648#32 16 t v) (by first | omega | (simp only; omega)))
    | exact (p1 _).trans (congrArg (turned 1098907648#32 16 t v) (by first | omega | (simp only; omega)))
    | exact (p2 _).trans (congrArg (turned 1098907648#32 16 t v) (by first | omega | (simp only; omega)))
    | exact (p3 _).trans (congrArg (turned 1098907648#32 16 t v) (by first | omega | (simp only; omega)))

/-- The keys in heads of 64, turned. -/
theorem turned₂ (b : Fin 8) (t : Fin 4096) (h : Fin 2) (e : Fin 64) : (val_main_v181 (F := Ideal) x sc sh g w kn (ix4 b t h e) : EReal)
    = turned 1098907648#32 16 t (normed (fun n => proj x sc sh g w b t (1536 + n)) (fun d => kn (ix1 d))) (h * 64 + e) := by
  have e0 := normed₂ x sc sh g w kn b t
  generalize hv : (normed (fun n => proj x sc sh g w b t (1536 + n)) (fun d => kn (ix1 d))) = v at e0 ⊢
  have p0 : ∀ f : Fin 16, (val_main_v159 (F := Ideal) x sc sh g w kn (ix4 b t h f) : EReal) = turned 1098907648#32 16 t v (h * 64 + (0 + f)) := by
    intro f
    have ec := cosRow₁ t f
    have es := sinRow₁ t f
    unfold val_main_v159 val_main_v158 val_main_v157 val_main_v156 val_main_v155 val_main_v154 val_main_v153 val_main_v149 val_main_v150
    generalize val_main_v148 (F := Ideal) x sc sh g w kn = y at e0
    generalize val_main_v53 (F := Ideal) = yc at ec
    generalize val_main_v55 (F := Ideal) = ys at es
    pointwise
    rw [e0, e0, ec, es]
    exact turned_first (by omega) (by first | omega | (simp only; done) | (simp only; omega)) (by first | omega | (simp only; done) | (simp only; omega)) (turn_row _ (by omega) (by omega))
  have p1 : ∀ f : Fin 16, (val_main_v166 (F := Ideal) x sc sh g w kn (ix4 b t h f) : EReal) = turned 1098907648#32 16 t v (h * 64 + (16 + f)) := by
    intro f
    have ec := cosRow₁ t f
    have es := sinRow₁ t f
    unfold val_main_v166 val_main_v165 val_main_v164 val_main_v163 val_main_v162 val_main_v161 val_main_v160 val_main_v149 val_main_v150
    generalize val_main_v148 (F := Ideal) x sc sh g w kn = y at e0
    generalize val_main_v53 (F := Ideal) = yc at ec
    generalize val_main_v55 (F := Ideal) = ys at es
    pointwise
    rw [e0, e0, ec, es]
    exact turned_second (by omega) (by first | omega | (simp only; done) | (simp only; omega)) (by first | omega | (simp only; done) | (simp only; omega)) (turn_row _ (by omega) (by omega))
  have p2 : ∀ f : Fin 16, (val_main_v173 (F := Ideal) x sc sh g w kn (ix4 b t h f) : EReal) = turned 1098907648#32 16 t v (h * 64 + (32 + f)) := by
    intro f
    have ec := cosCol₁ t f
    have es := sinCol₁ t f
    unfold val_main_v173 val_main_v172 val_main_v171 val_main_v170 val_main_v169 val_main_v168 val_main_v167 val_main_v151 val_main_v152
    generalize val_main_v148 (F := Ideal) x sc sh g w kn = y at e0
    generalize val_main_v57 (F := Ideal) = yc at ec
    generalize val_main_v59 (F := Ideal) = ys at es
    pointwise
    rw [e0, e0, ec, es]
    exact turned_first (by omega) (by first | omega | (simp only; done) | (simp only; omega)) (by first | omega | (simp only; done) | (simp only; omega)) (turn_col _ (by omega) (by omega))
  have p3 : ∀ f : Fin 16, (val_main_v180 (F := Ideal) x sc sh g w kn (ix4 b t h f) : EReal) = turned 1098907648#32 16 t v (h * 64 + (48 + f)) := by
    intro f
    have ec := cosCol₁ t f
    have es := sinCol₁ t f
    unfold val_main_v180 val_main_v179 val_main_v178 val_main_v177 val_main_v176 val_main_v175 val_main_v174 val_main_v151 val_main_v152
    generalize val_main_v148 (F := Ideal) x sc sh g w kn = y at e0
    generalize val_main_v57 (F := Ideal) = yc at ec
    generalize val_main_v59 (F := Ideal) = ys at es
    pointwise
    rw [e0, e0, ec, es]
    exact turned_second (by omega) (by first | omega | (simp only; done) | (simp only; omega)) (by first | omega | (simp only; done) | (simp only; omega)) (turn_col _ (by omega) (by omega))
  unfold val_main_v181
  generalize val_main_v159 (F := Ideal) x sc sh g w kn = q0 at p0
  generalize val_main_v166 (F := Ideal) x sc sh g w kn = q1 at p1
  generalize val_main_v173 (F := Ideal) x sc sh g w kn = q2 at p2
  generalize val_main_v180 (F := Ideal) x sc sh g w kn = q3 at p3
  pointwise
  split_ifs <;> pointwise
  all_goals first
    | exact (p0 _).trans (congrArg (turned 1098907648#32 16 t v) (by first | omega | (simp only; omega)))
    | exact (p1 _).trans (congrArg (turned 1098907648#32 16 t v) (by first | omega | (simp only; omega)))
    | exact (p2 _).trans (congrArg (turned 1098907648#32 16 t v) (by first | omega | (simp only; omega)))
    | exact (p3 _).trans (congrArg (turned 1098907648#32 16 t v) (by first | omega | (simp only; omega)))

/-- The queries in heads of 32, turned. -/
theorem turned₃ (b : Fin 8) (t : Fin 4096) (h : Fin 8) (e : Fin 32) : (val_main_v215 (F := Ideal) x sc sh g w (ix4 b t h e) : EReal)
    = turned 1090519040#32 8 t (fun n => proj x sc sh g w b t (1280 + n)) (h * 32 + e) := by
  have e0 : ∀ (h : Fin 8) (e : Fin 32), (val_main_v182 (F := Ideal) x sc sh g w (ix4 b t h e) : EReal) = (fun n => proj x sc sh g w b t (1280 + n)) (h * 32 + e) := by
    have e1 := columns x sc sh g w b t
    intro h e
    unfold val_main_v182 val_main_v29
    generalize val_main_v26 (F := Ideal) x sc sh g w = y at e1
    pointwise
    rw [e1]
  generalize hv : (fun n => proj x sc sh g w b t (1280 + n)) = v at e0 ⊢
  have p0 : ∀ f : Fin 8, (val_main_v193 (F := Ideal) x sc sh g w (ix4 b t h f) : EReal) = turned 1090519040#32 8 t v (h * 32 + (0 + f)) := by
    intro f
    have ec := cosRow₂ t f
    have es := sinRow₂ t f
    unfold val_main_v193 val_main_v192 val_main_v191 val_main_v190 val_main_v189 val_main_v188 val_main_v187 val_main_v183 val_main_v184
    generalize val_main_v182 (F := Ideal) x sc sh g w = y at e0
    generalize val_main_v79 (F := Ideal) = yc at ec
    generalize val_main_v81 (F := Ideal) = ys at es
    pointwise
    rw [e0, e0, ec, es]
    exact turned_first (by omega) (by first | omega | (simp only; done) | (simp only; omega)) (by first | omega | (simp only; done) | (simp only; omega)) (turn_row _ (by omega) (by omega))
  have p1 : ∀ f : Fin 8, (val_main_v200 (F := Ideal) x sc sh g w (ix4 b t h f) : EReal) = turned 1090519040#32 8 t v (h * 32 + (8 + f)) := by
    intro f
    have ec := cosRow₂ t f
    have es := sinRow₂ t f
    unfold val_main_v200 val_main_v199 val_main_v198 val_main_v197 val_main_v196 val_main_v195 val_main_v194 val_main_v183 val_main_v184
    generalize val_main_v182 (F := Ideal) x sc sh g w = y at e0
    generalize val_main_v79 (F := Ideal) = yc at ec
    generalize val_main_v81 (F := Ideal) = ys at es
    pointwise
    rw [e0, e0, ec, es]
    exact turned_second (by omega) (by first | omega | (simp only; done) | (simp only; omega)) (by first | omega | (simp only; done) | (simp only; omega)) (turn_row _ (by omega) (by omega))
  have p2 : ∀ f : Fin 8, (val_main_v207 (F := Ideal) x sc sh g w (ix4 b t h f) : EReal) = turned 1090519040#32 8 t v (h * 32 + (16 + f)) := by
    intro f
    have ec := cosCol₂ t f
    have es := sinCol₂ t f
    unfold val_main_v207 val_main_v206 val_main_v205 val_main_v204 val_main_v203 val_main_v202 val_main_v201 val_main_v185 val_main_v186
    generalize val_main_v182 (F := Ideal) x sc sh g w = y at e0
    generalize val_main_v83 (F := Ideal) = yc at ec
    generalize val_main_v85 (F := Ideal) = ys at es
    pointwise
    rw [e0, e0, ec, es]
    exact turned_first (by omega) (by first | omega | (simp only; done) | (simp only; omega)) (by first | omega | (simp only; done) | (simp only; omega)) (turn_col _ (by omega) (by omega))
  have p3 : ∀ f : Fin 8, (val_main_v214 (F := Ideal) x sc sh g w (ix4 b t h f) : EReal) = turned 1090519040#32 8 t v (h * 32 + (24 + f)) := by
    intro f
    have ec := cosCol₂ t f
    have es := sinCol₂ t f
    unfold val_main_v214 val_main_v213 val_main_v212 val_main_v211 val_main_v210 val_main_v209 val_main_v208 val_main_v185 val_main_v186
    generalize val_main_v182 (F := Ideal) x sc sh g w = y at e0
    generalize val_main_v83 (F := Ideal) = yc at ec
    generalize val_main_v85 (F := Ideal) = ys at es
    pointwise
    rw [e0, e0, ec, es]
    exact turned_second (by omega) (by first | omega | (simp only; done) | (simp only; omega)) (by first | omega | (simp only; done) | (simp only; omega)) (turn_col _ (by omega) (by omega))
  unfold val_main_v215
  generalize val_main_v193 (F := Ideal) x sc sh g w = q0 at p0
  generalize val_main_v200 (F := Ideal) x sc sh g w = q1 at p1
  generalize val_main_v207 (F := Ideal) x sc sh g w = q2 at p2
  generalize val_main_v214 (F := Ideal) x sc sh g w = q3 at p3
  pointwise
  split_ifs <;> pointwise
  all_goals first
    | exact (p0 _).trans (congrArg (turned 1090519040#32 8 t v) (by first | omega | (simp only; omega)))
    | exact (p1 _).trans (congrArg (turned 1090519040#32 8 t v) (by first | omega | (simp only; omega)))
    | exact (p2 _).trans (congrArg (turned 1090519040#32 8 t v) (by first | omega | (simp only; omega)))
    | exact (p3 _).trans (congrArg (turned 1090519040#32 8 t v) (by first | omega | (simp only; omega)))

/-- The keys in heads of 32, turned. -/
theorem turned₄ (b : Fin 8) (t : Fin 4096) (h : Fin 8) (e : Fin 32) : (val_main_v251 (F := Ideal) x sc sh g w (ix4 b t h e) : EReal)
    = turned 1090519040#32 8 t (fun n => proj x sc sh g w b t (1792 + n)) (h * 32 + e) := by
  have e0 : ∀ (h : Fin 8) (e : Fin 32), (val_main_v218 (F := Ideal) x sc sh g w (ix4 b t h e) : EReal) = (fun n => proj x sc sh g w b t (1792 + n)) (h * 32 + e) := by
    have e1 := columns x sc sh g w b t
    intro h e
    unfold val_main_v218 val_main_v32
    generalize val_main_v26 (F := Ideal) x sc sh g w = y at e1
    pointwise
    rw [e1]
  generalize hv : (fun n => proj x sc sh g w b t (1792 + n)) = v at e0 ⊢
  have p0 : ∀ f : Fin 8, (val_main_v229 (F := Ideal) x sc sh g w (ix4 b t h f) : EReal) = turned 1090519040#32 8 t v (h * 32 + (0 + f)) := by
    intro f
    have ec := cosRow₂ t f
    have es := sinRow₂ t f
    unfold val_main_v229 val_main_v228 val_main_v227 val_main_v226 val_main_v225 val_main_v224 val_main_v223 val_main_v219 val_main_v220
    generalize val_main_v218 (F := Ideal) x sc sh g w = y at e0
    generalize val_main_v79 (F := Ideal) = yc at ec
    generalize val_main_v81 (F := Ideal) = ys at es
    pointwise
    rw [e0, e0, ec, es]
    exact turned_first (by omega) (by first | omega | (simp only; done) | (simp only; omega)) (by first | omega | (simp only; done) | (simp only; omega)) (turn_row _ (by omega) (by omega))
  have p1 : ∀ f : Fin 8, (val_main_v236 (F := Ideal) x sc sh g w (ix4 b t h f) : EReal) = turned 1090519040#32 8 t v (h * 32 + (8 + f)) := by
    intro f
    have ec := cosRow₂ t f
    have es := sinRow₂ t f
    unfold val_main_v236 val_main_v235 val_main_v234 val_main_v233 val_main_v232 val_main_v231 val_main_v230 val_main_v219 val_main_v220
    generalize val_main_v218 (F := Ideal) x sc sh g w = y at e0
    generalize val_main_v79 (F := Ideal) = yc at ec
    generalize val_main_v81 (F := Ideal) = ys at es
    pointwise
    rw [e0, e0, ec, es]
    exact turned_second (by omega) (by first | omega | (simp only; done) | (simp only; omega)) (by first | omega | (simp only; done) | (simp only; omega)) (turn_row _ (by omega) (by omega))
  have p2 : ∀ f : Fin 8, (val_main_v243 (F := Ideal) x sc sh g w (ix4 b t h f) : EReal) = turned 1090519040#32 8 t v (h * 32 + (16 + f)) := by
    intro f
    have ec := cosCol₂ t f
    have es := sinCol₂ t f
    unfold val_main_v243 val_main_v242 val_main_v241 val_main_v240 val_main_v239 val_main_v238 val_main_v237 val_main_v221 val_main_v222
    generalize val_main_v218 (F := Ideal) x sc sh g w = y at e0
    generalize val_main_v83 (F := Ideal) = yc at ec
    generalize val_main_v85 (F := Ideal) = ys at es
    pointwise
    rw [e0, e0, ec, es]
    exact turned_first (by omega) (by first | omega | (simp only; done) | (simp only; omega)) (by first | omega | (simp only; done) | (simp only; omega)) (turn_col _ (by omega) (by omega))
  have p3 : ∀ f : Fin 8, (val_main_v250 (F := Ideal) x sc sh g w (ix4 b t h f) : EReal) = turned 1090519040#32 8 t v (h * 32 + (24 + f)) := by
    intro f
    have ec := cosCol₂ t f
    have es := sinCol₂ t f
    unfold val_main_v250 val_main_v249 val_main_v248 val_main_v247 val_main_v246 val_main_v245 val_main_v244 val_main_v221 val_main_v222
    generalize val_main_v218 (F := Ideal) x sc sh g w = y at e0
    generalize val_main_v83 (F := Ideal) = yc at ec
    generalize val_main_v85 (F := Ideal) = ys at es
    pointwise
    rw [e0, e0, ec, es]
    exact turned_second (by omega) (by first | omega | (simp only; done) | (simp only; omega)) (by first | omega | (simp only; done) | (simp only; omega)) (turn_col _ (by omega) (by omega))
  unfold val_main_v251
  generalize val_main_v229 (F := Ideal) x sc sh g w = q0 at p0
  generalize val_main_v236 (F := Ideal) x sc sh g w = q1 at p1
  generalize val_main_v243 (F := Ideal) x sc sh g w = q2 at p2
  generalize val_main_v250 (F := Ideal) x sc sh g w = q3 at p3
  pointwise
  split_ifs <;> pointwise
  all_goals first
    | exact (p0 _).trans (congrArg (turned 1090519040#32 8 t v) (by first | omega | (simp only; omega)))
    | exact (p1 _).trans (congrArg (turned 1090519040#32 8 t v) (by first | omega | (simp only; omega)))
    | exact (p2 _).trans (congrArg (turned 1090519040#32 8 t v) (by first | omega | (simp only; omega)))
    | exact (p3 _).trans (congrArg (turned 1090519040#32 8 t v) (by first | omega | (simp only; omega)))

/-- The queries in heads of 64. -/
theorem queries₁ (b : Fin 8) (t : Fin 4096) (l : Fin 512) : (val_main_v253 (F := Ideal) x sc sh g w qn (ix3 b t l) : EReal)
    = turned 1098907648#32 16 t (normed (fun n => proj x sc sh g w b t (768 + n)) (fun d => qn (ix1 d))) l * Ideal.ofBits FTy.f32 1040187392#32 := by
  have e := turned₁ x sc sh g w qn b t
  unfold val_main_v253 val_main_v252 val_main_v134 val_main_v133 val_main_cst_10
  generalize val_main_v132 (F := Ideal) x sc sh g w qn = y at e
  pointwise
  rw [e]
  rw [show l.val / 64 * 64 + l.val % 64 = l.val by omega]

/-- The queries in heads of 32. -/
theorem queries₂ (b : Fin 8) (t : Fin 4096) (l : Fin 256) : (val_main_v255 (F := Ideal) x sc sh g w (ix3 b t l) : EReal)
    = turned 1090519040#32 8 t (fun n => proj x sc sh g w b t (1280 + n)) l * Ideal.ofBits FTy.f32 1043662067#32 := by
  have e := turned₃ x sc sh g w b t
  unfold val_main_v255 val_main_v254 val_main_v217 val_main_v216 val_main_cst_14
  generalize val_main_v215 (F := Ideal) x sc sh g w = y at e
  pointwise
  rw [e]
  rw [show l.val / 32 * 32 + l.val % 32 = l.val by omega]

/-- The keys in heads of 64. -/
theorem keys₁ (b : Fin 8) (t : Fin 4096) (l : Fin 128) : (val_main_v257 (F := Ideal) x sc sh g w kn (ix3 b t l) : EReal)
    = turned 1098907648#32 16 t (normed (fun n => proj x sc sh g w b t (1536 + n)) (fun d => kn (ix1 d))) l := by
  have e := turned₂ x sc sh g w kn b t
  unfold val_main_v257 val_main_v256
  generalize val_main_v181 (F := Ideal) x sc sh g w kn = y at e
  pointwise
  rw [e]
  rw [show l.val / 64 * 64 + l.val % 64 = l.val by omega]

/-- The keys in heads of 32. -/
theorem keys₂ (b : Fin 8) (t : Fin 4096) (l : Fin 256) : (val_main_v260 (F := Ideal) x sc sh g w (ix3 b t l) : EReal)
    = turned 1090519040#32 8 t (fun n => proj x sc sh g w b t (1792 + n)) l := by
  have e := turned₄ x sc sh g w b t
  unfold val_main_v260 val_main_v259
  generalize val_main_v251 (F := Ideal) x sc sh g w = y at e
  pointwise
  rw [e]
  rw [show l.val / 32 * 32 + l.val % 32 = l.val by omega]

end Cert.InRefIdeal.Attn
end
-- ==== Proof.InClaims.lean ====
/-
  What is claimed of the input projection's kernel and of its reference: both run and leave their arguments as they were, and,
  from a modulation, a gain and weights with no infinite entry and from the pattern of heads, the kernel's seven results are the reference's.
-/
module

public import proofs.«01_k».proof.Defs
public import proofs.«01_k».proof.Proof.Gen.In.Frame
public import proofs.«01_k».proof.Proof.Gen.InIdeal.Frame
public import proofs.«01_k».proof.Proof.Gen.Pre_finite_columns
public import proofs.«01_k».proof.Proof.DiffClaims
public import proofs.«01_k».proof.Proof.InHeads
public import proofs.«01_k».proof.Proof.InValue
public import proofs.«01_k».proof.Proof.InRefTurn
public import Idealize.ShloMosaic.Lib.Quiescent

@[expose] public section

set_option maxRecDepth 16384

noncomputable section

namespace Cert.In

open Idealize.ShloMosaic Idealize.ShloMosaic.TcCoe Idealize.SL.Sem Cert.Attn

/-- The projection's kernel, at the machine's floats, runs, leaves its arguments and ends with every semaphore at zero. -/
theorem frame_kernel : Cert.quiescent_In (hIn := Cert.In.Gen.facts) := fun m ρ _ => Cert.In.Gen.frame m ρ

/-- The same over the extended reals. -/
theorem frame_ideal : Cert.quiescent_InIdeal (hInIdeal := Cert.InIdeal.Gen.facts) := fun m ρ _ => Cert.InIdeal.Gen.frame m ρ

/-- The reference runs, leaves its arguments and ends with every semaphore at zero. -/
theorem frame_reference : Cert.quiescent_InRefIdeal (hInRefIdeal := Cert.InRefIdeal.Gen.facts) := fun m ρ _ =>
  (θ_run _ _ _).mono (fun r h => ⟨fun c => (h c).2.2.2.2.2.2.2, sem_eq_zero_of_no_sems (by decide) r.2⟩) (Cert.InRefIdeal.Value.run m ρ)

/-- From arguments that agree, the seven arrays the kernel leaves are the arrays the reference leaves. -/
theorem arrays_eq (m : (ℓ : Loc Cert.InIdeal.nD Cert.InIdeal.τ Cert.InIdeal.sig) → Buf (Elt Ideal) ℓ)
    (x : FVec Ideal Cert.InRefIdeal.S8x4096x1024 .f32) (sc sh : FVec Ideal Cert.InRefIdeal.S8x1x1024 .f32) (g : FVec Ideal Cert.InRefIdeal.S1024 .f32)
    (w : FVec Ideal Cert.InRefIdeal.S1024x2304 .f32) (qn kn : FVec Ideal Cert.InRefIdeal.S64 .f32) (c : Dev Cert.InIdeal.nD)
    (h0 : x = m ((c.tc : Thread Cert.InIdeal.nD Cert.InIdeal.τ).loc Cert.InIdeal.main_arg0))
    (h1 : sc = m ((c.tc : Thread Cert.InIdeal.nD Cert.InIdeal.τ).loc Cert.InIdeal.main_arg1))
    (h2 : sh = m ((c.tc : Thread Cert.InIdeal.nD Cert.InIdeal.τ).loc Cert.InIdeal.main_arg2))
    (h3 : g = m ((c.tc : Thread Cert.InIdeal.nD Cert.InIdeal.τ).loc Cert.InIdeal.main_arg3))
    (h4 : w = m ((c.tc : Thread Cert.InIdeal.nD Cert.InIdeal.τ).loc Cert.InIdeal.main_arg4))
    (h5 : qn = m ((c.tc : Thread Cert.InIdeal.nD Cert.InIdeal.τ).loc Cert.InIdeal.main_arg5))
    (h6 : kn = m ((c.tc : Thread Cert.InIdeal.nD Cert.InIdeal.τ).loc Cert.InIdeal.main_arg6))
    (hf : Cert.InIdeal.Attn.Finite m c) :
    Cert.InRefIdeal.Read.val_main_v27 x sc sh g w = (Cert.InIdeal.Gen.dats m 0 c).arrAt 12 Cert.InIdeal.cfg0.N
      ∧ Cert.InRefIdeal.Read.val_main_v253 x sc sh g w qn = (Cert.InIdeal.Gen.dats m 0 c).arrAt 13 Cert.InIdeal.cfg0.N
      ∧ Cert.InRefIdeal.Read.val_main_v255 x sc sh g w = (Cert.InIdeal.Gen.dats m 0 c).arrAt 14 Cert.InIdeal.cfg0.N
      ∧ Cert.InRefIdeal.Read.val_main_v257 x sc sh g w kn = (Cert.InIdeal.Gen.dats m 0 c).arrAt 15 Cert.InIdeal.cfg0.N
      ∧ Cert.InRefIdeal.Read.val_main_v258 x sc sh g w = (Cert.InIdeal.Gen.dats m 0 c).arrAt 16 Cert.InIdeal.cfg0.N
      ∧ Cert.InRefIdeal.Read.val_main_v260 x sc sh g w = (Cert.InIdeal.Gen.dats m 0 c).arrAt 17 Cert.InIdeal.cfg0.N
      ∧ Cert.InRefIdeal.Read.val_main_v261 x sc sh g w = (Cert.InIdeal.Gen.dats m 0 c).arrAt 18 Cert.InIdeal.cfg0.N := by
  subst h0 h1 h2 h3 h4 h5 h6
  refine ⟨?_, ?_, ?_, ?_, ?_, ?_, ?_⟩
  · rw [Cert.InIdeal.Attn.value12 m c]
    funext i
    rw [eq_ix3 i]
    exact Cert.InRefIdeal.Attn.hyena _ _ _ _ _ (i 0) (i 1) (i 2)
  · rw [Cert.InIdeal.Attn.value13 m c hf]
    funext i
    rw [eq_ix3 i]
    exact Cert.InRefIdeal.Attn.queries₁ _ _ _ _ _ _ (i 0) (i 1) (i 2)
  · rw [Cert.InIdeal.Attn.value14 m c]
    funext i
    rw [eq_ix3 i]
    exact Cert.InRefIdeal.Attn.queries₂ _ _ _ _ _ (i 0) (i 1) (i 2)
  · rw [Cert.InIdeal.Attn.value15 m c hf]
    funext i
    rw [eq_ix3 i]
    exact Cert.InRefIdeal.Attn.keys₁ _ _ _ _ _ _ (i 0) (i 1) (i 2)
  · rw [Cert.InIdeal.Attn.value16 m c]
    funext i
    rw [eq_ix3 i]
    exact Cert.InRefIdeal.Attn.values₁ _ _ _ _ _ (i 0) (i 1) (i 2)
  · rw [Cert.InIdeal.Attn.value17 m c]
    funext i
    rw [eq_ix3 i]
    exact Cert.InRefIdeal.Attn.keys₂ _ _ _ _ _ (i 0) (i 1) (i 2)
  · rw [Cert.InIdeal.Attn.value18 m c]
    funext i
    rw [eq_ix3 i]
    exact Cert.InRefIdeal.Attn.values₂ _ _ _ _ _ (i 0) (i 1) (i 2)

/-- What the precondition says of the arguments. -/
theorem finite_of_pre {m : (ℓ : Loc Cert.InIdeal.nD Cert.InIdeal.τ Cert.InIdeal.sig) → Buf (Elt Ideal) ℓ}
    (h : Cert.Pre_InIdeal_finite_columns (hPre_finite_columns := Cert.Pre_finite_columns.Gen.facts) m) (c : Dev Cert.InIdeal.nD) :
    Cert.InIdeal.Attn.Finite m c := by
  obtain ⟨h0, h1, h2, h3, h4⟩ := h c
  exact ⟨Cert.Diff.real_of_pre h0, Cert.Diff.real_of_pre h1, Cert.Diff.real_of_pre h2, Cert.Diff.real_of_pre h3, heads_of_pre h4⟩

/-- Kernel and reference, from arguments that agree, whose modulation, gain and weights are finite and whose pattern is that of heads, end with the same seven results. -/
theorem algebraic : Cert.algebraic_InIdeal_InRefIdeal_pre_finite_columns (hInIdeal := Cert.InIdeal.Gen.facts)
    (hInRefIdeal := Cert.InRefIdeal.Gen.facts) (hPre_finite_columns := Cert.Pre_finite_columns.Gen.facts) := by
  intro m ρ m' ρ' hpre hagree
  refine ⟨fun c => (Cert.InIdeal.Gen.dats m 0 c).arrAt 12 Cert.InIdeal.cfg0.N, fun c => (Cert.InIdeal.Gen.dats m 0 c).arrAt 13 Cert.InIdeal.cfg0.N, fun c => (Cert.InIdeal.Gen.dats m 0 c).arrAt 14 Cert.InIdeal.cfg0.N, fun c => (Cert.InIdeal.Gen.dats m 0 c).arrAt 15 Cert.InIdeal.cfg0.N, fun c => (Cert.InIdeal.Gen.dats m 0 c).arrAt 16 Cert.InIdeal.cfg0.N, fun c => (Cert.InIdeal.Gen.dats m 0 c).arrAt 17 Cert.InIdeal.cfg0.N, fun c => (Cert.InIdeal.Gen.dats m 0 c).arrAt 18 Cert.InIdeal.cfg0.N,
    Cert.InIdeal.Value.run_blocks m ρ, ?_⟩
  refine (θ_run _ _ _).mono (fun r h c => ?_) (Cert.InRefIdeal.Value.run m' ρ')
  obtain ⟨h0, h1, h2, h3, h4, h5, h6, _⟩ := hagree c
  obtain ⟨a0, a1, a2, a3, a4, a5, a6⟩ := arrays_eq m _ _ _ _ _ _ _ c h0 h1 h2 h3 h4 h5 h6 (finite_of_pre hpre c)
  exact ⟨(h c).1.trans ((Cert.InRefIdeal.Read.val_main_v27_eq _).trans a0),
    (h c).2.1.trans ((Cert.InRefIdeal.Read.val_main_v253_eq _).trans a1),
    (h c).2.2.1.trans ((Cert.InRefIdeal.Read.val_main_v255_eq _).trans a2),
    (h c).2.2.2.1.trans ((Cert.InRefIdeal.Read.val_main_v257_eq _).trans a3),
    (h c).2.2.2.2.1.trans ((Cert.InRefIdeal.Read.val_main_v258_eq _).trans a4),
    (h c).2.2.2.2.2.1.trans ((Cert.InRefIdeal.Read.val_main_v260_eq _).trans a5),
    (h c).2.2.2.2.2.2.1.trans ((Cert.InRefIdeal.Read.val_main_v261_eq _).trans a6),
    (h c).2.2.2.2.2.2.2⟩

end Cert.In
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.GqaIdeal.Value
public import proofs.«01_k».proof.Proof.Gen.GqaRefIdeal.Run
public import proofs.«01_k».proof.Proof.Gen.GqaRefIdeal.Read
public import proofs.«01_k».proof.Proof.Gen.Diff
public import proofs.«01_k».proof.Proof.Gen.Diff.Skeleton
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffRefIdeal
public import proofs.«01_k».proof.Proof.Gen.DiffIdeal.Value
public import proofs.«01_k».proof.Proof.Gen.DiffRefIdeal.Run
public import proofs.«01_k».proof.Proof.Gen.DiffRefIdeal.Read
public import proofs.«01_k».proof.Proof.Gen.Pre_finite_scores
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InIdeal.Value
public import proofs.«01_k».proof.Proof.Gen.InRefIdeal.Run
public import proofs.«01_k».proof.Proof.Gen.InRefIdeal.Read
public import proofs.«01_k».proof.Proof.Gen.Pre_finite_columns
public import proofs.«01_k».proof.Proof.Gen.Pre_finite_maps
public import proofs.«01_k».proof.Proof.MoeClaims
public import proofs.«01_k».proof.Proof.GqaClaims
public import proofs.«01_k».proof.Proof.DiffClaims
public import proofs.«01_k».proof.Proof.InClaims
public import Idealize.ShloMosaic.Adequacy
public import Idealize.ShloMosaic.Init

@[expose] public section

noncomputable section

-- The frames also say that every semaphore counter ends at zero.

namespace Cert.Proof

open Idealize.ShloMosaic Idealize.SL.Sem Cert.Kernel

theorem claim : Cert.Claim := ⟨Cert.Kernel.Gen.facts, Cert.KernelIdeal.Gen.facts, Cert.ReferenceIdeal.Gen.facts, Cert.Gqa.Gen.facts,
  Cert.GqaIdeal.Gen.facts, Cert.GqaRefIdeal.Gen.facts, Cert.Diff.Gen.facts, Cert.DiffIdeal.Gen.facts, Cert.DiffRefIdeal.Gen.facts,
  Cert.In.Gen.facts, Cert.InIdeal.Gen.facts, Cert.InRefIdeal.Gen.facts,
  Cert.Pre_finite_scores.Gen.facts, Cert.Pre_finite_maps.Gen.facts, Cert.Pre_finite_columns.Gen.facts,
  Cert.Moe.frame_kernel, Cert.Moe.frame_ideal, Cert.Moe.frame_reference,
  Cert.Gqa.frame_kernel, Cert.Gqa.frame_ideal, fun m ρ _ => Cert.Gqa.frame_ideal m ρ trivial,
  Cert.Gqa.frame_reference, fun m ρ _ => Cert.Gqa.frame_reference m ρ trivial,
  Cert.Diff.frame_kernel, Cert.Diff.frame_ideal, fun m ρ _ => Cert.Diff.frame_ideal m ρ trivial,
  Cert.Diff.frame_reference, fun m ρ _ => Cert.Diff.frame_reference m ρ trivial,
  Cert.In.frame_kernel, Cert.In.frame_ideal, fun m ρ _ => Cert.In.frame_ideal m ρ trivial,
  Cert.In.frame_reference, fun m ρ _ => Cert.In.frame_reference m ρ trivial,
  trivial, Cert.Moe.algebraic, trivial, Cert.Gqa.algebraic, trivial, Cert.Diff.algebraic, trivial, Cert.In.algebraic⟩

end Cert.Proof

end
